-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_decaying [hPre_finite_decaying : Cert.Pre_finite_decaying.Facts] (m : (ℓ : Loc Cert.KernelIdeal.nD Cert.KernelIdeal.τ Cert.KernelIdeal.sig) → Buf (Elt Ideal) ℓ) : Prop :=
  ∀ c : Dev Cert.KernelIdeal.nD,
    (Cert.Pre_finite_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_decaying [hPre_finite_decaying : Cert.Pre_finite_decaying.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_decaying [hKernelIdeal : Cert.KernelIdeal.Facts] [hPre_finite_decaying : Cert.Pre_finite_decaying.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_decaying m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_decaying [hReferenceIdeal : Cert.ReferenceIdeal.Facts] [hPre_finite_decaying : Cert.Pre_finite_decaying.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_decaying m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_finite_decaying [hKernelIdeal : Cert.KernelIdeal.Facts] [hReferenceIdeal : Cert.ReferenceIdeal.Facts] [hPre_finite_decaying : Cert.Pre_finite_decaying.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_decaying m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_decaying : Cert.Pre_finite_decaying.Facts),
    quiescent_Kernel (hKernel := hKernel)
    ∧ quiescent_KernelIdeal (hKernelIdeal := hKernelIdeal)
    ∧ quiescent_KernelIdeal_pre_finite_decaying (hKernelIdeal := hKernelIdeal) (hPre_finite_decaying := hPre_finite_decaying)
    ∧ quiescent_ReferenceIdeal (hReferenceIdeal := hReferenceIdeal)
    ∧ quiescent_ReferenceIdeal_pre_finite_decaying (hReferenceIdeal := hReferenceIdeal) (hPre_finite_decaying := hPre_finite_decaying)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_decaying (hKernelIdeal := hKernelIdeal) (hReferenceIdeal := hReferenceIdeal) (hPre_finite_decaying := hPre_finite_decaying)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_decaying.lean ====
abbrev S16384x26624 : Shape := ⟨2, ![16384, 26624]⟩
abbrev S16384x128 : Shape := ⟨2, ![16384, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S16384x64 : Shape := ⟨2, ![16384, 64]⟩
abbrev S256x64x64 : Shape := ⟨3, ![256, 64, 64]⟩
abbrev S256x63x64 : Shape := ⟨3, ![256, 63, 64]⟩
abbrev S_ : Shape := ⟨0, ![]⟩
abbrev S16384x10240 : Shape := ⟨2, ![16384, 10240]⟩

class Facts : Prop where
  slices_S16384x128_S16384x64_0_0 : S16384x128.Slices ![0, 0] S16384x64
  shapeCasts_S16384x64_S256x64x64 : S16384x64.ShapeCasts S256x64x64
  slices_S256x64x64_S256x63x64_0_1_0 : S256x64x64.Slices ![0, 1, 0] S256x63x64
  slices_S256x64x64_S256x63x64_0_0_0 : S256x64x64.Slices ![0, 0, 0] S256x63x64
  reducesTo_S256x63x64_S_d0_1_2 : S256x63x64.ReducesTo [0, 1, 2] S_
  h_S_ : 0 < S_.numel
  slices_S16384x26624_S16384x10240_0_0 : S16384x26624.Slices ![0, 0] S16384x10240
  bcast_S_S16384x10240 : S_.BroadcastsInDim S16384x10240 (![] : Fin 0 → Fin S16384x10240.rank)
  reducesTo_S16384x10240_S_d0_1 : S16384x10240.ReducesTo [0, 1] S_
  bcast_S_S16384x64 : S_.BroadcastsInDim S16384x64 (![] : Fin 0 → Fin S16384x64.rank)
  reducesTo_S16384x64_S_d0_1 : S16384x64.ReducesTo [0, 1] S_
  bcast_S_S4x6144 : S_.BroadcastsInDim S4x6144 (![] : Fin 0 → Fin S4x6144.rank)
  reducesTo_S4x6144_S_d0_1 : S4x6144.ReducesTo [0, 1] S_
  bcast_S_S6144 : S_.BroadcastsInDim S6144 (![] : Fin 0 → Fin S6144.rank)
  reducesTo_S6144_S_d0 : S6144.ReducesTo [0] S_

variable [Facts]

def fn_part1 {F : FTy → Type} [FloatOps F] (main_arg3 : FVec F S4x6144 .f32) (main_arg4 : FVec F S6144 .f32) (main_v5 : IVec S_ 1) (main_v16 : IVec S_ 1) (main_v18 : FVec F S16384x64 .f32) : IVec S_ 1 :=
  let main_cst_3 : FVec F S_ .f32 := constant S_ .f32 0x7F800000#32
  let main_v19 : FVec F S16384x64 .f32 := broadcastInDim S16384x64 ![] bcast_S_S16384x64 main_cst_3
  let main_v20 : IVec S16384x64 1 := cmpf .olt main_v18 main_v19
  let main_c_4 : IVec S_ 1 := constantI S_ 1 1#1
  let main_v21 : IVec S_ 1 := (fun x v => Host.reduce IntOp.andi x v reducesTo_S16384x64_S_d0_1 h_S_) main_v20 main_c_4
  let main_v22 : IVec S_ 1 := andi main_v16 main_v21
  let main_v23 : FVec F S4x6144 .f32 := Host.absf main_arg3
  let main_cst_5 : FVec F S_ .f32 := constant S_ .f32 0x7F800000#32
  let main_v24 : FVec F S4x6144 .f32 := broadcastInDim S4x6144 ![] bcast_S_S4x6144 main_cst_5
  let main_v25 : IVec S4x6144 1 := cmpf .olt main_v23 main_v24
  let main_c_6 : IVec S_ 1 := constantI S_ 1 1#1
  let main_v26 : IVec S_ 1 := (fun x v => Host.reduce IntOp.andi x v reducesTo_S4x6144_S_d0_1 h_S_) main_v25 main_c_6
  let main_v27 : IVec S_ 1 := andi main_v22 main_v26
  let main_v28 : FVec F S6144 .f32 := Host.absf main_arg4
  let main_cst_7 : FVec F S_ .f32 := constant S_ .f32 0x7F800000#32
  let main_v29 : FVec F S6144 .f32 := broadcastInDim S6144 ![] bcast_S_S6144 main_cst_7
  let main_v30 : IVec S6144 1 := cmpf .olt main_v28 main_v29
  let main_c_8 : IVec S_ 1 := constantI S_ 1 1#1
  let main_v31 : IVec S_ 1 := (fun x v => Host.reduce IntOp.andi x v reducesTo_S6144_S_d0 h_S_) main_v30 main_c_8
  let main_v32 : IVec S_ 1 := andi main_v27 main_v31
  let main_v33 : IVec S_ 1 := andi main_v32 main_v5
  main_v33

def fn {F : FTy → Type} [FloatOps F] (main_arg0 : FVec F S16384x26624 .f32) (main_arg1 : FVec F S16384x128 .f32) (main_arg2 : FVec F S16384x128 .f32) (main_arg3 : FVec F S4x6144 .f32) (main_arg4 : FVec F S6144 .f32) (main_arg5 : FVec F S64 .f32) (main_arg6 : FVec F S4096 .f32) : IVec S_ 1 :=
  let main_v0 : FVec F S16384x64 .f32 := (extractStridedSlice S16384x64 ![0, 0] · slices_S16384x128_S16384x64_0_0) main_arg2
  let main_v1 : FVec F S256x64x64 .f32 := shapeCast S256x64x64 main_v0 shapeCasts_S16384x64_S256x64x64
  let main_v2 : FVec F S256x63x64 .f32 := (extractStridedSlice S256x63x64 ![0, 1, 0] · slices_S256x64x64_S256x63x64_0_1_0) main_v1
  let main_v3 : FVec F S256x63x64 .f32 := (extractStridedSlice S256x63x64 ![0, 0, 0] · slices_S256x64x64_S256x63x64_0_0_0) main_v1
  let main_v4 : IVec S256x63x64 1 := cmpf .ole main_v2 main_v3
  let main_c : IVec S_ 1 := constantI S_ 1 1#1
  let main_v5 : IVec S_ 1 := (fun x v => Host.reduce IntOp.andi x v reducesTo_S256x63x64_S_d0_1_2 h_S_) main_v4 main_c
  let main_v6 : FVec F S16384x10240 .f32 := (extractStridedSlice S16384x10240 ![0, 0] · slices_S16384x26624_S16384x10240_0_0) main_arg0
  let main_v7 : FVec F S16384x10240 .f32 := Host.absf main_v6
  let main_cst : FVec F S_ .f32 := constant S_ .f32 0x7F800000#32
  let main_v8 : FVec F S16384x10240 .f32 := broadcastInDim S16384x10240 ![] bcast_S_S16384x10240 main_cst
  let main_v9 : IVec S16384x10240 1 := cmpf .olt main_v7 main_v8
  let main_c_0 : IVec S_ 1 := constantI S_ 1 1#1
  let main_v10 : IVec S_ 1 := (fun x v => Host.reduce IntOp.andi x v reducesTo_S16384x10240_S_d0_1 h_S_) main_v9 main_c_0
  let main_v11 : FVec F S16384x64 .f32 := (extractStridedSlice S16384x64 ![0, 0] · slices_S16384x128_S16384x64_0_0) main_arg1
  let main_v12 : FVec F S16384x64 .f32 := Host.absf main_v11
  let main_cst_1 : FVec F S_ .f32 := constant S_ .f32 0x7F800000#32
  let main_v13 : FVec F S16384x64 .f32 := broadcastInDim S16384x64 ![] bcast_S_S16384x64 main_cst_1
  let main_v14 : IVec S16384x64 1 := cmpf .olt main_v12 main_v13
  let main_c_2 : IVec S_ 1 := constantI S_ 1 1#1
  let main_v15 : IVec S_ 1 := (fun x v => Host.reduce IntOp.andi x v reducesTo_S16384x64_S_d0_1 h_S_) main_v14 main_c_2
  let main_v16 : IVec S_ 1 := andi main_v10 main_v15
  let main_v17 : FVec F S16384x64 .f32 := (extractStridedSlice S16384x64 ![0, 0] · slices_S16384x128_S16384x64_0_0) main_arg2
  let main_v18 : FVec F S16384x64 .f32 := Host.absf main_v17
  fn_part1 (F := F) main_arg3 main_arg4 main_v5 main_v16 main_v18
-- ==== Kernel.lean ====
abbrev S16384x26624 : Shape := ⟨2, ![16384, 26624]⟩
abbrev S16384x128 : Shape := ⟨2, ![16384, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S384 : Shape := ⟨1, ![384]⟩
abbrev S1x384x1 : Shape := ⟨3, ![1, 384, 1]⟩
abbrev S_ : Shape := ⟨0, ![]⟩
abbrev S8 : Shape := ⟨1, ![8]⟩
abbrev S8x1x1 : Shape := ⟨3, ![8, 1, 1]⟩
abbrev S512 : Shape := ⟨1, ![512]⟩
abbrev S1x1x512 : Shape := ⟨3, ![1, 1, 512]⟩
abbrev S8x1x512 : Shape := ⟨3, ![8, 1, 512]⟩
abbrev S8x384x512 : Shape := ⟨3, ![8, 384, 512]⟩
abbrev S128x16384 : Shape := ⟨2, ![128, 16384]⟩
abbrev S1x6144 : Shape := ⟨2, ![1, 6144]⟩
abbrev S64x64 : Shape := ⟨2, ![64, 64]⟩
abbrev S2048 : Shape := ⟨1, ![2048]⟩
abbrev S8x6144 : Shape := ⟨2, ![8, 6144]⟩
abbrev S64x1 : Shape := ⟨2, ![64, 1]⟩
abbrev S1x512 : Shape := ⟨2, ![1, 512]⟩
abbrev S64x512 : Shape := ⟨2, ![64, 512]⟩
abbrev S512x1 : Shape := ⟨2, ![512, 1]⟩
abbrev S512x512 : Shape := ⟨2, ![512, 512]⟩
abbrev S16384x4096 : Shape := ⟨2, ![16384, 4096]⟩
abbrev S1024x512 : Shape := ⟨2, ![1024, 512]⟩
abbrev S1024x128 : Shape := ⟨2, ![1024, 128]⟩
abbrev S8x1024 : Shape := ⟨2, ![8, 1024]⟩
abbrev S1x384x512 : Shape := ⟨3, ![1, 384, 512]⟩
abbrev S8x512 : Shape := ⟨2, ![8, 512]⟩
abbrev S8x128 : Shape := ⟨2, ![8, 128]⟩
abbrev S1032x512 : Shape := ⟨2, ![1032, 512]⟩
abbrev S1032x128 : Shape := ⟨2, ![1032, 128]⟩
abbrev S128x512 : Shape := ⟨2, ![128, 512]⟩
abbrev S1x128 : Shape := ⟨2, ![1, 128]⟩
abbrev S384x512 : Shape := ⟨2, ![384, 512]⟩
abbrev S1024x384 : Shape := ⟨2, ![1024, 384]⟩
abbrev S64x128 : Shape := ⟨2, ![64, 128]⟩
abbrev S1x64 : Shape := ⟨2, ![1, 64]⟩
abbrev S512x128 : Shape := ⟨2, ![512, 128]⟩

abbrev nBuf : Space → Nat
  | .hbm => 156
  | .vmem => 30
  | .smem => 0
  | _ => 0

abbrev hbmTy0_0 (i : Nat) : BufTy := match i % 128 with
  | 0 => ⟨S16384x26624, .f32⟩
  | 1 => ⟨S16384x128, .f32⟩
  | 2 => ⟨S16384x128, .f32⟩
  | 3 => ⟨S4x6144, .f32⟩
  | 4 => ⟨S6144, .f32⟩
  | 5 => ⟨S64, .f32⟩
  | 6 => ⟨S4096, .f32⟩
  | 7 => ⟨S384, .i32⟩
  | 8 => ⟨S1x384x1, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S1x384x1, .i32⟩
  | 16 => ⟨S1x384x1, .i32⟩
  | 17 => ⟨S_, .i32⟩
  | 18 => ⟨S1x384x1, .i32⟩
  | 19 => ⟨S1x384x1, .i1⟩
  | 20 => ⟨S_, .i32⟩
  | 21 => ⟨S1x384x1, .i32⟩
  | 22 => ⟨S1x384x1, .i1⟩
  | 23 => ⟨S_, .i32⟩
  | 24 => ⟨S_, .i1⟩
  | 25 => ⟨S1x384x1, .i1⟩
  | 26 => ⟨S1x384x1, .i1⟩
  | 27 => ⟨S1x384x1, .i1⟩
  | 28 => ⟨S1x384x1, .i32⟩
  | 29 => ⟨S1x384x1, .i32⟩
  | 30 => ⟨S1x384x1, .i32⟩
  | 31 => ⟨S8, .i32⟩
  | 32 => ⟨S8x1x1, .i32⟩
  | 33 => ⟨S512, .i32⟩
  | 34 => ⟨S1x1x512, .i32⟩
  | 35 => ⟨S_, .i32⟩
  | 36 => ⟨S8x1x1, .i32⟩
  | 37 => ⟨S8x1x1, .i32⟩
  | 38 => ⟨S_, .i32⟩
  | 39 => ⟨S8x1x1, .i32⟩
  | 40 => ⟨S8x1x1, .i32⟩
  | 41 => ⟨S_, .i32⟩
  | 42 => ⟨S_, .i32⟩
  | 43 => ⟨S1x1x512, .i32⟩
  | 44 => ⟨S1x1x512, .i32⟩
  | 45 => ⟨S1x1x512, .i32⟩
  | 46 => ⟨S_, .i32⟩
  | 47 => ⟨S1x1x512, .i32⟩
  | 48 => ⟨S1x1x512, .i1⟩
  | 49 => ⟨S1x1x512, .i32⟩
  | 50 => ⟨S1x1x512, .i32⟩
  | 51 => ⟨S_, .i32⟩
  | 52 => ⟨S1x1x512, .i32⟩
  | 53 => ⟨S1x1x512, .i1⟩
  | 54 => ⟨S1x1x512, .i1⟩
  | 55 => ⟨S_, .i32⟩
  | 56 => ⟨S1x1x512, .i32⟩
  | 57 => ⟨S1x1x512, .i32⟩
  | 58 => ⟨S1x1x512, .i32⟩
  | 59 => ⟨S8x1x512, .i32⟩
  | 60 => ⟨S8x1x512, .i32⟩
  | 61 => ⟨S8x1x512, .i32⟩
  | 62 => ⟨S8x384x512, .i32⟩
  | 63 => ⟨S8x384x512, .i32⟩
  | 64 => ⟨S8x384x512, .i1⟩
  | 65 => ⟨S8x384x512, .bf16⟩
  | 66 => ⟨S128x16384, .f32⟩
  | 67 => ⟨S_, .f32⟩
  | 68 => ⟨S6144, .f32⟩
  | 69 => ⟨S1x6144, .f32⟩
  | 70 => ⟨S64x64, .f32⟩
  | 71 => ⟨S4096, .f32⟩
  | 72 => ⟨S_, .f32⟩
  | 73 => ⟨S2048, .f32⟩
  | 74 => ⟨S6144, .f32⟩
  | 75 => ⟨S1x6144, .f32⟩
  | 76 => ⟨S_, .f32⟩
  | 77 => ⟨S2048, .f32⟩
  | 78 => ⟨S6144, .f32⟩
  | 79 => ⟨S1x6144, .f32⟩
  | 80 => ⟨S1x6144, .f32⟩
  | 81 => ⟨S8x6144, .f32⟩
  | 82 => ⟨S64, .i32⟩
  | 83 => ⟨S64x1, .i32⟩
  | 84 => ⟨S512, .i32⟩
  | 85 => ⟨S1x512, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S1x512, .i32⟩
  | 93 => ⟨S1x512, .i32⟩
  | 94 => ⟨S_, .i32⟩
  | 95 => ⟨S1x512, .i32⟩
  | 96 => ⟨S1x512, .i1⟩
  | 97 => ⟨S_, .i32⟩
  | 98 => ⟨S1x512, .i32⟩
  | 99 => ⟨S1x512, .i1⟩
  | 100 => ⟨S_, .i32⟩
  | 101 => ⟨S_, .i1⟩
  | 102 => ⟨S1x512, .i1⟩
  | 103 => ⟨S1x512, .i1⟩
  | 104 => ⟨S1x512, .i1⟩
  | 105 => ⟨S1x512, .i32⟩
  | 106 => ⟨S1x512, .i32⟩
  | 107 => ⟨S1x512, .i32⟩
  | 108 => ⟨S64x512, .i32⟩
  | 109 => ⟨S64x512, .i32⟩
  | 110 => ⟨S64x512, .i1⟩
  | 111 => ⟨S64x512, .f32⟩
  | 112 => ⟨S512, .i32⟩
  | 113 => ⟨S512x1, .i32⟩
  | 114 => ⟨S_, .i32⟩
  | 115 => ⟨S_, .i32⟩
  | 116 => ⟨S512x1, .i32⟩
  | 117 => ⟨S512x1, .i32⟩
  | 118 => ⟨S512x1, .i32⟩
  | 119 => ⟨S_, .i32⟩
  | 120 => ⟨S512x1, .i32⟩
  | 121 => ⟨S512x1, .i1⟩
  | 122 => ⟨S512x1, .i32⟩
  | 123 => ⟨S512x1, .i32⟩
  | 124 => ⟨S_, .i32⟩
  | 125 => ⟨S512x1, .i32⟩
  | 126 => ⟨S512x1, .i1⟩
  | 127 => ⟨S512x1, .i1⟩
  | _ => ⟨S16384x26624, .f32⟩

abbrev hbmTy0_1 (i : Nat) : BufTy := match i % 128 with
  | 0 => ⟨S_, .i32⟩
  | 1 => ⟨S512x1, .i32⟩
  | 2 => ⟨S512x1, .i32⟩
  | 3 => ⟨S512x1, .i32⟩
  | 4 => ⟨S1x512, .i32⟩
  | 5 => ⟨S_, .i32⟩
  | 6 => ⟨S_, .i32⟩
  | 7 => ⟨S1x512, .i32⟩
  | 8 => ⟨S1x512, .i32⟩
  | 9 => ⟨S1x512, .i32⟩
  | 10 => ⟨S_, .i32⟩
  | 11 => ⟨S1x512, .i32⟩
  | 12 => ⟨S1x512, .i1⟩
  | 13 => ⟨S1x512, .i32⟩
  | 14 => ⟨S1x512, .i32⟩
  | 15 => ⟨S_, .i32⟩
  | 16 => ⟨S1x512, .i32⟩
  | 17 => ⟨S1x512, .i1⟩
  | 18 => ⟨S1x512, .i1⟩
  | 19 => ⟨S_, .i32⟩
  | 20 => ⟨S1x512, .i32⟩
  | 21 => ⟨S1x512, .i32⟩
  | 22 => ⟨S1x512, .i32⟩
  | 23 => ⟨S512x512, .i32⟩
  | 24 => ⟨S512x512, .i32⟩
  | 25 => ⟨S512x512, .i1⟩
  | 26 => ⟨S512x512, .bf16⟩
  | 27 => ⟨S16384x4096, .bf16⟩
  | _ => ⟨S16384x26624, .f32⟩

abbrev hbmTy (i : Nat) : BufTy := match i / 128 with
  | 0 => hbmTy0_0 i
  | 1 => hbmTy0_1 i
  | _ => ⟨S16384x26624, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S8x1024, .f32⟩
  | .local _ .vmem, ⟨13, _⟩ => ⟨S8x1024, .f32⟩
  | .local _ .vmem, ⟨14, _⟩ => ⟨S1x384x512, .bf16⟩
  | .local _ .vmem, ⟨15, _⟩ => ⟨S1x384x512, .bf16⟩
  | .local _ .vmem, ⟨16, _⟩ => ⟨S64x512, .f32⟩
  | .local _ .vmem, ⟨17, _⟩ => ⟨S512x512, .bf16⟩
  | .local _ .vmem, ⟨18, _⟩ => ⟨S8x512, .f32⟩
  | .local _ .vmem, ⟨19, _⟩ => ⟨S8x512, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S1024x512, .bf16⟩
  | .local _ .vmem, ⟨25, _⟩ => ⟨S1024x512, .bf16⟩
  | .local _ .vmem, ⟨26, _⟩ => ⟨S1032x512, .f32⟩
  | .local _ .vmem, ⟨27, _⟩ => ⟨S1032x128, .f32⟩
  | .local _ .vmem, ⟨28, _⟩ => ⟨S1032x128, .f32⟩
  | .local _ .vmem, ⟨29, _⟩ => ⟨S128x512, .f32⟩
  | _, _ => ⟨S16384x26624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_0 : Ref sig .tc := ⟨.hbm, 35, rfl⟩
abbrev main_v7 : Ref sig .tc := ⟨.hbm, 36, rfl⟩
abbrev main_v8 : Ref sig .tc := ⟨.hbm, 37, rfl⟩
abbrev main_c_1 : Ref sig .tc := ⟨.hbm, 38, rfl⟩
abbrev main_v9 : Ref sig .tc := ⟨.hbm, 39, rfl⟩
abbrev main_v10 : Ref sig .tc := ⟨.hbm, 40, rfl⟩
abbrev main_c_2 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_cst : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_cst_3 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_cst_4 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_c_5 : Ref sig .tc := ⟨.hbm, 86, rfl⟩
abbrev main_call2_v0 : Ref sig .tc := ⟨.hbm, 87, rfl⟩
abbrev main_call2_c : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_c_1 : Ref sig .tc := ⟨.hbm, 94, rfl⟩
abbrev main_call2_v5 : Ref sig .tc := ⟨.hbm, 95, rfl⟩
abbrev main_call2_v6 : Ref sig .tc := ⟨.hbm, 96, rfl⟩
abbrev main_call2_c_2 : Ref sig .tc := ⟨.hbm, 97, rfl⟩
abbrev main_call2_v7 : Ref sig .tc := ⟨.hbm, 98, rfl⟩
abbrev main_call2_v8 : Ref sig .tc := ⟨.hbm, 99, rfl⟩
abbrev main_call2_c_3 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_c_6 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_v6 : Ref sig .tc := ⟨.hbm, 121, rfl⟩
abbrev main_call3_v7 : Ref sig .tc := ⟨.hbm, 122, rfl⟩
abbrev main_call3_v8 : Ref sig .tc := ⟨.hbm, 123, rfl⟩
abbrev main_call3_c : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_c_0 : Ref sig .tc := ⟨.hbm, 128, rfl⟩
abbrev main_call3_v12 : Ref sig .tc := ⟨.hbm, 129, rfl⟩
abbrev main_call3_v13 : Ref sig .tc := ⟨.hbm, 130, rfl⟩
abbrev main_v43 : Ref sig .tc := ⟨.hbm, 131, rfl⟩
abbrev main_v44 : Ref sig .tc := ⟨.hbm, 132, rfl⟩
abbrev main_c_7 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_v6 : Ref sig .tc := ⟨.hbm, 140, rfl⟩
abbrev main_call4_v7 : Ref sig .tc := ⟨.hbm, 141, rfl⟩
abbrev main_call4_v8 : Ref sig .tc := ⟨.hbm, 142, rfl⟩
abbrev main_call4_c : Ref sig .tc := ⟨.hbm, 143, rfl⟩
abbrev main_call4_v9 : Ref sig .tc := ⟨.hbm, 144, rfl⟩
abbrev main_call4_v10 : Ref sig .tc := ⟨.hbm, 145, rfl⟩
abbrev main_call4_v11 : Ref sig .tc := ⟨.hbm, 146, rfl⟩
abbrev main_call4_c_0 : Ref sig .tc := ⟨.hbm, 147, rfl⟩
abbrev main_call4_v12 : Ref sig .tc := ⟨.hbm, 148, rfl⟩
abbrev main_call4_v13 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c64_i32 : BitVec 32 := 64#32
  let v2 : BitVec 32 := Scalar.addi c64_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c72_i32 : BitVec 32 := 72#32
  let v2 : BitVec 32 := Scalar.addi c72_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x384x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== ReferenceIdeal.lean ====
abbrev S16384x26624 : Shape := ⟨2, ![16384, 26624]⟩
abbrev S16384x128 : Shape := ⟨2, ![16384, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S16384x6144 : Shape := ⟨2, ![16384, 6144]⟩
abbrev S4x4096x6144 : Shape := ⟨3, ![4, 4096, 6144]⟩
abbrev S_ : Shape := ⟨0, ![]⟩
abbrev S4x4099x6144 : Shape := ⟨3, ![4, 4099, 6144]⟩
abbrev S1x6144 : Shape := ⟨2, ![1, 6144]⟩
abbrev S1x1x6144 : Shape := ⟨3, ![1, 1, 6144]⟩
abbrev S4x4096x4096 : Shape := ⟨3, ![4, 4096, 4096]⟩
abbrev S4x4096x1024 : Shape := ⟨3, ![4, 4096, 1024]⟩
abbrev S4x64x64x8x8x64 : Shape := ⟨6, ![4, 64, 64, 8, 8, 64]⟩
abbrev S4x64x64x8x128 : Shape := ⟨5, ![4, 64, 64, 8, 128]⟩
abbrev S16384x64 : Shape := ⟨2, ![16384, 64]⟩
abbrev S4x64x64x8x8 : Shape := ⟨5, ![4, 64, 64, 8, 8]⟩
abbrev S4x64x8x8x64 : Shape := ⟨5, ![4, 64, 8, 8, 64]⟩
abbrev S4x8x8x64x128 : Shape := ⟨5, ![4, 8, 8, 64, 128]⟩
abbrev S64x4x64x8x128 : Shape := ⟨5, ![64, 4, 64, 8, 128]⟩
abbrev S64x4x64x8x8x64 : Shape := ⟨6, ![64, 4, 64, 8, 8, 64]⟩
abbrev S64x4x64x8x8 : Shape := ⟨5, ![64, 4, 64, 8, 8]⟩
abbrev S64x4x8x8x64 : Shape := ⟨5, ![64, 4, 8, 8, 64]⟩
abbrev S1x4x64x8x128 : Shape := ⟨5, ![1, 4, 64, 8, 128]⟩
abbrev S4x64x8x128 : Shape := ⟨4, ![4, 64, 8, 128]⟩
abbrev S1x4x64x8x8x64 : Shape := ⟨6, ![1, 4, 64, 8, 8, 64]⟩
abbrev S1x4x64x8x8 : Shape := ⟨5, ![1, 4, 64, 8, 8]⟩
abbrev S4x64x8x8 : Shape := ⟨4, ![4, 64, 8, 8]⟩
abbrev S1x4x8x8x64 : Shape := ⟨5, ![1, 4, 8, 8, 64]⟩
abbrev S4x8x8x64 : Shape := ⟨4, ![4, 8, 8, 64]⟩
abbrev S64x1 : Shape := ⟨2, ![64, 1]⟩
abbrev S1x64 : Shape := ⟨2, ![1, 64]⟩
abbrev S64x64 : Shape := ⟨2, ![64, 64]⟩
abbrev S4x64x8x8x1 : Shape := ⟨5, ![4, 64, 8, 8, 1]⟩
abbrev S4x8x8x64x1 : Shape := ⟨5, ![4, 8, 8, 64, 1]⟩
abbrev S4x8x8x1x64 : Shape := ⟨5, ![4, 8, 8, 1, 64]⟩
abbrev S4x8x8x64x64 : Shape := ⟨5, ![4, 8, 8, 64, 64]⟩
abbrev S4x8x64x64 : Shape := ⟨4, ![4, 8, 64, 64]⟩
abbrev S4x8x1x64x64 : Shape := ⟨5, ![4, 8, 1, 64, 64]⟩
abbrev S4x8x8x1 : Shape := ⟨4, ![4, 8, 8, 1]⟩
abbrev S4x8x8 : Shape := ⟨3, ![4, 8, 8]⟩
abbrev S4x8x8x1x1 : Shape := ⟨5, ![4, 8, 8, 1, 1]⟩
abbrev S8x8x1 : Shape := ⟨3, ![8, 8, 1]⟩
abbrev S1x1x8x8x1 : Shape := ⟨5, ![1, 1, 8, 8, 1]⟩
abbrev S16384x4096 : Shape := ⟨2, ![16384, 4096]⟩
abbrev S4x4096x8x512 : Shape := ⟨4, ![4, 4096, 8, 512]⟩
abbrev S4x4096x8 : Shape := ⟨3, ![4, 4096, 8]⟩
abbrev S4x4096x8x1 : Shape := ⟨4, ![4, 4096, 8, 1]⟩
abbrev S8x512 : Shape := ⟨2, ![8, 512]⟩
abbrev S1x1x8x512 : Shape := ⟨4, ![1, 1, 8, 512]⟩

abbrev nBuf : Space → Nat
  | .hbm => 221
  | .vmem => 0
  | .smem => 0
  | _ => 0

abbrev hbmTy0_0 (i : Nat) : BufTy := match i % 128 with
  | 0 => ⟨S16384x26624, .f32⟩
  | 1 => ⟨S16384x128, .f32⟩
  | 2 => ⟨S16384x128, .f32⟩
  | 3 => ⟨S4x6144, .f32⟩
  | 4 => ⟨S6144, .f32⟩
  | 5 => ⟨S64, .f32⟩
  | 6 => ⟨S4096, .f32⟩
  | 7 => ⟨S16384x6144, .f32⟩
  | 8 => ⟨S4x4096x6144, .f32⟩
  | 9 => ⟨S_, .i32⟩
  | 10 => ⟨S_, .f32⟩
  | 11 => ⟨S4x4099x6144, .f32⟩
  | 12 => ⟨S1x6144, .f32⟩
  | 13 => ⟨S6144, .f32⟩
  | 14 => ⟨S4x4096x6144, .f32⟩
  | 15 => ⟨S1x1x6144, .f32⟩
  | 16 => ⟨S4x4096x6144, .f32⟩
  | 17 => ⟨S4x4096x6144, .f32⟩
  | 18 => ⟨S_, .f32⟩
  | 19 => ⟨S4x4096x6144, .f32⟩
  | 20 => ⟨S4x4096x6144, .f32⟩
  | 21 => ⟨S1x6144, .f32⟩
  | 22 => ⟨S6144, .f32⟩
  | 23 => ⟨S4x4096x6144, .f32⟩
  | 24 => ⟨S1x1x6144, .f32⟩
  | 25 => ⟨S4x4096x6144, .f32⟩
  | 26 => ⟨S4x4096x6144, .f32⟩
  | 27 => ⟨S4x4096x6144, .f32⟩
  | 28 => ⟨S1x6144, .f32⟩
  | 29 => ⟨S6144, .f32⟩
  | 30 => ⟨S4x4096x6144, .f32⟩
  | 31 => ⟨S1x1x6144, .f32⟩
  | 32 => ⟨S4x4096x6144, .f32⟩
  | 33 => ⟨S4x4096x6144, .f32⟩
  | 34 => ⟨S4x4096x6144, .f32⟩
  | 35 => ⟨S1x6144, .f32⟩
  | 36 => ⟨S6144, .f32⟩
  | 37 => ⟨S4x4096x6144, .f32⟩
  | 38 => ⟨S1x1x6144, .f32⟩
  | 39 => ⟨S4x4096x6144, .f32⟩
  | 40 => ⟨S4x4096x6144, .f32⟩
  | 41 => ⟨S4x4096x6144, .f32⟩
  | 42 => ⟨S1x1x6144, .f32⟩
  | 43 => ⟨S4x4096x6144, .f32⟩
  | 44 => ⟨S4x4096x6144, .f32⟩
  | 45 => ⟨S4x4096x6144, .f32⟩
  | 46 => ⟨S4x4096x6144, .f32⟩
  | 47 => ⟨S_, .f32⟩
  | 48 => ⟨S4x4096x6144, .f32⟩
  | 49 => ⟨S4x4096x6144, .f32⟩
  | 50 => ⟨S_, .f32⟩
  | 51 => ⟨S4x4096x6144, .f32⟩
  | 52 => ⟨S4x4096x6144, .f32⟩
  | 53 => ⟨S4x4096x6144, .f32⟩
  | 54 => ⟨S4x4096x4096, .f32⟩
  | 55 => ⟨S4x4096x1024, .f32⟩
  | 56 => ⟨S4x4096x1024, .f32⟩
  | 57 => ⟨S4x64x64x8x8x64, .f32⟩
  | 58 => ⟨S4x64x64x8x128, .f32⟩
  | 59 => ⟨S4x64x64x8x128, .f32⟩
  | 60 => ⟨S16384x64, .f32⟩
  | 61 => ⟨S4x64x64x8x8, .f32⟩
  | 62 => ⟨S16384x64, .f32⟩
  | 63 => ⟨S4x64x64x8x8, .f32⟩
  | 64 => ⟨S4x64x8x8x64, .f32⟩
  | 65 => ⟨S_, .f32⟩
  | 66 => ⟨S4x8x8x64x128, .f32⟩
  | 67 => ⟨S64x4x64x8x128, .f32⟩
  | 68 => ⟨S64x4x64x8x128, .f32⟩
  | 69 => ⟨S64x4x64x8x8x64, .f32⟩
  | 70 => ⟨S64x4x64x8x8, .f32⟩
  | 71 => ⟨S64x4x8x8x64, .f32⟩
  | 72 => ⟨S_, .f32⟩
  | 73 => ⟨S64x4x64x8x8x64, .f32⟩
  | 74 => ⟨S_, .i32⟩
  | 75 => ⟨S64x4x64x8x128, .f32⟩
  | 76 => ⟨S64x4x64x8x128, .f32⟩
  | 77 => ⟨S64x4x64x8x8x64, .f32⟩
  | 78 => ⟨S64x4x64x8x8, .f32⟩
  | 79 => ⟨S64x4x8x8x64, .f32⟩
  | 80 => ⟨S64, .f32⟩
  | 81 => ⟨S_, .i32⟩
  | 82 => ⟨S4x8x8x64x128, .f32⟩
  | 83 => ⟨S64x4x64x8x8x64, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S1x4x64x8x128, .f32⟩
  | 91 => ⟨S4x64x8x128, .f32⟩
  | 92 => ⟨S_, .i32⟩
  | 93 => ⟨S_, .i32⟩
  | 94 => ⟨S_, .i32⟩
  | 95 => ⟨S_, .i32⟩
  | 96 => ⟨S1x4x64x8x128, .f32⟩
  | 97 => ⟨S4x64x8x128, .f32⟩
  | 98 => ⟨S_, .i32⟩
  | 99 => ⟨S_, .i32⟩
  | 100 => ⟨S_, .i32⟩
  | 101 => ⟨S_, .i32⟩
  | 102 => ⟨S_, .i32⟩
  | 103 => ⟨S1x4x64x8x8x64, .f32⟩
  | 104 => ⟨S4x64x8x8x64, .f32⟩
  | 105 => ⟨S_, .i32⟩
  | 106 => ⟨S_, .i32⟩
  | 107 => ⟨S_, .i32⟩
  | 108 => ⟨S_, .i32⟩
  | 109 => ⟨S1x4x64x8x8, .f32⟩
  | 110 => ⟨S4x64x8x8, .f32⟩
  | 111 => ⟨S_, .i32⟩
  | 112 => ⟨S_, .i32⟩
  | 113 => ⟨S_, .i32⟩
  | 114 => ⟨S_, .i32⟩
  | 115 => ⟨S1x4x8x8x64, .f32⟩
  | 116 => ⟨S4x8x8x64, .f32⟩
  | 117 => ⟨S64, .i32⟩
  | 118 => ⟨S64x1, .i32⟩
  | 119 => ⟨S64, .i32⟩
  | 120 => ⟨S1x64, .i32⟩
  | 121 => ⟨S64x64, .i32⟩
  | 122 => ⟨S64x64, .i32⟩
  | 123 => ⟨S64x64, .i1⟩
  | 124 => ⟨S4x64x8x8x1, .f32⟩
  | 125 => ⟨S4x64x8x8x64, .f32⟩
  | 126 => ⟨S4x64x8x8x64, .f32⟩
  | 127 => ⟨S4x8x8x64x1, .f32⟩
  | _ => ⟨S16384x26624, .f32⟩

abbrev hbmTy0_1 (i : Nat) : BufTy := match i % 128 with
  | 0 => ⟨S4x8x8x1x64, .f32⟩
  | 1 => ⟨S4x8x8x64x64, .f32⟩
  | 2 => ⟨S4x8x8x64x64, .f32⟩
  | 3 => ⟨S4x8x8x64x64, .f32⟩
  | 4 => ⟨S_, .f32⟩
  | 5 => ⟨S_, .f32⟩
  | 6 => ⟨S4x8x8x64x64, .i1⟩
  | 7 => ⟨S4x8x8x64x64, .f32⟩
  | 8 => ⟨S4x8x8x64x64, .f32⟩
  | 9 => ⟨S4x8x8x64x64, .f32⟩
  | 10 => ⟨S_, .f32⟩
  | 11 => ⟨S_, .f32⟩
  | 12 => ⟨S4x8x8x64x64, .i1⟩
  | 13 => ⟨S4x8x8x64x64, .f32⟩
  | 14 => ⟨S4x8x8x64x64, .f32⟩
  | 15 => ⟨S4x8x64x64, .f32⟩
  | 16 => ⟨S4x8x1x64x64, .f32⟩
  | 17 => ⟨S4x8x8x64x64, .f32⟩
  | 18 => ⟨S4x8x8x64x64, .f32⟩
  | 19 => ⟨S4x8x8x64x64, .f32⟩
  | 20 => ⟨S4x64x8x8x64, .f32⟩
  | 21 => ⟨S4x8x8x1, .f32⟩
  | 22 => ⟨S4x8x8x64, .f32⟩
  | 23 => ⟨S4x8x8x64, .f32⟩
  | 24 => ⟨S4x8x8x64, .f32⟩
  | 25 => ⟨S4x64x8x8, .f32⟩
  | 26 => ⟨S4x64x8x8x1, .f32⟩
  | 27 => ⟨S4x64x8x8x64, .f32⟩
  | 28 => ⟨S4x64x8x8x64, .f32⟩
  | 29 => ⟨S4x8x8x64x64, .f32⟩
  | 30 => ⟨S4x64x8x8x64, .f32⟩
  | 31 => ⟨S4x8x8x64, .f32⟩
  | 32 => ⟨S4x64x8x8, .f32⟩
  | 33 => ⟨S4x64x8x8x1, .f32⟩
  | 34 => ⟨S4x64x8x8x64, .f32⟩
  | 35 => ⟨S4x64x8x8x64, .f32⟩
  | 36 => ⟨S4x8x8x1, .f32⟩
  | 37 => ⟨S4x8x8, .f32⟩
  | 38 => ⟨S4x8x8, .f32⟩
  | 39 => ⟨S4x8x8x1x1, .f32⟩
  | 40 => ⟨S4x8x8x64x128, .f32⟩
  | 41 => ⟨S4x8x8x64x128, .f32⟩
  | 42 => ⟨S4x8x8x64x128, .f32⟩
  | 43 => ⟨S4x8x8x64x128, .f32⟩
  | 44 => ⟨S4x64x8x8x64, .f32⟩
  | 45 => ⟨S8x8x1, .f32⟩
  | 46 => ⟨S1x1x8x8x1, .f32⟩
  | 47 => ⟨S4x64x8x8x64, .f32⟩
  | 48 => ⟨S4x64x8x8x64, .f32⟩
  | 49 => ⟨S4x64x8x8x64, .f32⟩
  | 50 => ⟨S1x4x64x8x8x64, .f32⟩
  | 51 => ⟨S_, .i32⟩
  | 52 => ⟨S_, .i32⟩
  | 53 => ⟨S_, .i32⟩
  | 54 => ⟨S_, .i32⟩
  | 55 => ⟨S_, .i32⟩
  | 56 => ⟨S64x4x64x8x8x64, .f32⟩
  | 57 => ⟨S_, .i32⟩
  | 58 => ⟨S_, .i32⟩
  | 59 => ⟨S16384x4096, .f32⟩
  | 60 => ⟨S4x4096x4096, .f32⟩
  | 61 => ⟨S4x64x64x8x8x64, .f32⟩
  | 62 => ⟨S4x4096x4096, .f32⟩
  | 63 => ⟨S4x4096x4096, .f32⟩
  | 64 => ⟨S4x4096x4096, .f32⟩
  | 65 => ⟨S_, .f32⟩
  | 66 => ⟨S4x4096x4096, .f32⟩
  | 67 => ⟨S4x4096x4096, .f32⟩
  | 68 => ⟨S_, .f32⟩
  | 69 => ⟨S4x4096x4096, .f32⟩
  | 70 => ⟨S4x4096x4096, .f32⟩
  | 71 => ⟨S4x4096x4096, .f32⟩
  | 72 => ⟨S4x4096x4096, .f32⟩
  | 73 => ⟨S4x4096x8x512, .f32⟩
  | 74 => ⟨S4x4096x8x512, .f32⟩
  | 75 => ⟨S_, .f32⟩
  | 76 => ⟨S4x4096x8, .f32⟩
  | 77 => ⟨S4x4096x8x1, .f32⟩
  | 78 => ⟨S_, .f32⟩
  | 79 => ⟨S4x4096x8x1, .f32⟩
  | 80 => ⟨S4x4096x8x1, .f32⟩
  | 81 => ⟨S_, .f32⟩
  | 82 => ⟨S4x4096x8x1, .f32⟩
  | 83 => ⟨S4x4096x8x1, .f32⟩
  | 84 => ⟨S4x4096x8x1, .f32⟩
  | 85 => ⟨S4x4096x8x512, .f32⟩
  | 86 => ⟨S4x4096x8x512, .f32⟩
  | 87 => ⟨S8x512, .f32⟩
  | 88 => ⟨S1x1x8x512, .f32⟩
  | 89 => ⟨S4x4096x8x512, .f32⟩
  | 90 => ⟨S4x4096x8x512, .f32⟩
  | 91 => ⟨S16384x4096, .f32⟩
  | 92 => ⟨S16384x4096, .bf16⟩
  | _ => ⟨S16384x26624, .f32⟩

abbrev hbmTy (i : Nat) : BufTy := match i / 128 with
  | 0 => hbmTy0_0 i
  | 1 => hbmTy0_1 i
  | _ => ⟨S16384x26624, .f32⟩

abbrev bufTy : (tb : Table) → Fin (tcTables nBuf tb) → BufTy
  | .hbm, ⟨i, _⟩ => hbmTy i
  | _, _ => ⟨S16384x26624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_1 : Ref sig .tc := ⟨.hbm, 72, rfl⟩
abbrev main_v53 : Ref sig .tc := ⟨.hbm, 73, rfl⟩
abbrev main_c_2 : Ref sig .tc := ⟨.hbm, 74, rfl⟩
abbrev main_v54_0 : Ref sig .tc := ⟨.hbm, 75, rfl⟩
abbrev main_v54_1 : Ref sig .tc := ⟨.hbm, 76, rfl⟩
abbrev main_v54_2 : Ref sig .tc := ⟨.hbm, 77, rfl⟩
abbrev main_v54_3 : Ref sig .tc := ⟨.hbm, 78, rfl⟩
abbrev main_v54_4 : Ref sig .tc := ⟨.hbm, 79, rfl⟩
abbrev main_v54_5 : Ref sig .tc := ⟨.hbm, 80, rfl⟩
abbrev main_v54_6 : Ref sig .tc := ⟨.hbm, 81, rfl⟩
abbrev main_v54_7 : Ref sig .tc := ⟨.hbm, 82, rfl⟩
abbrev main_v54_8 : Ref sig .tc := ⟨.hbm, 83, rfl⟩
abbrev main_while0c_c_14 : Ref sig .tc := ⟨.hbm, 84, rfl⟩
abbrev main_while0c_v78 : Ref sig .tc := ⟨.hbm, 85, rfl⟩
abbrev main_while0b_call2_c : Ref sig .tc := ⟨.hbm, 86, rfl⟩
abbrev main_while0b_call2_c_0 : Ref sig .tc := ⟨.hbm, 87, rfl⟩
abbrev main_while0b_call2_c_1 : Ref sig .tc := ⟨.hbm, 88, rfl⟩
abbrev main_while0b_call2_c_2 : Ref sig .tc := ⟨.hbm, 89, rfl⟩
abbrev main_while0b_call2_v0 : Ref sig .tc := ⟨.hbm, 90, rfl⟩
abbrev main_while0b_v78 : Ref sig .tc := ⟨.hbm, 91, rfl⟩
abbrev main_while0b_call3_c : Ref sig .tc := ⟨.hbm, 92, rfl⟩
abbrev main_while0b_call3_c_0 : Ref sig .tc := ⟨.hbm, 93, rfl⟩
abbrev main_while0b_call3_c_1 : Ref sig .tc := ⟨.hbm, 94, rfl⟩
abbrev main_while0b_call3_c_2 : Ref sig .tc := ⟨.hbm, 95, rfl⟩
abbrev main_while0b_call3_v0 : Ref sig .tc := ⟨.hbm, 96, rfl⟩
abbrev main_while0b_v79 : Ref sig .tc := ⟨.hbm, 97, rfl⟩
abbrev main_while0b_call4_c : Ref sig .tc := ⟨.hbm, 98, rfl⟩
abbrev main_while0b_call4_c_0 : Ref sig .tc := ⟨.hbm, 99, rfl⟩
abbrev main_while0b_call4_c_1 : Ref sig .tc := ⟨.hbm, 100, rfl⟩
abbrev main_while0b_call4_c_2 : Ref sig .tc := ⟨.hbm, 101, rfl⟩
abbrev main_while0b_call4_c_3 : Ref sig .tc := ⟨.hbm, 102, rfl⟩
abbrev main_while0b_call4_v0 : Ref sig .tc := ⟨.hbm, 103, rfl⟩
abbrev main_while0b_v80 : Ref sig .tc := ⟨.hbm, 104, rfl⟩
abbrev main_while0b_call5_c : Ref sig .tc := ⟨.hbm, 105, rfl⟩
abbrev main_while0b_call5_c_0 : Ref sig .tc := ⟨.hbm, 106, rfl⟩
abbrev main_while0b_call5_c_1 : Ref sig .tc := ⟨.hbm, 107, rfl⟩
abbrev main_while0b_call5_c_2 : Ref sig .tc := ⟨.hbm, 108, rfl⟩
abbrev main_while0b_call5_v0 : Ref sig .tc := ⟨.hbm, 109, rfl⟩
abbrev main_while0b_v81 : Ref sig .tc := ⟨.hbm, 110, rfl⟩
abbrev main_while0b_call6_c : Ref sig .tc := ⟨.hbm, 111, rfl⟩
abbrev main_while0b_call6_c_0 : Ref sig .tc := ⟨.hbm, 112, rfl⟩
abbrev main_while0b_call6_c_1 : Ref sig .tc := ⟨.hbm, 113, rfl⟩
abbrev main_while0b_call6_c_2 : Ref sig .tc := ⟨.hbm, 114, rfl⟩
abbrev main_while0b_call6_v0 : Ref sig .tc := ⟨.hbm, 115, rfl⟩
abbrev main_while0b_v82 : Ref sig .tc := ⟨.hbm, 116, rfl⟩
abbrev main_while0b_v83 : Ref sig .tc := ⟨.hbm, 117, rfl⟩
abbrev main_while0b_v84 : Ref sig .tc := ⟨.hbm, 118, rfl⟩
abbrev main_while0b_v85 : Ref sig .tc := ⟨.hbm, 119, rfl⟩
abbrev main_while0b_v86 : Ref sig .tc := ⟨.hbm, 120, rfl⟩
abbrev main_while0b_v87 : Ref sig .tc := ⟨.hbm, 121, rfl⟩
abbrev main_while0b_v88 : Ref sig .tc := ⟨.hbm, 122, rfl⟩
abbrev main_while0b_v89 : Ref sig .tc := ⟨.hbm, 123, rfl⟩
abbrev main_while0b_v90 : Ref sig .tc := ⟨.hbm, 124, rfl⟩
abbrev main_while0b_v91 : Ref sig .tc := ⟨.hbm, 125, rfl⟩
abbrev main_while0b_v92 : Ref sig .tc := ⟨.hbm, 126, rfl⟩
abbrev main_while0b_v93 : Ref sig .tc := ⟨.hbm, 127, rfl⟩
abbrev main_while0b_v94 : Ref sig .tc := ⟨.hbm, 128, rfl⟩
abbrev main_while0b_v95 : Ref sig .tc := ⟨.hbm, 129, rfl⟩
abbrev main_while0b_v96 : Ref sig .tc := ⟨.hbm, 130, rfl⟩
abbrev main_while0b_v97 : Ref sig .tc := ⟨.hbm, 131, rfl⟩
abbrev main_while0b_cst_14 : Ref sig .tc := ⟨.hbm, 132, rfl⟩
abbrev main_while0b_call7_v0 : Ref sig .tc := ⟨.hbm, 133, rfl⟩
abbrev main_while0b_call7_v1 : Ref sig .tc := ⟨.hbm, 134, rfl⟩
abbrev main_while0b_call7_v2 : Ref sig .tc := ⟨.hbm, 135, rfl⟩
abbrev main_while0b_v98 : Ref sig .tc := ⟨.hbm, 136, rfl⟩
abbrev main_while0b_v99 : Ref sig .tc := ⟨.hbm, 137, rfl⟩
abbrev main_while0b_cst_15 : Ref sig .tc := ⟨.hbm, 138, rfl⟩
abbrev main_while0b_call8_v0 : Ref sig .tc := ⟨.hbm, 139, rfl⟩
abbrev main_while0b_call8_v1 : Ref sig .tc := ⟨.hbm, 140, rfl⟩
abbrev main_while0b_call8_v2 : Ref sig .tc := ⟨.hbm, 141, rfl⟩
abbrev main_while0b_v100 : Ref sig .tc := ⟨.hbm, 142, rfl⟩
abbrev main_while0b_v101 : Ref sig .tc := ⟨.hbm, 143, rfl⟩
abbrev main_while0b_v102 : Ref sig .tc := ⟨.hbm, 144, rfl⟩
abbrev main_while0b_v103 : Ref sig .tc := ⟨.hbm, 145, rfl⟩
abbrev main_while0b_v104 : Ref sig .tc := ⟨.hbm, 146, rfl⟩
abbrev main_while0b_v105 : Ref sig .tc := ⟨.hbm, 147, rfl⟩
abbrev main_while0b_v106 : Ref sig .tc := ⟨.hbm, 148, rfl⟩
abbrev main_while0b_v107 : Ref sig .tc := ⟨.hbm, 149, rfl⟩
abbrev main_while0b_v108 : Ref sig .tc := ⟨.hbm, 150, rfl⟩
abbrev main_while0b_v109 : Ref sig .tc := ⟨.hbm, 151, rfl⟩
abbrev main_while0b_v110 : Ref sig .tc := ⟨.hbm, 152, rfl⟩
abbrev main_while0b_v111 : Ref sig .tc := ⟨.hbm, 153, rfl⟩
abbrev main_while0b_v112 : Ref sig .tc := ⟨.hbm, 154, rfl⟩
abbrev main_while0b_v113 : Ref sig .tc := ⟨.hbm, 155, rfl⟩
abbrev main_while0b_v114 : Ref sig .tc := ⟨.hbm, 156, rfl⟩
abbrev main_while0b_v115 : Ref sig .tc := ⟨.hbm, 157, rfl⟩
abbrev main_while0b_v116 : Ref sig .tc := ⟨.hbm, 158, rfl⟩
abbrev main_while0b_v117 : Ref sig .tc := ⟨.hbm, 159, rfl⟩
abbrev main_while0b_v118 : Ref sig .tc := ⟨.hbm, 160, rfl⟩
abbrev main_while0b_v119 : Ref sig .tc := ⟨.hbm, 161, rfl⟩
abbrev main_while0b_v120 : Ref sig .tc := ⟨.hbm, 162, rfl⟩
abbrev main_while0b_v121 : Ref sig .tc := ⟨.hbm, 163, rfl⟩
abbrev main_while0b_v122 : Ref sig .tc := ⟨.hbm, 164, rfl⟩
abbrev main_while0b_v123 : Ref sig .tc := ⟨.hbm, 165, rfl⟩
abbrev main_while0b_v124 : Ref sig .tc := ⟨.hbm, 166, rfl⟩
abbrev main_while0b_v125 : Ref sig .tc := ⟨.hbm, 167, rfl⟩
abbrev main_while0b_v126 : Ref sig .tc := ⟨.hbm, 168, rfl⟩
abbrev main_while0b_v127 : Ref sig .tc := ⟨.hbm, 169, rfl⟩
abbrev main_while0b_v128 : Ref sig .tc := ⟨.hbm, 170, rfl⟩
abbrev main_while0b_v129 : Ref sig .tc := ⟨.hbm, 171, rfl⟩
abbrev main_while0b_v130 : Ref sig .tc := ⟨.hbm, 172, rfl⟩
abbrev main_while0b_v131 : Ref sig .tc := ⟨.hbm, 173, rfl⟩
abbrev main_while0b_v132 : Ref sig .tc := ⟨.hbm, 174, rfl⟩
abbrev main_while0b_v133 : Ref sig .tc := ⟨.hbm, 175, rfl⟩
abbrev main_while0b_v134 : Ref sig .tc := ⟨.hbm, 176, rfl⟩
abbrev main_while0b_v135 : Ref sig .tc := ⟨.hbm, 177, rfl⟩
abbrev main_while0b_call9_v0 : Ref sig .tc := ⟨.hbm, 178, rfl⟩
abbrev main_while0b_call9_c : Ref sig .tc := ⟨.hbm, 179, rfl⟩
abbrev main_while0b_call9_c_0 : Ref sig .tc := ⟨.hbm, 180, rfl⟩
abbrev main_while0b_call9_c_1 : Ref sig .tc := ⟨.hbm, 181, rfl⟩
abbrev main_while0b_call9_c_2 : Ref sig .tc := ⟨.hbm, 182, rfl⟩
abbrev main_while0b_call9_c_3 : Ref sig .tc := ⟨.hbm, 183, rfl⟩
abbrev main_while0b_v136 : Ref sig .tc := ⟨.hbm, 184, rfl⟩
abbrev main_while0b_c_16 : Ref sig .tc := ⟨.hbm, 185, rfl⟩
abbrev main_while0b_v137 : Ref sig .tc := ⟨.hbm, 186, rfl⟩
abbrev main_v55 : Ref sig .tc := ⟨.hbm, 187, rfl⟩
abbrev main_v56 : Ref sig .tc := ⟨.hbm, 188, rfl⟩
abbrev main_v57 : Ref sig .tc := ⟨.hbm, 189, rfl⟩
abbrev main_v58 : Ref sig .tc := ⟨.hbm, 190, rfl⟩
abbrev main_call10_v0 : Ref sig .tc := ⟨.hbm, 191, rfl⟩
abbrev main_call10_v1 : Ref sig .tc := ⟨.hbm, 192, rfl⟩
abbrev main_call10_cst : Ref sig .tc := ⟨.hbm, 193, rfl⟩
abbrev main_call10_v2 : Ref sig .tc := ⟨.hbm, 194, rfl⟩
abbrev main_call10_v3 : Ref sig .tc := ⟨.hbm, 195, rfl⟩
abbrev main_call10_cst_0 : Ref sig .tc := ⟨.hbm, 196, rfl⟩
abbrev main_call10_v4 : Ref sig .tc := ⟨.hbm, 197, rfl⟩
abbrev main_call10_v5 : Ref sig .tc := ⟨.hbm, 198, rfl⟩
abbrev main_v59 : Ref sig .tc := ⟨.hbm, 199, rfl⟩
abbrev main_v60 : Ref sig .tc := ⟨.hbm, 200, rfl⟩
abbrev main_v61 : Ref sig .tc := ⟨.hbm, 201, rfl⟩
abbrev main_v62 : Ref sig .tc := ⟨.hbm, 202, rfl⟩
abbrev main_cst_3 : Ref sig .tc := ⟨.hbm, 203, rfl⟩
abbrev main_v63 : Ref sig .tc := ⟨.hbm, 204, rfl⟩
abbrev main_v64 : Ref sig .tc := ⟨.hbm, 205, rfl⟩
abbrev main_cst_4 : Ref sig .tc := ⟨.hbm, 206, rfl⟩
abbrev main_v65 : Ref sig .tc := ⟨.hbm, 207, rfl⟩
abbrev main_v66 : Ref sig .tc := ⟨.hbm, 208, rfl⟩
abbrev main_cst_5 : Ref sig .tc := ⟨.hbm, 209, rfl⟩
abbrev main_v67 : Ref sig .tc := ⟨.hbm, 210, rfl⟩
abbrev main_v68 : Ref sig .tc := ⟨.hbm, 211, rfl⟩
abbrev main_v69 : Ref sig .tc := ⟨.hbm, 212, rfl⟩
abbrev main_v70 : Ref sig .tc := ⟨.hbm, 213, rfl⟩
abbrev main_v71 : Ref sig .tc := ⟨.hbm, 214, rfl⟩
abbrev main_v72 : Ref sig .tc := ⟨.hbm, 215, rfl⟩
abbrev main_v73 : Ref sig .tc := ⟨.hbm, 216, rfl⟩
abbrev main_v74 : Ref sig .tc := ⟨.hbm, 217, rfl⟩
abbrev main_v75 : Ref sig .tc := ⟨.hbm, 218, rfl⟩
abbrev main_v76 : Ref sig .tc := ⟨.hbm, 219, rfl⟩
abbrev main_v77 : Ref sig .tc := ⟨.hbm, 220, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x4096 : Shape := ⟨2, ![16384, 4096]⟩
abbrev S16384x26624 : Shape := ⟨2, ![16384, 26624]⟩
abbrev S4096x2048 : Shape := ⟨2, ![4096, 2048]⟩
abbrev S16384x2048 : Shape := ⟨2, ![16384, 2048]⟩
abbrev S512x4096 : Shape := ⟨2, ![512, 4096]⟩
abbrev S512x512 : Shape := ⟨2, ![512, 512]⟩
abbrev S4096x512 : Shape := ⟨2, ![4096, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x26624, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x2048, .bf16⟩
  | .hbm, ⟨7, _⟩ => ⟨S16384x2048, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4096x512, .bf16⟩
  | .local _ .vmem, ⟨9, _⟩ => ⟨S4096x512, .bf16⟩
  | .local _ .vmem, ⟨10, _⟩ => ⟨S4096x512, .bf16⟩
  | .local _ .vmem, ⟨11, _⟩ => ⟨S4096x512, .bf16⟩
  | .local _ .vmem, ⟨12, _⟩ => ⟨S512x512, .bf16⟩
  | .local _ .vmem, ⟨13, _⟩ => ⟨S512x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S16384x4096 : Shape := ⟨2, ![16384, 4096]⟩
abbrev S16384x26624 : Shape := ⟨2, ![16384, 26624]⟩
abbrev S4096x2048 : Shape := ⟨2, ![4096, 2048]⟩
abbrev S16384x2048 : Shape := ⟨2, ![16384, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x26624, .f32⟩
  | .hbm, ⟨3, _⟩ => ⟨S4096x2048, .f32⟩
  | .hbm, ⟨4, _⟩ => ⟨S4096x2048, .f32⟩
  | .hbm, ⟨5, _⟩ => ⟨S16384x4096, .f32⟩
  | .hbm, ⟨6, _⟩ => ⟨S16384x4096, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S16384x2048 : Shape := ⟨2, ![16384, 2048]⟩
abbrev S1x2048x11264 : Shape := ⟨3, ![1, 2048, 11264]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S1x2048x11264, .f32⟩
  | .hbm, ⟨2, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let v2 : BitVec 32 := Scalar.addi arg0 v1
  let c10_i32 : BitVec 32 := 10#32
  let v3 : BitVec 32 := Scalar.minsi v2 c10_i32
  let c0_i32 : BitVec 32 := 0#32
  let c0_i32_0 : BitVec 32 := 0#32
  let c0_i32_1 : BitVec 32 := 0#32
  ![c0_i32.toNat, c0_i32_0.toNat, v3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg1 c2_i32
  let v1 : BitVec 32 := Scalar.extui v0
  let v2 : BitVec 32 := Scalar.addi arg0 v1
  let c10_i32 : BitVec 32 := 10#32
  let v3 : BitVec 32 := Scalar.minsi v2 c10_i32
  let c11_i32 : BitVec 32 := 11#32
  let v4 : BitVec 32 := Scalar.addi c11_i32 v3
  let c0_i32 : BitVec 32 := 0#32
  let c0_i32_0 : BitVec 32 := 0#32
  let c0_i32_1 : BitVec 32 := 0#32
  ![c0_i32.toNat, c0_i32_0.toNat, v4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S1x2048x11264 : Shape := ⟨3, ![1, 2048, 11264]⟩
abbrev S2048x11264 : Shape := ⟨2, ![2048, 11264]⟩
abbrev S16384x11264 : Shape := ⟨2, ![16384, 11264]⟩
abbrev S16384x5632 : Shape := ⟨2, ![16384, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x11264, .f32⟩
  | .hbm, ⟨2, _⟩ => ⟨S16384x2048, .f32⟩
  | .hbm, ⟨3, _⟩ => ⟨S2048x11264, .f32⟩
  | .hbm, ⟨4, _⟩ => ⟨S16384x11264, .f32⟩
  | .hbm, ⟨5, _⟩ => ⟨S16384x5632, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S_, .f32⟩
  | .hbm, ⟨10, _⟩ => ⟨S16384x5632, .f32⟩
  | .hbm, ⟨11, _⟩ => ⟨S16384x5632, .f32⟩
  | .hbm, ⟨12, _⟩ => ⟨S_, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel4.lean ====
abbrev S16384x2048 : Shape := ⟨2, ![16384, 2048]⟩
abbrev S1x2048x26752 : Shape := ⟨3, ![1, 2048, 26752]⟩
abbrev S16384x26624 : Shape := ⟨2, ![16384, 26624]⟩
abbrev S1024x2048 : Shape := ⟨2, ![1024, 2048]⟩
abbrev S1x1024x1024 : Shape := ⟨3, ![1, 1024, 1024]⟩
abbrev S1x2048x128 : Shape := ⟨3, ![1, 2048, 128]⟩
abbrev S1024x1024 : Shape := ⟨2, ![1024, 1024]⟩
abbrev S2048x1024 : Shape := ⟨2, ![2048, 1024]⟩
abbrev S1x256x1024 : Shape := ⟨3, ![1, 256, 1024]⟩
abbrev S256x1024 : Shape := ⟨2, ![256, 1024]⟩
abbrev S1x256x960 : Shape := ⟨3, ![1, 256, 960]⟩
abbrev S256x960 : Shape := ⟨2, ![256, 960]⟩
abbrev S1x256x64 : Shape := ⟨3, ![1, 256, 64]⟩
abbrev S256x64 : Shape := ⟨2, ![256, 64]⟩
abbrev S1x256x896 : Shape := ⟨3, ![1, 256, 896]⟩
abbrev S256x896 : Shape := ⟨2, ![256, 896]⟩
abbrev S1x256x128 : Shape := ⟨3, ![1, 256, 128]⟩
abbrev S256x128 : Shape := ⟨2, ![256, 128]⟩

abbrev nBuf : Space → Nat
  | .hbm => 3
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S1x2048x26752, .f32⟩
  | .hbm, ⟨2, _⟩ => ⟨S16384x26624, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x2048x128, .f32⟩
  | .local _ .vmem, ⟨7, _⟩ => ⟨S1x2048x128, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![26, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let v2 : BitVec 32 := Scalar.addi arg0 v1
  let c25_i32 : BitVec 32 := 25#32
  let v3 : BitVec 32 := Scalar.minsi v2 c25_i32
  let c0_i32 : BitVec 32 := 0#32
  let c0_i32_0 : BitVec 32 := 0#32
  let c0_i32_1 : BitVec 32 := 0#32
  ![c0_i32.toNat, c0_i32_0.toNat, v3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg1 c2_i32
  let v1 : BitVec 32 := Scalar.extui v0
  let v2 : BitVec 32 := Scalar.addi arg0 v1
  let c25_i32 : BitVec 32 := 25#32
  let v3 : BitVec 32 := Scalar.minsi v2 c25_i32
  let c0_i32 : BitVec 32 := 0#32
  let c1_i32 : BitVec 32 := 1#32
  let c0_i32_0 : BitVec 32 := 0#32
  ![c0_i32.toNat, c1_i32.toNat, v3.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .sge arg1 c3_i32
  let v1 : BitVec 32 := Scalar.extui v0
  let v2 : BitVec 32 := Scalar.addi arg0 v1
  let c25_i32 : BitVec 32 := 25#32
  let v3 : BitVec 32 := Scalar.minsi v2 c25_i32
  let c1_i32 : BitVec 32 := 1#32
  let v4 : BitVec 32 := Scalar.addi v3 c1_i32
  let c8_i32 : BitVec 32 := 8#32
  let v5 : BitVec 32 := Scalar.muli v4 c8_i32
  let c0_i32 : BitVec 32 := 0#32
  let c0_i32_0 : BitVec 32 := 0#32
  let c0_i32_1 : BitVec 32 := 0#32
  ![c0_i32.toNat, c0_i32_0.toNat, v5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x2048 : Shape := ⟨2, ![16384, 2048]⟩
abbrev S1x2048x26752 : Shape := ⟨3, ![1, 2048, 26752]⟩
abbrev S2048x26752 : Shape := ⟨2, ![2048, 26752]⟩
abbrev S16384x26752 : Shape := ⟨2, ![16384, 26752]⟩
abbrev S16384x4096 : Shape := ⟨2, ![16384, 4096]⟩
abbrev S16384x6144 : Shape := ⟨2, ![16384, 6144]⟩
abbrev S16384x64 : Shape := ⟨2, ![16384, 64]⟩
abbrev S16384x8192 : Shape := ⟨2, ![16384, 8192]⟩
abbrev S16384x32 : Shape := ⟨2, ![16384, 32]⟩
abbrev S16384x26624 : Shape := ⟨2, ![16384, 26624]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x26752, .f32⟩
  | .hbm, ⟨2, _⟩ => ⟨S16384x2048, .f32⟩
  | .hbm, ⟨3, _⟩ => ⟨S2048x26752, .f32⟩
  | .hbm, ⟨4, _⟩ => ⟨S16384x26752, .f32⟩
  | .hbm, ⟨5, _⟩ => ⟨S16384x4096, .f32⟩
  | .hbm, ⟨6, _⟩ => ⟨S16384x6144, .f32⟩
  | .hbm, ⟨7, _⟩ => ⟨S16384x64, .f32⟩
  | .hbm, ⟨8, _⟩ => ⟨S16384x8192, .f32⟩
  | .hbm, ⟨9, _⟩ => ⟨S16384x4096, .f32⟩
  | .hbm, ⟨10, _⟩ => ⟨S16384x32, .f32⟩
  | .hbm, ⟨11, _⟩ => ⟨S16384x32, .f32⟩
  | .hbm, ⟨12, _⟩ => ⟨S16384x2048, .f32⟩
  | .hbm, ⟨13, _⟩ => ⟨S16384x2048, .f32⟩
  | .hbm, ⟨14, _⟩ => ⟨S16384x26624, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel5.lean ====
abbrev S16384x5632 : Shape := ⟨2, ![16384, 5632]⟩
abbrev S5632x2048 : Shape := ⟨2, ![5632, 2048]⟩
abbrev S4x4096x2048 : Shape := ⟨3, ![4, 4096, 2048]⟩
abbrev S4x12288 : Shape := ⟨2, ![4, 12288]⟩
abbrev S2048 : Shape := ⟨1, ![2048]⟩
abbrev S4x1x12288 : Shape := ⟨3, ![4, 1, 12288]⟩
abbrev S1x2048 : Shape := ⟨2, ![1, 2048]⟩
abbrev S512x5632 : Shape := ⟨2, ![512, 5632]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S4x4096x2048, .f32⟩
  | .hbm, ⟨3, _⟩ => ⟨S4x12288, .f32⟩
  | .hbm, ⟨4, _⟩ => ⟨S2048, .f32⟩
  | .hbm, ⟨5, _⟩ => ⟨S5632x2048, .bf16⟩
  | .hbm, ⟨6, _⟩ => ⟨S4x1x12288, .f32⟩
  | .hbm, ⟨7, _⟩ => ⟨S1x2048, .f32⟩
  | .hbm, ⟨8, _⟩ => ⟨S4x4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x512x2048, .f32⟩
  | .local _ .vmem, ⟨9, _⟩ => ⟨S1x512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16384x5632 : Shape := ⟨2, ![16384, 5632]⟩
abbrev S5632x2048 : Shape := ⟨2, ![5632, 2048]⟩
abbrev S4x4096x2048 : Shape := ⟨3, ![4, 4096, 2048]⟩
abbrev S4x12288 : Shape := ⟨2, ![4, 12288]⟩
abbrev S2048 : Shape := ⟨1, ![2048]⟩
abbrev S4x2048 : Shape := ⟨2, ![4, 2048]⟩
abbrev S4x1x2048 : Shape := ⟨3, ![4, 1, 2048]⟩
abbrev S16384x2048 : Shape := ⟨2, ![16384, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S4x4096x2048, .f32⟩
  | .hbm, ⟨3, _⟩ => ⟨S4x12288, .f32⟩
  | .hbm, ⟨4, _⟩ => ⟨S2048, .f32⟩
  | .hbm, ⟨5, _⟩ => ⟨S4x2048, .f32⟩
  | .hbm, ⟨6, _⟩ => ⟨S4x1x2048, .f32⟩
  | .hbm, ⟨7, _⟩ => ⟨S16384x5632, .f32⟩
  | .hbm, ⟨8, _⟩ => ⟨S16384x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S1x1x2048, .f32⟩
  | .hbm, ⟨27, _⟩ => ⟨S4x4096x2048, .f32⟩
  | .hbm, ⟨28, _⟩ => ⟨S4x4096x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel6.lean ====
abbrev S16384x2048 : Shape := ⟨2, ![16384, 2048]⟩
abbrev S2048x2048 : Shape := ⟨2, ![2048, 2048]⟩
abbrev S4x4096x2048 : Shape := ⟨3, ![4, 4096, 2048]⟩
abbrev S4x12288 : Shape := ⟨2, ![4, 12288]⟩
abbrev S2048 : Shape := ⟨1, ![2048]⟩
abbrev S4x1x12288 : Shape := ⟨3, ![4, 1, 12288]⟩
abbrev S1x2048 : Shape := ⟨2, ![1, 2048]⟩
abbrev S512x2048 : Shape := ⟨2, ![512, 2048]⟩
abbrev S1x512x2048 : Shape := ⟨3, ![1, 512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S4x4096x2048, .f32⟩
  | .hbm, ⟨3, _⟩ => ⟨S4x12288, .f32⟩
  | .hbm, ⟨4, _⟩ => ⟨S2048, .f32⟩
  | .hbm, ⟨5, _⟩ => ⟨S2048x2048, .bf16⟩
  | .hbm, ⟨6, _⟩ => ⟨S4x1x12288, .f32⟩
  | .hbm, ⟨7, _⟩ => ⟨S1x2048, .f32⟩
  | .hbm, ⟨8, _⟩ => ⟨S4x4096x2048, .f32⟩
  | .hbm, ⟨9, _⟩ => ⟨S4x4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x512x2048, .f32⟩
  | .local _ .vmem, ⟨13, _⟩ => ⟨S1x512x2048, .f32⟩
  | .local _ .vmem, ⟨14, _⟩ => ⟨S1x512x2048, .bf16⟩
  | .local _ .vmem, ⟨15, _⟩ => ⟨S1x512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S16384x2048 : Shape := ⟨2, ![16384, 2048]⟩
abbrev S2048x2048 : Shape := ⟨2, ![2048, 2048]⟩
abbrev S4x4096x2048 : Shape := ⟨3, ![4, 4096, 2048]⟩
abbrev S4x12288 : Shape := ⟨2, ![4, 12288]⟩
abbrev S2048 : Shape := ⟨1, ![2048]⟩
abbrev S4x2048 : Shape := ⟨2, ![4, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S4x4096x2048, .f32⟩
  | .hbm, ⟨3, _⟩ => ⟨S4x12288, .f32⟩
  | .hbm, ⟨4, _⟩ => ⟨S2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x1x2048, .f32⟩
  | .hbm, ⟨9, _⟩ => ⟨S16384x2048, .f32⟩
  | .hbm, ⟨10, _⟩ => ⟨S16384x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x2048, .f32⟩
  | .hbm, ⟨27, _⟩ => ⟨S4x4096x2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S4x1x2048, .f32⟩
  | .hbm, ⟨32, _⟩ => ⟨S_, .f32⟩
  | .hbm, ⟨33, _⟩ => ⟨S4x1x2048, .f32⟩
  | .hbm, ⟨34, _⟩ => ⟨S4x1x2048, .f32⟩
  | .hbm, ⟨35, _⟩ => ⟨S4x4096x2048, .f32⟩
  | .hbm, ⟨36, _⟩ => ⟨S4x4096x2048, .f32⟩
  | .hbm, ⟨37, _⟩ => ⟨S4x1x2048, .f32⟩
  | .hbm, ⟨38, _⟩ => ⟨S4x4096x2048, .f32⟩
  | .hbm, ⟨39, _⟩ => ⟨S4x4096x2048, .f32⟩
  | .hbm, ⟨40, _⟩ => ⟨S4x4096x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel7.lean ====
abbrev S4x2048 : Shape := ⟨2, ![4, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S4x12288 : Shape := ⟨2, ![4, 12288]⟩
abbrev S2048x1024 : Shape := ⟨2, ![2048, 1024]⟩
abbrev S1x1024 : Shape := ⟨2, ![1, 1024]⟩
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S4x12288, .f32⟩
  | .local _ .vmem, ⟨0, _⟩ => ⟨S4x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S4x1024, .f32⟩
  | .local _ .vmem, ⟨6, _⟩ => ⟨S4x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x2048 : Shape := ⟨2, ![4, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S4x12288 : Shape := ⟨2, ![4, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S1x2048x12288, .f32⟩
  | .hbm, ⟨2, _⟩ => ⟨S1x12288, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S2048x12288, .f32⟩
  | .hbm, ⟨13, _⟩ => ⟨S4x12288, .f32⟩
  | .hbm, ⟨14, _⟩ => ⟨S12288, .f32⟩
  | .hbm, ⟨15, _⟩ => ⟨S1x12288, .f32⟩
  | .hbm, ⟨16, _⟩ => ⟨S4x12288, .f32⟩
  | .hbm, ⟨17, _⟩ => ⟨S4x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel8.lean ====
abbrev S4x4096x2048 : Shape := ⟨3, ![4, 4096, 2048]⟩
abbrev S1x2048 : Shape := ⟨2, ![1, 2048]⟩
abbrev S4x12288 : Shape := ⟨2, ![4, 12288]⟩
abbrev S2048 : Shape := ⟨1, ![2048]⟩
abbrev S4x1x12288 : Shape := ⟨3, ![4, 1, 12288]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S4x12288, .f32⟩
  | .hbm, ⟨3, _⟩ => ⟨S2048, .f32⟩
  | .hbm, ⟨4, _⟩ => ⟨S4x1x12288, .f32⟩
  | .hbm, ⟨5, _⟩ => ⟨S1x2048, .f32⟩
  | .hbm, ⟨6, _⟩ => ⟨S4x4096x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .bf16⟩
  | .local _ .vmem, ⟨8, _⟩ => ⟨S1x512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S4x4096x2048 : Shape := ⟨3, ![4, 4096, 2048]⟩
abbrev S1x2048 : Shape := ⟨2, ![1, 2048]⟩
abbrev S4x12288 : Shape := ⟨2, ![4, 12288]⟩
abbrev S4x2048 : Shape := ⟨2, ![4, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S4x12288, .f32⟩
  | .hbm, ⟨3, _⟩ => ⟨S4x2048, .f32⟩
  | .hbm, ⟨4, _⟩ => ⟨S4x2048, .f32⟩
  | .hbm, ⟨5, _⟩ => ⟨S2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S4x1x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x4096x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel9.lean ====
abbrev S16384x2048 : Shape := ⟨2, ![16384, 2048]⟩
abbrev S1x2048x26752 : Shape := ⟨3, ![1, 2048, 26752]⟩
abbrev S2048x26752 : Shape := ⟨2, ![2048, 26752]⟩
abbrev S2048x64 : Shape := ⟨2, ![2048, 64]⟩
abbrev S2048x128 : Shape := ⟨2, ![2048, 128]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 7
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S1x2048x26752, .f32⟩
  | .hbm, ⟨2, _⟩ => ⟨S2048x26752, .f32⟩
  | .hbm, ⟨3, _⟩ => ⟨S2048x64, .f32⟩
  | .hbm, ⟨4, _⟩ => ⟨S2048x64, .f32⟩
  | .hbm, ⟨5, _⟩ => ⟨S2048x128, .f32⟩
  | .hbm, ⟨6, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .f32⟩
  | .local _ .vmem, ⟨3, _⟩ => ⟨S1024x128, .f32⟩
  | .local _ .vmem, ⟨4, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S16384x2048 : Shape := ⟨2, ![16384, 2048]⟩
abbrev S1x2048x26752 : Shape := ⟨3, ![1, 2048, 26752]⟩
abbrev S2048x26752 : Shape := ⟨2, ![2048, 26752]⟩
abbrev S16384x26752 : Shape := ⟨2, ![16384, 26752]⟩
abbrev S16384x4096 : Shape := ⟨2, ![16384, 4096]⟩
abbrev S16384x6144 : Shape := ⟨2, ![16384, 6144]⟩
abbrev S16384x64 : Shape := ⟨2, ![16384, 64]⟩
abbrev S16384x8192 : Shape := ⟨2, ![16384, 8192]⟩
abbrev S16384x32 : Shape := ⟨2, ![16384, 32]⟩
abbrev S16384x128 : Shape := ⟨2, ![16384, 128]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x26752, .f32⟩
  | .hbm, ⟨2, _⟩ => ⟨S16384x2048, .f32⟩
  | .hbm, ⟨3, _⟩ => ⟨S2048x26752, .f32⟩
  | .hbm, ⟨4, _⟩ => ⟨S16384x26752, .f32⟩
  | .hbm, ⟨5, _⟩ => ⟨S16384x4096, .f32⟩
  | .hbm, ⟨6, _⟩ => ⟨S16384x6144, .f32⟩
  | .hbm, ⟨7, _⟩ => ⟨S16384x64, .f32⟩
  | .hbm, ⟨8, _⟩ => ⟨S16384x8192, .f32⟩
  | .hbm, ⟨9, _⟩ => ⟨S16384x4096, .f32⟩
  | .hbm, ⟨10, _⟩ => ⟨S16384x32, .f32⟩
  | .hbm, ⟨11, _⟩ => ⟨S16384x32, .f32⟩
  | .hbm, ⟨12, _⟩ => ⟨S16384x2048, .f32⟩
  | .hbm, ⟨13, _⟩ => ⟨S16384x2048, .f32⟩
  | .hbm, ⟨14, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Proof.MergeVal.lean ====
/- The merge of the two mixers: the array that the kernel leaves is the reference's gated sum of two products. -/
module

public import proofs.«01_k».proof.Proof.Gen.Kernel2Ideal.Value
public import proofs.«01_k».proof.Proof.Gen.Reference2Ideal
public import Idealize.ShloMosaic.Lib.Pipeline.ValueKit

@[expose] public section

set_option maxRecDepth 16384

noncomputable section

namespace Cert.Reference2Ideal.Val

open Idealize.ShloMosaic Cert.Reference2Ideal Cert.Reference2Ideal.Gen

/-- The reference of its five arguments. -/
def REF (a0 a1 : FVec Ideal S16384x4096 .bf16) (a2 : FVec Ideal S16384x26624 .f32) (a3 a4 : FVec Ideal S4096x2048 .f32) : FVec Ideal S16384x2048 .bf16 :=
  truncf .bf16 (addf (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 22528] a2 slices_S16384x26624_S16384x2048_0_22528))))) (Host.dotGeneral dot_S16384x4096_S4096x2048_S16384x2048_1_0_0_1_n_n none (extf .f32 a0 bitsLt_bf16_f32) a3)) (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 24576] a2 slices_S16384x26624_S16384x2048_0_24576))))) (Host.dotGeneral dot_S16384x4096_S4096x2048_S16384x2048_1_0_0_1_n_n none (extf .f32 a1 bitsLt_bf16_f32) a4))) bitsLt_bf16_f32

end Cert.Reference2Ideal.Val

namespace Cert.Kernel2Ideal.Val

open Idealize.ShloMosaic Idealize.ShloMosaic.TcCoe Idealize.SL.Sem
open Cert.Kernel2Ideal Cert.Kernel2Ideal.Gen Cert.Reference2Ideal.Val

variable (m : (ℓ : Loc nD τ sig) → Buf (Elt Ideal) ℓ)

/-- Where each window's block lies at a point of the grid. -/
theorem idx : ∀ t : Fin cfg0.N, win0_0.index t = ![t.val % 32, 0] ∧ win0_1.index t = ![t.val % 32, 0]
    ∧ win0_2.index t = ![t.val % 32, 44 + t.val / 32] ∧ win0_3.index t = ![t.val % 32, 48 + t.val / 32]
    ∧ win0_4.index t = ![0, t.val / 32] ∧ win0_5.index t = ![0, t.val / 32] ∧ win0_6.index t = ![t.val % 32, t.val / 32] :=
  (by decide +kernel : ∀ t : Fin grid0.N, _)

/-- One tile of the kernel is the reference's tile. -/
theorem point (c : Dev nD) (t : Fin cfg0.N) (y : S512x512.Idx) :
    k0_pay1 (iblk m c 0 t) (iblk m c 4 t) (iblk m c 1 t) (iblk m c 5 t) (iblk m c 2 t) (iblk m c 3 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  pointwise [k0_pay1, REF]
  simp only [zero_sub]
  blk_point [iblk, V, idx t]

/-- The array after the run. -/
theorem final (c : Dev nD) : (dats m 0 c).arrAt 6 cfg0.N
    = REF (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.Kernel2Ideal.Val

end
-- ==== Proof.GateUpVal.lean ====
/- The feed-forward part's first half: the array that the kernel leaves is the reference's gated product. -/
module

public import proofs.«01_k».proof.Proof.Gen.Kernel3Ideal.Frame
public import proofs.«01_k».proof.Proof.Gen.Reference3Ideal
public import Idealize.ShloMosaic.Lib.Pipeline.ValueKit

@[expose] public section

set_option maxRecDepth 16384

noncomputable section

namespace Cert.Reference3Ideal.Val

open Idealize.ShloMosaic Cert.Reference3Ideal Cert.Reference3Ideal.Gen

/-- The reference of its two arguments. -/
def REF (a0 : FVec Ideal S16384x2048 .bf16) (a1 : FVec Ideal S1x2048x11264 .f32) : FVec Ideal S16384x5632 .bf16 :=
  truncf .bf16 (mulf (mulf (extractStridedSlice S16384x5632 ![0, 0] (Host.dotGeneral dot_S16384x2048_S2048x11264_S16384x11264_1_0_0_1_n_n none (extf .f32 a0 bitsLt_bf16_f32) (shapeCast _ a1 shapeCasts_S1x2048x11264_S2048x11264)) slices_S16384x11264_S16384x5632_0_0) (Host.divf (broadcastInDim S16384x5632 ![] bcast_S_S16384x5632 (constant S_ .f32 0x3F800000#32)) (addf (broadcastInDim S16384x5632 ![] bcast_S_S16384x5632 (constant S_ .f32 0x3F800000#32)) (Host.exp (Host.negf (extractStridedSlice S16384x5632 ![0, 0] (Host.dotGeneral dot_S16384x2048_S2048x11264_S16384x11264_1_0_0_1_n_n none (extf .f32 a0 bitsLt_bf16_f32) (shapeCast _ a1 shapeCasts_S1x2048x11264_S2048x11264)) slices_S16384x11264_S16384x5632_0_0)))))) (extractStridedSlice S16384x5632 ![0, 5632] (Host.dotGeneral dot_S16384x2048_S2048x11264_S16384x11264_1_0_0_1_n_n none (extf .f32 a0 bitsLt_bf16_f32) (shapeCast _ a1 shapeCasts_S1x2048x11264_S2048x11264)) slices_S16384x11264_S16384x5632_0_5632)) bitsLt_bf16_f32

end Cert.Reference3Ideal.Val

namespace Cert.Kernel3Ideal.Val

open Idealize.ShloMosaic Idealize.ShloMosaic.TcCoe Idealize.SL.Sem
open Cert.Kernel3Ideal Cert.Kernel3Ideal.Gen Cert.Reference3Ideal.Val

variable (m : (ℓ : Loc nD τ sig) → Buf (Elt Ideal) ℓ)

/-- Where each window's block lies: the two weight blocks at the first point of a column of tiles, the rest at every point. -/
theorem idx : ∀ t : Fin cfg0.N, win0_0.index t = ![t.val % 16, 0] ∧ win0_3.index t = ![t.val % 16, t.val / 16] :=
  (by decide +kernel : ∀ t : Fin grid0.N, _)
theorem idxW : ∀ t : Fin cfg0.N, t.val % 16 = 0 → win0_1.index t = ![0, 0, t.val / 16] ∧ win0_2.index t = ![0, 0, 11 + t.val / 16] :=
  (by decide +kernel : ∀ t : Fin grid0.N, t.val % 16 = 0 → _)

/-- The gate's weights of column `j` of tiles, and the up part's. -/
def wg (c : Dev nD) (j : ℕ) (hj : 16 * j < cfg0.N) : FVec Ideal S2048x512 .bf16 := k0_pay1 (iblk m c 1 ⟨16 * j, hj⟩)
def wu (c : Dev nD) (j : ℕ) (hj : 16 * j < cfg0.N) : FVec Ideal S2048x512 .bf16 := k0_pay2 (iblk m c 2 ⟨16 * j, hj⟩)

theorem wg_congr (c : Dev nD) {j j' : ℕ} (e : j = j') (hj : 16 * j < cfg0.N) (hj' : 16 * j' < cfg0.N) : wg m c j hj = wg m c j' hj' := by
  subst e; rfl
theorem wu_congr (c : Dev nD) {j j' : ℕ} (e : j = j') (hj : 16 * j < cfg0.N) (hj' : 16 * j' < cfg0.N) : wu m c j hj = wu m c j' hj' := by
  subst e; rfl

theorem first (c : Dev nD) (t : Fin cfg0.N) (h0 : t.val % 16 = 0) (hj : 16 * (t.val / 16) < cfg0.N) :
    iblk m c 1 ⟨16 * (t.val / 16), hj⟩ = iblk m c 1 t ∧ iblk m c 2 ⟨16 * (t.val / 16), hj⟩ = iblk m c 2 t := by
  have e : (⟨16 * (t.val / 16), hj⟩ : Fin cfg0.N) = t := Fin.ext (by show 16 * (t.val / 16) = t.val; omega)
  rw [e]; exact ⟨rfl, rfl⟩

/-- The first point of a column keeps the column's weights. -/
theorem keptA (c : Dev nD) (t : Fin cfg0.N) (h0 : t.val % 16 = 0) (hj : 16 * (t.val / 16) < cfg0.N) :
    (outsAt0 m c t.val t.isLt).2.1 = wg m c (t.val / 16) hj ∧ (outsAt0 m c t.val t.isLt).2.2 = wu m c (t.val / 16) hj
      ∧ (outsAt0 m c t.val t.isLt).1 = k0_pay3 (iblk m c 0 t) (wg m c (t.val / 16) hj) (wu m c (t.val / 16) hj) := by
  obtain ⟨e1, e2⟩ := first m c t h0 hj
  unfold wg wu
  rw [e1, e2, outsAt0_A m c t h0]
  dsimp only
  refine ⟨?_, ?_, ?_⟩ <;> frame_out

/-- The later points leave them. -/
theorem keptB (c : Dev nD) (t : Fin cfg0.N) (h0 : ¬t.val % 16 = 0) (hp : t.val - 1 < cfg0.N) :
    (outsAt0 m c t.val t.isLt).2.1 = (outsAt0 m c (t.val - 1) hp).2.1 ∧ (outsAt0 m c t.val t.isLt).2.2 = (outsAt0 m c (t.val - 1) hp).2.2
      ∧ (outsAt0 m c t.val t.isLt).1 = k0_pay3 (iblk m c 0 t) (outsAt0 m c (t.val - 1) hp).2.1 (outsAt0 m c (t.val - 1) hp).2.2 := by
  rw [outsAt0_B m c t h0]
  dsimp only
  refine ⟨rfl, rfl, ?_⟩
  frame_out
  congr 1 <;> exact Memref.IsWhole.read_unread _ _

/-- Through a column of tiles the two buffers hold that column's weights. -/
theorem kept (c : Dev nD) : ∀ (n : ℕ) (h : n < cfg0.N) (hj : 16 * (n / 16) < cfg0.N),
    (outsAt0 m c n h).2.1 = wg m c (n / 16) hj ∧ (outsAt0 m c n h).2.2 = wu m c (n / 16) hj := by
  intro n
  induction n with
  | zero => intro h hj; exact ⟨(keptA m c ⟨0, h⟩ rfl hj).1, (keptA m c ⟨0, h⟩ rfl hj).2.1⟩
  | succ n ih =>
    intro h hj
    by_cases h0 : (n + 1) % 16 = 0
    · exact ⟨(keptA m c ⟨n + 1, h⟩ h0 hj).1, (keptA m c ⟨n + 1, h⟩ h0 hj).2.1⟩
    · obtain ⟨i1, i2⟩ := ih (by omega) (by omega)
      have b := keptB m c ⟨n + 1, h⟩ h0 (Nat.lt_of_succ_lt h)
      exact ⟨b.1.trans (i1.trans (wg_congr m c (by omega) _ _)), b.2.1.trans (i2.trans (wu_congr m c (by omega) _ _))⟩

/-- What a point leaves in the result's buffer. -/
theorem left (c : Dev nD) (t : Fin cfg0.N) (hj : 16 * (t.val / 16) < cfg0.N) : (outsAt0 m c t.val t.isLt).1
    = k0_pay3 (iblk m c 0 t) (wg m c (t.val / 16) hj) (wu m c (t.val / 16) hj) := by
  by_cases h0 : t.val % 16 = 0
  · exact (keptA m c t h0 hj).2.2
  · have hp : t.val - 1 < cfg0.N := Nat.lt_of_le_of_lt (Nat.sub_le _ _) t.isLt
    obtain ⟨i1, i2⟩ := kept m c (t.val - 1) hp (by omega)
    rw [(keptB m c t h0 hp).2.2, i1, i2, wg_congr m c (show (t.val - 1) / 16 = t.val / 16 by omega) _ hj,
      wu_congr m c (show (t.val - 1) / 16 = t.val / 16 by omega) _ hj]

theorem read_wg (c : Dev nD) (j : ℕ) (hj : 16 * j < cfg0.N) (k : Fin 2048) (l : Fin 512) (hb : j * 512 + l.val < 11264) :
    wg m c j hj (ix2 k l) = m ((c : Thread nD τ).loc main_arg1) (ix3 0 k ⟨j * 512 + l.val, hb⟩) := by
  have e := (idxW ⟨16 * j, hj⟩ (by show 16 * j % 16 = 0; omega)).1
  have e' : (16 * j) / 16 = j := by omega
  simp only [e'] at e
  unfold wg
  pointwise [k0_pay1]
  blk_point [iblk, V, e]

theorem read_wu (c : Dev nD) (j : ℕ) (hj : 16 * j < cfg0.N) (k : Fin 2048) (l : Fin 512) (hb : 5632 + (j * 512 + l.val) < 11264) :
    wu m c j hj (ix2 k l) = m ((c : Thread nD τ).loc main_arg1) (ix3 0 k ⟨5632 + (j * 512 + l.val), hb⟩) := by
  have e := (idxW ⟨16 * j, hj⟩ (by show 16 * j % 16 = 0; omega)).2
  have e' : (16 * j) / 16 = j := by omega
  simp only [e'] at e
  unfold wu
  pointwise [k0_pay2]
  blk_point [iblk, V, e]

/-- One tile of the kernel is the reference's tile. -/
theorem point (c : Dev nD) (t : Fin cfg0.N) (y : S1024x512.Idx) :
    k0_pay3 (iblk m c 0 t) (wg m c (t.val / 16) (by omega)) (wu m c (t.val / 16) (by omega)) y
      = REF (m ((c : Thread nD τ).loc main_arg0)) (m ((c : Thread nD τ).loc main_arg1)) (((cfg0.win 3).blk t).view.emb y) := by
  have hy1 : (y 1).val < 512 := (y 1).isLt
  have hN : t.val < 176 := lt_of_lt_of_eq t.isLt N_0
  pointwise [k0_pay3, REF]
  have hg : ∀ k : Fin 2048, wg m c (t.val / 16) (by omega) (ix2 k (y 1)) = m ((c : Thread nD τ).loc main_arg1) (ix3 0 k ⟨t.val / 16 * 512 + (y 1).val, by omega⟩) :=
    fun k => read_wg m c _ _ k (y 1) _
  have hu : ∀ k : Fin 2048, wu m c (t.val / 16) (by omega) (ix2 k (y 1)) = m ((c : Thread nD τ).loc main_arg1) (ix3 0 k ⟨5632 + (t.val / 16 * 512 + (y 1).val), by omega⟩) :=
    fun k => read_wu m c _ _ k (y 1) _
  simp only [hg, hu, zero_sub]
  blk_point [iblk, V, idx t]

/-- The array after the run. -/
theorem final (c : Dev nD) : (dats m 0 c).arrAt 3 cfg0.N
    = REF (m ((c : Thread nD τ).loc main_arg0)) (m ((c : Thread nD τ).loc main_arg1)) := by
  refine (dats m 0 c).arrAt_eq_of_covers 3 _ (by decide +kernel) fun t _ y => ?_
  blk_simp
  rw [after0_3, left m c t (by omega)]
  exact point m c t y

/-- The kernel's run: the result, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = REF (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel3Ideal.Val

end
-- ==== Proof.InProjVal.lean ====
/- The input projection: the array that the kernel leaves is the reference's product without its three narrow parts. -/
module

public import proofs.«01_k».proof.Proof.Gen.Kernel4Ideal.Frame
public import proofs.«01_k».proof.Proof.Gen.Reference4Ideal
public import Idealize.ShloMosaic.Lib.Pipeline.ValueKit

@[expose] public section

set_option maxRecDepth 16384

noncomputable section

namespace Cert.Reference4Ideal.Val

open Idealize.ShloMosaic Cert.Reference4Ideal Cert.Reference4Ideal.Gen

/-- The reference of its two arguments. -/
def REF (a0 : FVec Ideal S16384x2048 .bf16) (a1 : FVec Ideal S1x2048x26752 .f32) : FVec Ideal S16384x26624 .f32 :=
  (concatenate S16384x26624 1 [⟨S16384x4096, ((extractStridedSlice S16384x4096 ![0, 0] (Host.dotGeneral dot_S16384x2048_S2048x26752_S16384x26752_1_0_0_1_n_n none (extf .f32 a0 bitsLt_bf16_f32) (shapeCast _ a1 shapeCasts_S1x2048x26752_S2048x26752)) slices_S16384x26752_S16384x4096_0_0))⟩, ⟨S16384x6144, ((extractStridedSlice S16384x6144 ![0, 4096] (Host.dotGeneral dot_S16384x2048_S2048x26752_S16384x26752_1_0_0_1_n_n none (extf .f32 a0 bitsLt_bf16_f32) (shapeCast _ a1 shapeCasts_S1x2048x26752_S2048x26752)) slices_S16384x26752_S16384x6144_0_4096))⟩, ⟨S16384x8192, ((extractStridedSlice S16384x8192 ![0, 10304] (Host.dotGeneral dot_S16384x2048_S2048x26752_S16384x26752_1_0_0_1_n_n none (extf .f32 a0 bitsLt_bf16_f32) (shapeCast _ a1 shapeCasts_S1x2048x26752_S2048x26752)) slices_S16384x26752_S16384x8192_0_10304))⟩, ⟨S16384x4096, ((extractStridedSlice S16384x4096 ![0, 18496] (Host.dotGeneral dot_S16384x2048_S2048x26752_S16384x26752_1_0_0_1_n_n none (extf .f32 a0 bitsLt_bf16_f32) (shapeCast _ a1 shapeCasts_S1x2048x26752_S2048x26752)) slices_S16384x26752_S16384x4096_0_18496))⟩, ⟨S16384x2048, ((extractStridedSlice S16384x2048 ![0, 22656] (Host.dotGeneral dot_S16384x2048_S2048x26752_S16384x26752_1_0_0_1_n_n none (extf .f32 a0 bitsLt_bf16_f32) (shapeCast _ a1 shapeCasts_S1x2048x26752_S2048x26752)) slices_S16384x26752_S16384x2048_0_22656))⟩, ⟨S16384x2048, ((extractStridedSlice S16384x2048 ![0, 24704] (Host.dotGeneral dot_S16384x2048_S2048x26752_S16384x26752_1_0_0_1_n_n none (extf .f32 a0 bitsLt_bf16_f32) (shapeCast _ a1 shapeCasts_S1x2048x26752_S2048x26752)) slices_S16384x26752_S16384x2048_0_24704))⟩] concatenates_S16384x4096_S16384x6144_S16384x8192_S16384x4096_S16384x2048_S16384x2048_S16384x26624_d1)

/-- How far the columns of tile `n` lie to the right in the weights. -/
def shift (n : ℕ) : ℕ := if n < 10 then 0 else if n < 22 then 64 else 128

/-- The reference at an index: a row against one column of the weights. -/
theorem REF_apply (a0 : FVec Ideal S16384x2048 .bf16) (a1 : FVec Ideal S1x2048x26752 .f32) (y : S16384x26624.Idx)
    (q : Fin 26752) (hq : q.val = (y 1).val + shift ((y 1).val / 1024)) :
    REF a0 a1 y = ∑ k : Fin 2048, a0 (ix2 (y 0) k) * a1 (ix3 0 k q) := by
  have hy : (y 1).val < 26624 := (y 1).isLt
  unfold shift at hq
  pointwise [REF]
  have fin : ∀ q' : Fin 26752, q'.val = q.val → ∑ k : Fin 2048, a0 (ix2 (y 0) k) * a1 (ix3 0 k q')
      = ∑ k : Fin 2048, a0 (ix2 (y 0) k) * a1 (ix3 0 k q) := fun q' e => by rw [Fin.ext e]
  repeat' split
  all_goals
    refine fin _ ?_
    dsimp only
    split_ifs at hq <;> omega

end Cert.Reference4Ideal.Val

namespace Cert.Kernel4Ideal.Val

open Idealize.ShloMosaic Idealize.ShloMosaic.TcCoe Idealize.SL.Sem
open Cert.Kernel4Ideal Cert.Kernel4Ideal.Gen Cert.Reference4Ideal.Val

variable (m : (ℓ : Loc nD τ sig) → Buf (Elt Ideal) ℓ)

/-- A block of rows rounded as it is, and two blocks side by side. -/
theorem plain_apply (v : Vec Ideal S1x256x1024 .f32) (x : S256x1024.Idx) : k0_pay1 v x = v (ix3 0 (x 0) (x 1)) := by
  pointwise [k0_pay1]
theorem cat64_apply (a : Vec Ideal S1x256x960 .f32) (b : Vec Ideal S1x256x64 .f32) (x : S256x1024.Idx) :
    k0_pay5 a b x = if h : (x 1).val < 960 then a (ix3 0 (x 0) ⟨(x 1).val, h⟩)
      else b (ix3 0 (x 0) ⟨(x 1).val - 960, by have h2 : (x 1).val < 1024 := (x 1).isLt; omega⟩) := by
  pointwise [k0_pay5]
theorem cat128_apply (a : Vec Ideal S1x256x896 .f32) (b : Vec Ideal S1x256x128 .f32) (x : S256x1024.Idx) :
    k0_pay7 a b x = if h : (x 1).val < 896 then a (ix3 0 (x 0) ⟨(x 1).val, h⟩)
      else b (ix3 0 (x 0) ⟨(x 1).val - 896, by have h2 : (x 1).val < 1024 := (x 1).isLt; omega⟩) := by
  pointwise [k0_pay7]

/-- The weights of one column of tiles, held by the upper block, the lower block and the narrow block to their right. -/
structure Holds (sh : ℕ) (x1 x2 : Vec Ideal S1x1024x1024 .f32) (x3 : Vec Ideal S1x2048x128 .f32) (W : FVec Ideal S2048x1024 .bf16) : Prop where
  up : ∀ (i : S1x1024x1024.Idx) (k : Fin 2048) (l : Fin 1024), (i 1).val = k.val → (i 2).val = l.val + sh → x1 i = W (ix2 k l)
  low : ∀ (i : S1x1024x1024.Idx) (k : Fin 2048) (l : Fin 1024), 1024 + (i 1).val = k.val → (i 2).val = l.val + sh → x2 i = W (ix2 k l)
  right : ∀ (i : S1x2048x128.Idx) (k : Fin 2048) (l : Fin 1024), (i 1).val = k.val → 1024 + (i 2).val = l.val + sh → x3 i = W (ix2 k l)

/-- What a first point of a column keeps, its columns lying 0 to the right. -/
theorem sc_A (c : Dev nD) (i : grid0.Coords) (arg2 : Memref sig .tc .vmem S1024x2048 .bf16) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x2048x128 .f32) (harg5 : arg5.IsWhole) (arg6 : Memref sig .tc .vmem S1024x1024 .f32) (harg6 : arg6.IsWhole) (arg7 : Memref sig .tc .vmem S2048x1024 .bf16) (harg7 : arg7.IsWhole) (hc0 : cond0_0 i) (hc1 : cond0_1 i) (hc2 : ¬cond0_2 i) (hc3 : ¬cond0_3 i)
    (x0 : Vec Ideal S1024x2048 .bf16) (x1 : Vec Ideal S1x1024x1024 .f32) (x2 : Vec Ideal S1x1024x1024 .f32) (x3 : Vec Ideal S1x2048x128 .f32) (W : FVec Ideal S2048x1024 .bf16) (hW : Holds 0 x1 x2 x3 W) :
    sout0_A_0 c i arg2 harg2 arg3 harg3 arg4 harg4 arg5 harg5 arg6 harg6 arg7 harg7 hc0 hc1 hc2 hc3 x0 x1 x2 x3 = W := by
  funext y
  unfold sout0_A_0
  rw [View.read_writes_eq_canon _ _ _ (scover0_A_0 c i arg2 harg2 arg3 harg3 arg4 harg4 arg5 harg5 arg6 harg6 arg7 harg7 hc0 hc1 hc2 hc3 x0 x1 x2 x3)]
  unfold kernelRun0_A
  dsimp only
  sl_unfold_words
  simp only [View.readAt_eq_ld, harg3.read_unread, harg4.read_unread, harg5.read_unread]
  rw [eq_ix2 y]
  canon_tiles x h
  all_goals
    refine (plain_apply _ x).trans ?_
    first | (refine hW.up _ (y 0) (y 1) ?_ ?_ <;> (rw [Rect.idx_unit_val]; simp_all <;> omega)) | (refine hW.low _ (y 0) (y 1) ?_ ?_ <;> (rw [Rect.idx_unit_val]; simp_all <;> omega))

/-- What such a point leaves in the result's buffer: its rows against what it keeps. -/
theorem out_A (c : Dev nD) (i : grid0.Coords) (arg2 : Memref sig .tc .vmem S1024x2048 .bf16) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x2048x128 .f32) (harg5 : arg5.IsWhole) (arg6 : Memref sig .tc .vmem S1024x1024 .f32) (harg6 : arg6.IsWhole) (arg7 : Memref sig .tc .vmem S2048x1024 .bf16) (harg7 : arg7.IsWhole) (hc0 : cond0_0 i) (hc1 : cond0_1 i) (hc2 : ¬cond0_2 i) (hc3 : ¬cond0_3 i)
    (x0 : Vec Ideal S1024x2048 .bf16) (x1 : Vec Ideal S1x1024x1024 .f32) (x2 : Vec Ideal S1x1024x1024 .f32) (x3 : Vec Ideal S1x2048x128 .f32) : out0_A_4 c i arg2 harg2 arg3 harg3 arg4 harg4 arg5 harg5 arg6 harg6 arg7 harg7 hc0 hc1 hc2 hc3 x0 x1 x2 x3 = k0_pay8 x0 (sout0_A_0 c i arg2 harg2 arg3 harg3 arg4 harg4 arg5 harg5 arg6 harg6 arg7 harg7 hc0 hc1 hc2 hc3 x0 x1 x2 x3) := by
  unfold out0_A_4 sout0_A_0
  rw [View.read_writes_junk_eq_canon, View.read_writes_junk_eq_canon]
  unfold kernelRun0_A
  dsimp only
  sl_unfold_words
  rw [View.canon_cons_unit_lit _ _ _ (by decide), View.readCov_eq_canon']
  refine congrArg₂ k0_pay8 ?_ ?_
  · rw [View.readAt_eq_ld, harg2.read_unread]
    funext j
    exact congrArg x0 (funext fun a => Fin.ext (by rw [Rect.idx_unit_val]; fin_cases a <;> exact Nat.zero_add _))
  · funext j
    refine congrArg _ (funext fun a => Fin.ext ((Rect.idx_unit_val _ _ _ j a).trans ?_))
    fin_cases a <;> exact Nat.zero_add _

/-- What a first point of a column keeps, its columns lying 64 to the right. -/
theorem sc_C (c : Dev nD) (i : grid0.Coords) (arg2 : Memref sig .tc .vmem S1024x2048 .bf16) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x2048x128 .f32) (harg5 : arg5.IsWhole) (arg6 : Memref sig .tc .vmem S1024x1024 .f32) (harg6 : arg6.IsWhole) (arg7 : Memref sig .tc .vmem S2048x1024 .bf16) (harg7 : arg7.IsWhole) (hc0 : cond0_0 i) (hc1 : ¬cond0_1 i) (hc2 : cond0_2 i) (hc3 : ¬cond0_3 i)
    (x0 : Vec Ideal S1024x2048 .bf16) (x1 : Vec Ideal S1x1024x1024 .f32) (x2 : Vec Ideal S1x1024x1024 .f32) (x3 : Vec Ideal S1x2048x128 .f32) (W : FVec Ideal S2048x1024 .bf16) (hW : Holds 64 x1 x2 x3 W) :
    sout0_C_0 c i arg2 harg2 arg3 harg3 arg4 harg4 arg5 harg5 arg6 harg6 arg7 harg7 hc0 hc1 hc2 hc3 x0 x1 x2 x3 = W := by
  funext y
  unfold sout0_C_0
  rw [View.read_writes_eq_canon _ _ _ (scover0_C_0 c i arg2 harg2 arg3 harg3 arg4 harg4 arg5 harg5 arg6 harg6 arg7 harg7 hc0 hc1 hc2 hc3 x0 x1 x2 x3)]
  unfold kernelRun0_C
  dsimp only
  sl_unfold_words
  simp only [View.readAt_eq_ld, harg3.read_unread, harg4.read_unread, harg5.read_unread]
  rw [eq_ix2 y]
  canon_tiles x h
  all_goals
    refine (cat64_apply _ _ x).trans ?_
    split
    · first | (refine hW.up _ (y 0) (y 1) ?_ ?_ <;> (rw [Rect.idx_unit_val]; simp_all <;> omega)) | (refine hW.low _ (y 0) (y 1) ?_ ?_ <;> (rw [Rect.idx_unit_val]; simp_all <;> omega))
    · refine hW.right _ (y 0) (y 1) ?_ ?_ <;> (rw [Rect.idx_unit_val]; simp_all <;> omega)

/-- What such a point leaves in the result's buffer: its rows against what it keeps. -/
theorem out_C (c : Dev nD) (i : grid0.Coords) (arg2 : Memref sig .tc .vmem S1024x2048 .bf16) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x2048x128 .f32) (harg5 : arg5.IsWhole) (arg6 : Memref sig .tc .vmem S1024x1024 .f32) (harg6 : arg6.IsWhole) (arg7 : Memref sig .tc .vmem S2048x1024 .bf16) (harg7 : arg7.IsWhole) (hc0 : cond0_0 i) (hc1 : ¬cond0_1 i) (hc2 : cond0_2 i) (hc3 : ¬cond0_3 i)
    (x0 : Vec Ideal S1024x2048 .bf16) (x1 : Vec Ideal S1x1024x1024 .f32) (x2 : Vec Ideal S1x1024x1024 .f32) (x3 : Vec Ideal S1x2048x128 .f32) : out0_C_4 c i arg2 harg2 arg3 harg3 arg4 harg4 arg5 harg5 arg6 harg6 arg7 harg7 hc0 hc1 hc2 hc3 x0 x1 x2 x3 = k0_pay8 x0 (sout0_C_0 c i arg2 harg2 arg3 harg3 arg4 harg4 arg5 harg5 arg6 harg6 arg7 harg7 hc0 hc1 hc2 hc3 x0 x1 x2 x3) := by
  unfold out0_C_4 sout0_C_0
  rw [View.read_writes_junk_eq_canon, View.read_writes_junk_eq_canon]
  unfold kernelRun0_C
  dsimp only
  sl_unfold_words
  rw [View.canon_cons_unit_lit _ _ _ (by decide), View.readCov_eq_canon']
  refine congrArg₂ k0_pay8 ?_ ?_
  · rw [View.readAt_eq_ld, harg2.read_unread]
    funext j
    exact congrArg x0 (funext fun a => Fin.ext (by rw [Rect.idx_unit_val]; fin_cases a <;> exact Nat.zero_add _))
  · funext j
    refine congrArg _ (funext fun a => Fin.ext ((Rect.idx_unit_val _ _ _ j a).trans ?_))
    fin_cases a <;> exact Nat.zero_add _

/-- What a first point of a column keeps, its columns lying 128 to the right. -/
theorem sc_D (c : Dev nD) (i : grid0.Coords) (arg2 : Memref sig .tc .vmem S1024x2048 .bf16) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x2048x128 .f32) (harg5 : arg5.IsWhole) (arg6 : Memref sig .tc .vmem S1024x1024 .f32) (harg6 : arg6.IsWhole) (arg7 : Memref sig .tc .vmem S2048x1024 .bf16) (harg7 : arg7.IsWhole) (hc0 : cond0_0 i) (hc1 : ¬cond0_1 i) (hc2 : ¬cond0_2 i) (hc3 : cond0_3 i)
    (x0 : Vec Ideal S1024x2048 .bf16) (x1 : Vec Ideal S1x1024x1024 .f32) (x2 : Vec Ideal S1x1024x1024 .f32) (x3 : Vec Ideal S1x2048x128 .f32) (W : FVec Ideal S2048x1024 .bf16) (hW : Holds 128 x1 x2 x3 W) :
    sout0_D_0 c i arg2 harg2 arg3 harg3 arg4 harg4 arg5 harg5 arg6 harg6 arg7 harg7 hc0 hc1 hc2 hc3 x0 x1 x2 x3 = W := by
  funext y
  unfold sout0_D_0
  rw [View.read_writes_eq_canon _ _ _ (scover0_D_0 c i arg2 harg2 arg3 harg3 arg4 harg4 arg5 harg5 arg6 harg6 arg7 harg7 hc0 hc1 hc2 hc3 x0 x1 x2 x3)]
  unfold kernelRun0_D
  dsimp only
  sl_unfold_words
  simp only [View.readAt_eq_ld, harg3.read_unread, harg4.read_unread, harg5.read_unread]
  rw [eq_ix2 y]
  canon_tiles x h
  all_goals
    refine (cat128_apply _ _ x).trans ?_
    split
    · first | (refine hW.up _ (y 0) (y 1) ?_ ?_ <;> (rw [Rect.idx_unit_val]; simp_all <;> omega)) | (refine hW.low _ (y 0) (y 1) ?_ ?_ <;> (rw [Rect.idx_unit_val]; simp_all <;> omega))
    · refine hW.right _ (y 0) (y 1) ?_ ?_ <;> (rw [Rect.idx_unit_val]; simp_all <;> omega)

/-- What such a point leaves in the result's buffer: its rows against what it keeps. -/
theorem out_D (c : Dev nD) (i : grid0.Coords) (arg2 : Memref sig .tc .vmem S1024x2048 .bf16) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x2048x128 .f32) (harg5 : arg5.IsWhole) (arg6 : Memref sig .tc .vmem S1024x1024 .f32) (harg6 : arg6.IsWhole) (arg7 : Memref sig .tc .vmem S2048x1024 .bf16) (harg7 : arg7.IsWhole) (hc0 : cond0_0 i) (hc1 : ¬cond0_1 i) (hc2 : ¬cond0_2 i) (hc3 : cond0_3 i)
    (x0 : Vec Ideal S1024x2048 .bf16) (x1 : Vec Ideal S1x1024x1024 .f32) (x2 : Vec Ideal S1x1024x1024 .f32) (x3 : Vec Ideal S1x2048x128 .f32) : out0_D_4 c i arg2 harg2 arg3 harg3 arg4 harg4 arg5 harg5 arg6 harg6 arg7 harg7 hc0 hc1 hc2 hc3 x0 x1 x2 x3 = k0_pay8 x0 (sout0_D_0 c i arg2 harg2 arg3 harg3 arg4 harg4 arg5 harg5 arg6 harg6 arg7 harg7 hc0 hc1 hc2 hc3 x0 x1 x2 x3) := by
  unfold out0_D_4 sout0_D_0
  rw [View.read_writes_junk_eq_canon, View.read_writes_junk_eq_canon]
  unfold kernelRun0_D
  dsimp only
  sl_unfold_words
  rw [View.canon_cons_unit_lit _ _ _ (by decide), View.readCov_eq_canon']
  refine congrArg₂ k0_pay8 ?_ ?_
  · rw [View.readAt_eq_ld, harg2.read_unread]
    funext j
    exact congrArg x0 (funext fun a => Fin.ext (by rw [Rect.idx_unit_val]; fin_cases a <;> exact Nat.zero_add _))
  · funext j
    refine congrArg _ (funext fun a => Fin.ext ((Rect.idx_unit_val _ _ _ j a).trans ?_))
    fin_cases a <;> exact Nat.zero_add _

/-- Where each window's block lies: the weights' blocks at the first point of a column of tiles, the rest at every point. -/
theorem idx : ∀ t : Fin cfg0.N, win0_0.index t = ![t.val % 16, 0] ∧ win0_4.index t = ![t.val % 16, t.val / 16] :=
  (by decide +kernel : ∀ t : Fin grid0.N, _)
theorem idxW : ∀ t : Fin cfg0.N, t.val % 16 = 0 → win0_1.index t = ![0, 0, t.val / 16] ∧ win0_2.index t = ![0, 1, t.val / 16]
    ∧ win0_3.index t = ![0, 0, (t.val / 16 + 1) * 8] :=
  (by decide +kernel : ∀ t : Fin grid0.N, t.val % 16 = 0 → _)

theorem shift_le (n : ℕ) : shift n ≤ 128 := by unfold shift; split_ifs <;> omega

/-- The weights of column `j` of tiles. -/
def wcol (w : FVec Ideal S1x2048x26752 .f32) (j : ℕ) (hj : j < 26) : FVec Ideal S2048x1024 .bf16 := fun y =>
  w (ix3 0 (y 0) ⟨j * 1024 + shift j + (y 1).val, by
    have h1 : (y 1).val < 1024 := (y 1).isLt
    have h2 := shift_le j
    omega⟩)

theorem wcol_congr (w : FVec Ideal S1x2048x26752 .f32) {j j' : ℕ} (e : j = j') (hj : j < 26) (hj' : j' < 26) : wcol w j hj = wcol w j' hj' := by
  subst e; rfl

theorem lt26 (t : Fin cfg0.N) : t.val / 16 < 26 := by
  have hN : t.val < 416 := lt_of_lt_of_eq t.isLt N_0
  omega

/-- The three blocks at the first point of a column hold that column's weights. -/
theorem holds (c : Dev nD) (t : Fin cfg0.N) (h0 : t.val % 16 = 0) :
    Holds (shift (t.val / 16)) (X0_1 m c t) (X0_2 m c t) (iblk m c 3 t) (wcol (m ((c : Thread nD τ).loc main_arg1)) (t.val / 16) (lt26 t)) where
  up i k l hk hl := by
    have e := (idxW t h0).1
    unfold X0_1 Pipeline.Window.fill wcol
    rw [dif_pos (moved0_1 t i)]
    blk_point [iblk, V, e]
  low i k l hk hl := by
    have e := (idxW t h0).2.1
    unfold X0_2 Pipeline.Window.fill wcol
    rw [dif_pos (moved0_2 t i)]
    blk_point [iblk, V, e]
  right i k l hk hl := by
    have e := (idxW t h0).2.2
    unfold wcol
    blk_point [iblk, V, e]

/-- The first point of a column keeps the column's weights. -/
theorem keptA (c : Dev nD) (t : Fin cfg0.N) (h0 : t.val % 16 = 0) :
    (outsAt0 m c t.val t.isLt).2 = wcol (m ((c : Thread nD τ).loc main_arg1)) (t.val / 16) (lt26 t)
      ∧ (outsAt0 m c t.val t.isLt).1 = k0_pay8 (iblk m c 0 t) (wcol (m ((c : Thread nD τ).loc main_arg1)) (t.val / 16) (lt26 t)) := by
  have hN : t.val < 416 := lt_of_lt_of_eq t.isLt N_0
  have hW := holds m c t h0
  by_cases h1 : t.val < 160
  · rw [outsAt0_A m c t h0 h1 (by omega) (by omega)]
    have e : shift (t.val / 16) = 0 := by unfold shift; rw [if_pos (by omega)]
    rw [e] at hW
    dsimp only
    rw [out_A]
    exact ⟨sc_A _ _ _ _ _ _ _ _ _ _ _ _ _ _ _ _ _ _ _ _ _ _ _ hW, congrArg _ (sc_A _ _ _ _ _ _ _ _ _ _ _ _ _ _ _ _ _ _ _ _ _ _ _ hW)⟩
  · by_cases h3 : 352 ≤ t.val
    · rw [outsAt0_D m c t h0 h1 (by omega) h3]
      have e : shift (t.val / 16) = 128 := by unfold shift; rw [if_neg (by omega), if_neg (by omega)]
      rw [e] at hW
      dsimp only
      rw [out_D]
      exact ⟨sc_D _ _ _ _ _ _ _ _ _ _ _ _ _ _ _ _ _ _ _ _ _ _ _ hW, congrArg _ (sc_D _ _ _ _ _ _ _ _ _ _ _ _ _ _ _ _ _ _ _ _ _ _ _ hW)⟩
    · rw [outsAt0_C m c t h0 h1 (by omega) h3]
      have e : shift (t.val / 16) = 64 := by unfold shift; rw [if_neg (by omega), if_pos (by omega)]
      rw [e] at hW
      dsimp only
      rw [out_C]
      exact ⟨sc_C _ _ _ _ _ _ _ _ _ _ _ _ _ _ _ _ _ _ _ _ _ _ _ hW, congrArg _ (sc_C _ _ _ _ _ _ _ _ _ _ _ _ _ _ _ _ _ _ _ _ _ _ _ hW)⟩

/-- The later points leave them. -/
theorem keptB (c : Dev nD) (t : Fin cfg0.N) (h0 : ¬t.val % 16 = 0) (hp : t.val - 1 < cfg0.N) :
    (outsAt0 m c t.val t.isLt).2 = (outsAt0 m c (t.val - 1) hp).2
      ∧ (outsAt0 m c t.val t.isLt).1 = k0_pay8 (iblk m c 0 t) (outsAt0 m c (t.val - 1) hp).2 := by
  rw [outsAt0_B m c t h0]
  dsimp only
  refine ⟨rfl, ?_⟩
  frame_out
  congr 1 <;> exact Memref.IsWhole.read_unread _ _

/-- Through a column of tiles the buffer holds that column's weights. -/
theorem kept (c : Dev nD) : ∀ (n : ℕ) (h : n < cfg0.N), (outsAt0 m c n h).2 = wcol (m ((c : Thread nD τ).loc main_arg1)) (n / 16) (lt26 ⟨n, h⟩) := by
  intro n
  induction n with
  | zero => intro h; exact (keptA m c ⟨0, h⟩ rfl).1
  | succ n ih =>
    intro h
    by_cases h0 : (n + 1) % 16 = 0
    · exact (keptA m c ⟨n + 1, h⟩ h0).1
    · have b := keptB m c ⟨n + 1, h⟩ h0 (Nat.lt_of_succ_lt h)
      exact b.1.trans ((ih _).trans (wcol_congr _ (by omega) _ _))

/-- What a point leaves in the result's buffer. -/
theorem left (c : Dev nD) (t : Fin cfg0.N) : (outsAt0 m c t.val t.isLt).1 = k0_pay8 (iblk m c 0 t) (wcol (m ((c : Thread nD τ).loc main_arg1)) (t.val / 16) (lt26 t)) := by
  by_cases h0 : t.val % 16 = 0
  · exact (keptA m c t h0).2
  · have hp : t.val - 1 < cfg0.N := Nat.lt_of_le_of_lt (Nat.sub_le _ _) t.isLt
    rw [(keptB m c t h0 hp).2, kept m c (t.val - 1) hp, wcol_congr _ (show (t.val - 1) / 16 = t.val / 16 by omega) _ (lt26 t)]

/-- One tile of the kernel is the reference's tile. -/
theorem point (c : Dev nD) (t : Fin cfg0.N) (y : S1024x1024.Idx) :
    k0_pay8 (iblk m c 0 t) (wcol (m ((c : Thread nD τ).loc main_arg1)) (t.val / 16) (lt26 t)) y = REF (m ((c : Thread nD τ).loc main_arg0)) (m ((c : Thread nD τ).loc main_arg1)) (((cfg0.win 4).blk t).view.emb y) := by
  have hy1 : (y 1).val < 1024 := (y 1).isLt
  have e : ((((cfg0.win 4).blk t).view.emb y) 1).val = t.val / 16 * 1024 + (y 1).val := by
    blk_point [idx t]
  have e' : (t.val / 16 * 1024 + (y 1).val) / 1024 = t.val / 16 := by omega
  have hs := shift_le (t.val / 16)
  have hb : t.val / 16 * 1024 + shift (t.val / 16) + (y 1).val < 26752 := by
    have h2 := lt26 t
    omega
  rw [REF_apply _ _ _ ⟨_, hb⟩ (by rw [e, e']; dsimp only; omega)]
  unfold wcol
  pointwise [k0_pay8]
  blk_point [iblk, V, idx t]

/-- The array after the run. -/
theorem final (c : Dev nD) : (dats m 0 c).arrAt 4 cfg0.N = REF (m ((c : Thread nD τ).loc main_arg0)) (m ((c : Thread nD τ).loc main_arg1)) := by
  refine (dats m 0 c).arrAt_eq_of_covers 4 _ (by decide +kernel) fun t _ y => ?_
  blk_simp
  rw [after0_4, left m c t]
  exact point m c t y

/-- The kernel's run: the result, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = REF (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel4Ideal.Val

end
-- ==== Proof.DownVal.lean ====
/- The second product of the feed-forward part, its residual and the last normalisation: the array that the kernel leaves is the reference's. -/
module

public import proofs.«01_k».proof.Proof.Gen.Kernel5Ideal.Value
public import proofs.«01_k».proof.Proof.Gen.Reference5Ideal
public import Idealize.ShloMosaic.Lib.Pipeline.ValueKit

@[expose] public section

set_option maxRecDepth 16384

noncomputable section

namespace Cert.Reference5Ideal.Val

open Idealize.ShloMosaic Cert.Reference5Ideal Cert.Reference5Ideal.Gen

/-- The residual stream after the gated product. -/
def RES (a0 : FVec Ideal S16384x5632 .bf16) (a1 : FVec Ideal S5632x2048 .f32) (a2 : FVec Ideal S4x4096x2048 .f32) (a3 : FVec Ideal S4x12288 .f32) : FVec Ideal S4x4096x2048 .f32 :=
  addf a2 (mulf (broadcastInDim S4x4096x2048 ![0, 1, 2] bcast_S4x1x2048_S4x4096x2048_0_1_2 (broadcastInDim S4x1x2048 ![0, 2] bcast_S4x2048_S4x1x2048_0_2 (extractStridedSlice S4x2048 ![0, 10240] a3 slices_S4x12288_S4x2048_0_10240))) (shapeCast _ (Host.dotGeneral dot_S16384x5632_S5632x2048_S16384x2048_1_0_0_1_n_n none (extf .f32 a0 bitsLt_bf16_f32) a1) shapeCasts_S16384x2048_S4x4096x2048))

/-- The reference of its five arguments. -/
def REF (a0 : FVec Ideal S16384x5632 .bf16) (a1 : FVec Ideal S5632x2048 .f32) (a2 : FVec Ideal S4x4096x2048 .f32) (a3 : FVec Ideal S4x12288 .f32) (a4 : FVec Ideal S2048 .f32) : FVec Ideal S4x4096x2048 .f32 :=
  mulf (mulf (RES a0 a1 a2 a3) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (RES a0 a1 a2 a3) (RES a0 a1 a2 a3)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 a4))

end Cert.Reference5Ideal.Val

namespace Cert.Kernel5Ideal.Val

open Idealize.ShloMosaic Idealize.ShloMosaic.TcCoe Idealize.SL.Sem
open Cert.Kernel5Ideal Cert.Kernel5Ideal.Gen Cert.Reference5Ideal.Val

variable (m : (ℓ : Loc nD τ sig) → Buf (Elt Ideal) ℓ)

/-- Where each window's block lies at a point of the grid. -/
theorem idx : ∀ t : Fin cfg0.N, win0_0.index t = ![t.val, 0] ∧ win0_1.index t = ![0, 0]
    ∧ win0_2.index t = ![t.val / 8, t.val % 8, 0] ∧ win0_3.index t = ![t.val / 8, 0, 5]
    ∧ win0_4.index t = ![0, 0] ∧ win0_5.index t = ![t.val / 8, t.val % 8, 0] :=
  (by decide +kernel : ∀ t : Fin grid0.N, _)

/-- One tile of the kernel is the reference's tile. -/
theorem point (c : Dev nD) (t : Fin cfg0.N) (y : S1x512x2048.Idx) :
    k0_pay1 (iblk m c 0 t) (iblk m c 1 t) (iblk m c 2 t) (iblk m c 3 t) (iblk m c 4 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, REF, RES]
  blk_point [iblk, V, idx t]

/-- The array after the run. -/
theorem final (c : Dev nD) : (dats m 0 c).arrAt 5 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.Kernel5Ideal.Val

end
-- ==== Proof.MixoutVal.lean ====
/- The output product of the mixers, its residual and the second normalisation: the two arrays that the kernel leaves are the reference's. -/
module

public import proofs.«01_k».proof.Proof.Gen.Kernel6Ideal.Value
public import proofs.«01_k».proof.Proof.Gen.Reference6Ideal
public import Idealize.ShloMosaic.Lib.Pipeline.ValueKit

@[expose] public section

set_option maxRecDepth 16384

noncomputable section

namespace Cert.Reference6Ideal.Val

open Idealize.ShloMosaic Cert.Reference6Ideal Cert.Reference6Ideal.Gen

/-- The residual stream after the gated product: the first result. -/
def RES (a0 : FVec Ideal S16384x2048 .bf16) (a1 : FVec Ideal S2048x2048 .f32) (a2 : FVec Ideal S4x4096x2048 .f32) (a3 : FVec Ideal S4x12288 .f32) : FVec Ideal S4x4096x2048 .f32 :=
  addf a2 (mulf (broadcastInDim S4x4096x2048 ![0, 1, 2] bcast_S4x1x2048_S4x4096x2048_0_1_2 (broadcastInDim S4x1x2048 ![0, 2] bcast_S4x2048_S4x1x2048_0_2 (extractStridedSlice S4x2048 ![0, 4096] a3 slices_S4x12288_S4x2048_0_4096))) (shapeCast _ (Host.dotGeneral dot_S16384x2048_S2048x2048_S16384x2048_1_0_0_1_n_n none (extf .f32 a0 bitsLt_bf16_f32) a1) shapeCasts_S16384x2048_S4x4096x2048))

/-- The modulated normalised rows: the second result. -/
def REF (a0 : FVec Ideal S16384x2048 .bf16) (a1 : FVec Ideal S2048x2048 .f32) (a2 : FVec Ideal S4x4096x2048 .f32) (a3 : FVec Ideal S4x12288 .f32) (a4 : FVec Ideal S2048 .f32) : FVec Ideal S4x4096x2048 .bf16 :=
  truncf .bf16 (addf (mulf (mulf (mulf (RES a0 a1 a2 a3) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (RES a0 a1 a2 a3) (RES a0 a1 a2 a3)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 a4))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 8192] a3 slices_S4x12288_S4x2048_0_8192))))) (broadcastInDim S4x4096x2048 ![0, 1, 2] bcast_S4x1x2048_S4x4096x2048_0_1_2 (broadcastInDim S4x1x2048 ![0, 2] bcast_S4x2048_S4x1x2048_0_2 (extractStridedSlice S4x2048 ![0, 6144] a3 slices_S4x12288_S4x2048_0_6144)))) bitsLt_bf16_f32

end Cert.Reference6Ideal.Val

namespace Cert.Kernel6Ideal.Val

open Idealize.ShloMosaic Idealize.ShloMosaic.TcCoe Idealize.SL.Sem
open Cert.Kernel6Ideal Cert.Kernel6Ideal.Gen Cert.Reference6Ideal.Val

variable (m : (ℓ : Loc nD τ sig) → Buf (Elt Ideal) ℓ)

/-- Where each window's block lies at a point of the grid. -/
theorem idx : ∀ t : Fin cfg0.N, win0_0.index t = ![t.val, 0] ∧ win0_1.index t = ![0, 0]
    ∧ win0_2.index t = ![t.val / 8, t.val % 8, 0] ∧ win0_3.index t = ![t.val / 8, 0, 2]
    ∧ win0_4.index t = ![0, 0] ∧ win0_5.index t = ![t.val / 8, 0, 3] ∧ win0_6.index t = ![t.val / 8, 0, 4]
    ∧ win0_7.index t = ![t.val / 8, t.val % 8, 0] ∧ win0_8.index t = ![t.val / 8, t.val % 8, 0] :=
  (by decide +kernel : ∀ t : Fin grid0.N, _)

/-- One tile of the first result. -/
theorem point_res (c : Dev nD) (t : Fin cfg0.N) (y : S1x512x2048.Idx) :
    k0_pay3 (iblk m c 0 t) (iblk m c 1 t) (iblk m c 2 t) (iblk m c 3 t) y
      = RES (m ((c : Thread nD τ).loc main_arg0)) (m ((c : Thread nD τ).loc main_arg1)) (m ((c : Thread nD τ).loc main_arg2)) (m ((c : Thread nD τ).loc main_arg3)) (((cfg0.win 7).blk t).view.emb y) := by
  pointwise [k0_pay3, k0_pay2, RES]
  blk_point [iblk, V, idx t]

/-- One tile of the second result. -/
theorem point (c : Dev nD) (t : Fin cfg0.N) (y : S1x512x2048.Idx) :
    k0_pay1 (k0_pay4 (iblk m c 0 t) (iblk m c 1 t) (iblk m c 2 t) (iblk m c 3 t) (iblk m c 4 t) (iblk m c 6 t)) (iblk m c 5 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y) := by
  pointwise [k0_pay1, k0_pay4, k0_pay2, REF, RES]
  blk_point [iblk, V, idx t]

/-- The first array after the run. -/
theorem final_res (c : Dev nD) : (dats m 0 c).arrAt 7 cfg0.N
    = RES (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point_res m c t y

/-- The second array after the run. -/
theorem final (c : Dev nD) : (dats m 0 c).arrAt 8 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; frame_out
  exact point m c t y

end Cert.Kernel6Ideal.Val

end
-- ==== Proof.AdalnVal.lean ====
/- The modulation: the array that the kernel leaves is the reference's product and bias. -/
module

public import proofs.«01_k».proof.Proof.Gen.Kernel7Ideal.Value
public import proofs.«01_k».proof.Proof.Gen.Reference7Ideal
public import Idealize.ShloMosaic.Lib.Pipeline.ValueKit

@[expose] public section

set_option maxRecDepth 16384

noncomputable section

namespace Cert.Reference7Ideal.Val

open Idealize.ShloMosaic Cert.Reference7Ideal Cert.Reference7Ideal.Gen

/-- The reference of its arguments. -/
def REF (a0 : FVec Ideal S4x2048 .f32) (a1 : FVec Ideal S1x2048x12288 .f32) (a2 : FVec Ideal S1x12288 .f32) : FVec Ideal S4x12288 .f32 :=
  addf (Host.dotGeneral dot_S4x2048_S2048x12288_S4x12288_1_0_0_1_n_n none (mulf a0 (Host.divf (broadcastInDim S4x2048 ![] bcast_S_S4x2048 (constant S_ .f32 0x3F800000#32)) (addf (broadcastInDim S4x2048 ![] bcast_S_S4x2048 (constant S_ .f32 0x3F800000#32)) (Host.exp (Host.negf a0))))) (shapeCast _ a1 shapeCasts_S1x2048x12288_S2048x12288)) (broadcastInDim S4x12288 ![0, 1] bcast_S1x12288_S4x12288_0_1 (broadcastInDim S1x12288 ![1] bcast_S12288_S1x12288_1 (shapeCast _ a2 shapeCasts_S1x12288_S12288)))

end Cert.Reference7Ideal.Val

namespace Cert.Kernel7Ideal.Val

open Idealize.ShloMosaic Idealize.ShloMosaic.TcCoe Idealize.SL.Sem
open Cert.Kernel7Ideal Cert.Kernel7Ideal.Gen Cert.Reference7Ideal.Val

variable (m : (ℓ : Loc nD τ sig) → Buf (Elt Ideal) ℓ)

/-- Where each window's block lies at a point of the grid. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- One tile of the kernel is the reference's tile. -/
theorem point (c : Dev nD) (t : Fin cfg0.N) (y : S4x1024.Idx) :
    k0_pay1 (iblk m c 0 t) (iblk m c 1 t) (iblk m c 2 t) y
      = REF (m ((c : Thread nD τ).loc main_arg0)) (m ((c : Thread nD τ).loc main_arg1)) (m ((c : Thread nD τ).loc main_arg2)) (((cfg0.win 3).blk t).view.emb y) := by
  pointwise [k0_pay1, REF]
  simp only [zero_sub]
  blk_point [iblk, V, idx t]

/-- The array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel7Ideal.Val

end
-- ==== Proof.NormModVal.lean ====
/- The first normalisation and its modulation: the array that the kernel leaves is the reference's. -/
module

public import proofs.«01_k».proof.Proof.Gen.Kernel8Ideal.Value
public import proofs.«01_k».proof.Proof.Gen.Reference8Ideal
public import Idealize.ShloMosaic.Lib.Pipeline.ValueKit

@[expose] public section

set_option maxRecDepth 16384

noncomputable section

namespace Cert.Reference8Ideal.Val

open Idealize.ShloMosaic Cert.Reference8Ideal Cert.Reference8Ideal.Gen

/-- The reference of its arguments. -/
def REF (a0 : FVec Ideal S4x4096x2048 .f32) (a1 : FVec Ideal S1x2048 .f32) (a2 : FVec Ideal S4x12288 .f32) : FVec Ideal S4x4096x2048 .bf16 :=
  truncf .bf16 (addf (mulf (mulf (mulf a0 (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf a0 a0) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ a1 shapeCasts_S1x2048_S2048)))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 2048] a2 slices_S4x12288_S4x2048_0_2048))))) (broadcastInDim S4x4096x2048 ![0, 1, 2] bcast_S4x1x2048_S4x4096x2048_0_1_2 (broadcastInDim S4x1x2048 ![0, 2] bcast_S4x2048_S4x1x2048_0_2 (extractStridedSlice S4x2048 ![0, 0] a2 slices_S4x12288_S4x2048_0_0)))) bitsLt_bf16_f32

end Cert.Reference8Ideal.Val

namespace Cert.Kernel8Ideal.Val

open Idealize.ShloMosaic Idealize.ShloMosaic.TcCoe Idealize.SL.Sem
open Cert.Kernel8Ideal Cert.Kernel8Ideal.Gen Cert.Reference8Ideal.Val

variable (m : (ℓ : Loc nD τ sig) → Buf (Elt Ideal) ℓ)

/-- Where each window's block lies at a point of the grid. -/
theorem idx : ∀ t : Fin cfg0.N, win0_0.index t = ![t.val / 8, t.val % 8, 0] ∧ win0_1.index t = ![0, 0] ∧ win0_2.index t = ![t.val / 8, 0, 0] ∧ win0_3.index t = ![t.val / 8, 0, 1]
    ∧ win0_4.index t = ![t.val / 8, t.val % 8, 0] :=
  (by decide +kernel : ∀ t : Fin grid0.N, _)

/-- One tile of the kernel is the reference's tile. -/
theorem point (c : Dev nD) (t : Fin cfg0.N) (y : S1x512x2048.Idx) :
    k0_pay1 (iblk m c 0 t) (iblk m c 1 t) (iblk m c 3 t) (iblk m c 2 t) y
      = REF (m ((c : Thread nD τ).loc main_arg0)) (m ((c : Thread nD τ).loc main_arg1)) (m ((c : Thread nD τ).loc main_arg2)) (((cfg0.win 4).blk t).view.emb y) := by
  pointwise [k0_pay1, REF]
  blk_point [iblk, V, idx t]

/-- The array after the run. -/
theorem final (c : Dev nD) : (dats m 0 c).arrAt 4 cfg0.N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

end Cert.Kernel8Ideal.Val

end
-- ==== Proof.SmallVal.lean ====
/- The small columns of the input projection: the array that the kernel leaves is the reference's. -/
module

public import proofs.«01_k».proof.Proof.Gen.Kernel9Ideal.Value
public import proofs.«01_k».proof.Proof.Gen.Reference9Ideal
public import Idealize.ShloMosaic.Lib.Pipeline.ValueKit
public import Idealize.ShloMosaic.Lib.StableHlo.RunRead

@[expose] public section

set_option maxRecDepth 16384

noncomputable section

namespace Cert.Reference9Ideal.Val

open Idealize.ShloMosaic Cert.Reference9Ideal Cert.Reference9Ideal.Gen

/-- The reference of its arguments. -/
def REF (a0 : FVec Ideal S16384x2048 .bf16) (a1 : FVec Ideal S1x2048x26752 .f32) : FVec Ideal S16384x128 .f32 :=
  (concatenate S16384x128 1 [⟨S16384x64, ((extractStridedSlice S16384x64 ![0, 10240] (Host.dotGeneral dot_S16384x2048_S2048x26752_S16384x26752_1_0_0_1_n_n none (extf .f32 a0 bitsLt_bf16_f32) (shapeCast _ a1 shapeCasts_S1x2048x26752_S2048x26752)) slices_S16384x26752_S16384x64_0_10240) : (⟨S16384x64, .f32⟩ : BufTy).Contents (Elt Ideal))⟩, ⟨S16384x32, ((extractStridedSlice S16384x32 ![0, 22592] (Host.dotGeneral dot_S16384x2048_S2048x26752_S16384x26752_1_0_0_1_n_n none (extf .f32 a0 bitsLt_bf16_f32) (shapeCast _ a1 shapeCasts_S1x2048x26752_S2048x26752)) slices_S16384x26752_S16384x32_0_22592) : (⟨S16384x32, .f32⟩ : BufTy).Contents (Elt Ideal))⟩, ⟨S16384x32, ((extractStridedSlice S16384x32 ![0, 22624] (Host.dotGeneral dot_S16384x2048_S2048x26752_S16384x26752_1_0_0_1_n_n none (extf .f32 a0 bitsLt_bf16_f32) (shapeCast _ a1 shapeCasts_S1x2048x26752_S2048x26752)) slices_S16384x26752_S16384x32_0_22624) : (⟨S16384x32, .f32⟩ : BufTy).Contents (Elt Ideal))⟩] concatenates_S16384x64_S16384x32_S16384x32_S16384x128_d1 : (⟨S16384x128, .f32⟩ : BufTy).Contents (Elt Ideal))

end Cert.Reference9Ideal.Val

namespace Cert.Kernel9Ideal.Val

open Idealize.ShloMosaic Idealize.ShloMosaic.TcCoe Idealize.SL.Sem
open Cert.Kernel9Ideal Cert.Kernel9Ideal.Gen Cert.Reference9Ideal.Val

variable (m : (ℓ : Loc nD τ sig) → Buf (Elt Ideal) ℓ)

/-- Where each window's block lies at a point of the grid. -/
theorem idx : ∀ t : Fin cfg0.N, win0_0.index t = ![t.val, 0] ∧ win0_1.index t = ![0, 0] ∧ win0_2.index t = ![t.val, 0] :=
  (by decide +kernel : ∀ t : Fin grid0.N, _)

/-- Arrays joined of equal halves are equal. -/
theorem join_eq {a a' b b' : FVec Ideal S2048x64 .f32} (ha : a = a') (hb : b = b') :
    concatenate S2048x128 1 [⟨S2048x64, a⟩, ⟨S2048x64, b⟩] concatenates_S2048x64_S2048x64_S2048x128_d1
      = concatenate S2048x128 1 [⟨S2048x64, a'⟩, ⟨S2048x64, b'⟩] concatenates_S2048x64_S2048x64_S2048x128_d1 := by
  subst ha hb; rfl

/-- The narrow columns of the weights, joined: what the host code prepares. -/
def COLS (a : FVec Ideal S1x2048x26752 .f32) : FVec Ideal S2048x128 .f32 :=
  concatenate S2048x128 1 [⟨S2048x64, extractStridedSlice S2048x64 ![0, 10240] (shapeCast S2048x26752 a shapeCasts_S1x2048x26752_S2048x26752) slices_S2048x26752_S2048x64_0_10240⟩,
    ⟨S2048x64, extractStridedSlice S2048x64 ![0, 22592] (shapeCast S2048x26752 a shapeCasts_S1x2048x26752_S2048x26752) slices_S2048x26752_S2048x64_0_22592⟩] concatenates_S2048x64_S2048x64_S2048x128_d1

theorem cols_eq (c : Dev nD) : (V m c main_v3 : FVec Ideal S2048x128 .f32) = COLS (m ((c : Thread nD τ).loc main_arg1)) := by
  simp only [V, hostOps0, List.flatten_cons, List.flatten_nil, List.append_nil, List.cons_append, List.nil_append]
  after_reads_simp
  exact join_eq (by after_reads_simp; rfl) (by after_reads_simp; rfl)

/-- A column of the first half, and one of the second. -/
theorem cols_lo (a : FVec Ideal S1x2048x26752 .f32) (k : Fin 2048) (q : Fin 128) (h : q.val < 64) : COLS a (ix2 k q) = a (ix3 0 k ⟨10240 + q.val, by omega⟩) := by
  pointwise [COLS]
  rw [dif_pos h]
theorem cols_hi (a : FVec Ideal S1x2048x26752 .f32) (k : Fin 2048) (q : Fin 128) (h : ¬q.val < 64) : COLS a (ix2 k q) = a (ix3 0 k ⟨22592 + (q.val - 64), by omega⟩) := by
  pointwise [COLS]
  rw [dif_neg h]

/-- One tile of the kernel is the reference's tile. -/
theorem point (c : Dev nD) (t : Fin cfg0.N) (y : S1024x128.Idx) :
    k0_pay1 (iblk m c 1 t) (iblk m c 0 t) y
      = REF (m ((c : Thread nD τ).loc main_arg0)) (m ((c : Thread nD τ).loc main_arg1)) (((cfg0.win 2).blk t).view.emb y) := by
  have e := (idx t).2.1
  have ve : ∀ (x : Fin 2048) (q : Fin 128), V m c main_v3 ((win0_1.blk t).view.emb (ix2 x q)) = COLS (m ((c : Thread nD τ).loc main_arg1)) (ix2 x q) := fun x q =>
    (congrFun (cols_eq m c) _).trans (congrArg _ ((eq_ix2 _).trans (congrArg₂ ix2 (Fin.ext (by blk_simp [e])) (Fin.ext (by blk_simp [e])))))
  have hy : ((((View.whole main_v4).slice ((win0 2).rect t)).emb y) 1).val = (y 1).val := by
    have e2 := (idx t).2.2
    blk_simp [e2]
  pointwise [k0_pay1, REF]
  blk_point [iblk, V, idx t]
  · exact ((ve _ _).trans (cols_lo _ _ _ (by omega))).symm
  · exact ((ve _ _).trans (cols_hi _ _ _ (by omega))).symm
  · refine Eq.trans ?_ ((ve _ _).trans (cols_hi _ _ _ (by omega))).symm
    exact congrArg _ (congrArg (ix3 0 _) (Fin.ext (by dsimp only; omega)))

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel9Ideal.Val

end
-- ==== Proof.Spec.lean ====
/- The state-space mixer as sums over the extended reals, with every array read by natural numbers:
   the convolved and gated inputs, the state before each chunk of 64 positions, and the normalised result. -/
module

public import Idealize.ShloMosaic.Lib.Pointwise

@[expose] public section

noncomputable section

namespace Cert.Ssd

open Idealize.ShloMosaic

/-- Entry `(r, c)` of a matrix read by natural numbers: `0` outside the matrix. -/
def at2 {m n : ℕ} (A : (⟨2, ![m, n]⟩ : Shape).Idx → EReal) (r c : ℕ) : EReal :=
  if h : r < m ∧ c < n then A (ix2 ⟨r, h.1⟩ ⟨c, h.2⟩) else 0

theorem at2_of {m n : ℕ} (A : (⟨2, ![m, n]⟩ : Shape).Idx → EReal) (i : (⟨2, ![m, n]⟩ : Shape).Idx) (r c : ℕ)
    (hr : (i 0).val = r) (hc : (i 1).val = c) : A i = at2 A r c := by
  have h0 : r < m := hr ▸ (i 0).isLt
  have h1 : c < n := hc ▸ (i 1).isLt
  rw [at2, dif_pos ⟨h0, h1⟩]
  congr 1
  rw [eq_ix2 i]
  congr 1 <;> exact Fin.ext (by assumption)

/-- Entry `r` of a vector read by a natural number: `0` outside the vector. -/
def at1 {m : ℕ} (A : (⟨1, ![m]⟩ : Shape).Idx → EReal) (r : ℕ) : EReal :=
  if h : r < m then A (ix1 ⟨r, h⟩) else 0

theorem at1_of {m : ℕ} (A : (⟨1, ![m]⟩ : Shape).Idx → EReal) (i : (⟨1, ![m]⟩ : Shape).Idx) (r : ℕ)
    (hr : (i 0).val = r) : A i = at1 A r := by
  have h0 : r < m := hr ▸ (i 0).isLt
  rw [at1, dif_pos h0]
  congr 1
  rw [eq_ix1 i]
  congr 1; exact Fin.ext hr

/-- SiLU, `x / (1 + exp (-x))`. -/
def silu (x : EReal) : EReal := x * Ideal.div 1 (1 + Ideal.exp (-x))

/-- SiLU by the hyperbolic tangent of half the argument. -/
def siluT (x : EReal) : EReal := (((1 / 2 : ℝ) : EReal) * x) * Ideal.tanh (((1 / 2 : ℝ) : EReal) * x) + ((1 / 2 : ℝ) : EReal) * x

theorem real_silu (x : ℝ) : 1 / 2 * x * Real.tanh (1 / 2 * x) + 1 / 2 * x = x * (1 / (1 + Real.exp (-x))) := by
  have e1 : Real.exp (-x) = Real.exp (-(1 / 2 * x)) * Real.exp (-(1 / 2 * x)) := by
    rw [← Real.exp_add]; congr 1; ring
  have e2 : Real.exp (1 / 2 * x) * Real.exp (-(1 / 2 * x)) = 1 := by
    rw [← Real.exp_add]; simp
  have p1 := Real.exp_pos (1 / 2 * x)
  have p2 := Real.exp_pos (-(1 / 2 * x))
  rw [Real.tanh_eq_sinh_div_cosh, Real.sinh_eq, Real.cosh_eq, e1]
  generalize Real.exp (1 / 2 * x) = u at *
  generalize Real.exp (-(1 / 2 * x)) = v at *
  have h1 : (u + v) ≠ 0 := by positivity
  have h2 : 1 + v * v ≠ 0 := by positivity
  field_simp
  linear_combination (2 * x * v) * e2

theorem siluT_eq (x : ℝ) : siluT x = silu x := by
  have hp : (1 + Real.exp (-x)) ≠ 0 := by positivity
  unfold siluT silu
  rw [← EReal.coe_neg, Ideal.exp_coe, ← EReal.coe_one, ← EReal.coe_add, Ideal.div_coe hp, ← EReal.coe_mul, Ideal.tanh_coe,
    ← EReal.coe_mul, ← EReal.coe_add, ← EReal.coe_mul, ← EReal.coe_mul]
  rw [real_silu, one_mul]

/-! ## The mixer -/

section Mixer

variable (A : ℕ → ℕ → EReal) (p1 p2 : ℕ → ℕ → EReal) (cw : ℕ → ℕ → EReal) (cb dsk nw : ℕ → EReal)

/-- What tap `i` of the causal convolution reads at position `t` of sequence `b`, channel `q`: nothing before the sequence. -/
def tap (b t i q : ℕ) : EReal := if t + i < 3 then 0 else A (b * 4096 + (t + i - 3)) (4096 + q)

/-- The convolution with its bias. -/
def conv (b t q : ℕ) : EReal :=
  tap A b t 3 q * cw 3 q + tap A b t 2 q * cw 2 q + tap A b t 1 q * cw 1 q + tap A b t 0 q * cw 0 q + cb q

/-- The convolution through SiLU. -/
def act (b t q : ℕ) : EReal := silu (conv A cw cb b t q)

variable (b g : ℕ)

/-- The input of group `g` at position `t`, channel `c`. -/
def xv (t c : ℕ) : EReal := act A cw cb b t (g * 512 + c)
/-- The group's key at position `t`. -/
def bv (t n : ℕ) : EReal := act A cw cb b t (4096 + g * 128 + n)
/-- The group's query at position `t`. -/
def cv (t n : ℕ) : EReal := act A cw cb b t (5120 + g * 128 + n)
/-- A per-head array at channel `c` of the group. -/
def hd (p : ℕ → ℕ → EReal) (t c : ℕ) : EReal := p (b * 4096 + t) (g * 8 + c / 64)

/-- The state before chunk `k`, at key channel `n` and channel `c`. -/
def st : ℕ → ℕ → ℕ → EReal
  | 0 => fun _ _ => 0
  | k + 1 => fun n c => st k n c * Ideal.exp (hd b g p2 (64 * k + 63) c)
      + ∑ l : Fin 64, bv A cw cb b g (64 * k + l) n
          * (xv A cw cb b g (64 * k + l) c * hd b g p1 (64 * k + l) c
            * Ideal.exp (hd b g p2 (64 * k + 63) c - hd b g p2 (64 * k + l) c))

/-- The decay from position `s` to position `l` of chunk `k`; none from a later position. -/
def dec (k l s c : ℕ) : EReal := if s ≤ l then Ideal.exp (hd b g p2 (64 * k + l) c - hd b g p2 (64 * k + s) c) else 0

/-- The mixer at position `l` of chunk `k`. -/
def yv (k l c : ℕ) : EReal :=
  (∑ s : Fin 64, ((∑ n : Fin 128, cv A cw cb b g (64 * k + l) n * bv A cw cb b g (64 * k + s) n) * dec p2 b g k l s c)
      * (xv A cw cb b g (64 * k + s) c * hd b g p1 (64 * k + s) c))
    + (∑ n : Fin 128, cv A cw cb b g (64 * k + l) n * st A p1 p2 cw cb b g k n c) * Ideal.exp (hd b g p2 (64 * k + l) c)
    + dsk (g * 8 + c / 64) * xv A cw cb b g (64 * k + l) c

/-- The mixer gated by SiLU of the gate's projection. -/
def gated (k l c : ℕ) : EReal :=
  yv A p1 p2 cw cb dsk b g k l c * silu (A (b * 4096 + (64 * k + l)) (g * 512 + c))

/-- The result: the gated mixer normalised over the group's channels and weighted. -/
def outv (k l c : ℕ) : EReal :=
  gated A p1 p2 cw cb dsk b g k l c
    * Ideal.rsqrt (Ideal.div (∑ e : Fin 512, gated A p1 p2 cw cb dsk b g k l e * gated A p1 p2 cw cb dsk b g k l e)
        (Ideal.ofBits .f32 0x44000000#32) + Ideal.ofBits .f32 0x358637BD#32)
    * nw (g * 512 + c)

end Mixer

/-! ## Facts of real numbers -/

/-- An extended real that is a real number. -/
def Fin' (x : EReal) : Prop := ∃ r : ℝ, x = r

theorem Fin'.coe (r : ℝ) : Fin' (r : EReal) := ⟨r, rfl⟩
theorem Fin'.zero : Fin' 0 := ⟨0, rfl⟩
theorem Fin'.add {x y : EReal} (hx : Fin' x) (hy : Fin' y) : Fin' (x + y) := by
  obtain ⟨r, rfl⟩ := hx; obtain ⟨s, rfl⟩ := hy; exact ⟨r + s, (EReal.coe_add r s).symm⟩
theorem Fin'.mul {x y : EReal} (hx : Fin' x) (hy : Fin' y) : Fin' (x * y) := by
  obtain ⟨r, rfl⟩ := hx; obtain ⟨s, rfl⟩ := hy; exact ⟨r * s, (EReal.coe_mul r s).symm⟩
theorem Fin'.sub_self {x : EReal} (hx : Fin' x) : x - x = 0 := by
  obtain ⟨r, rfl⟩ := hx; rw [← EReal.coe_sub]; simp
theorem Fin'.siluT {x : EReal} (hx : Fin' x) : siluT x = silu x := by
  obtain ⟨r, rfl⟩ := hx; exact siluT_eq r
/-- A difference of real numbers in order is at most zero. -/
theorem Fin'.sub_le {x y : EReal} (hx : Fin' x) (hy : Fin' y) (h : x ≤ y) : min (x - y) 0 = x - y := by
  obtain ⟨r, rfl⟩ := hx; obtain ⟨s, rfl⟩ := hy
  rw [← EReal.coe_sub, ← EReal.coe_zero]
  refine min_eq_left ?_
  have := EReal.coe_le_coe_iff.1 h
  exact EReal.coe_le_coe_iff.2 (by linarith)

/-- The convolution of real numbers is a real number. -/
theorem conv_fin (A : ℕ → ℕ → EReal) (cw : ℕ → ℕ → EReal) (cb : ℕ → EReal) (hA : ∀ r c, c < 10240 → Fin' (A r c))
    (hw : ∀ r c, Fin' (cw r c)) (hb : ∀ c, Fin' (cb c)) (b t q : ℕ) (hq : q < 6144) : Fin' (conv A cw cb b t q) := by
  have ht : ∀ i, Fin' (tap A b t i q) := fun i => by
    unfold tap; split
    · exact Fin'.zero
    · exact hA _ _ (by omega)
  exact (((((ht 3).mul (hw 3 q)).add ((ht 2).mul (hw 2 q))).add ((ht 1).mul (hw 1 q))).add ((ht 0).mul (hw 0 q))).add (hb q)

end Cert.Ssd

end
-- ==== Proof.Operands.lean ====
/- The mixer's operands made on the host, at an index. -/
module

public import proofs.«01_k».proof.Proof.Gen.KernelIdeal.Frame
public import proofs.«01_k».proof.Proof.Spec
public import Idealize.ShloMosaic.Lib.Pipeline.ValueKit
public import Idealize.ShloMosaic.Lib.StableHlo.RunRead

@[expose] public section

set_option maxRecDepth 16384

noncomputable section

namespace Cert.KernelIdeal.Val

open Idealize.ShloMosaic Idealize.ShloMosaic.TcCoe Idealize.SL.Sem
open Cert.KernelIdeal Cert.KernelIdeal.Gen Cert.Ssd

variable (m : (ℓ : Loc nD τ sig) → Buf (Elt Ideal) ℓ)

/-- The sign of a word. -/
def sgn (x : BitVec 32) : BitVec 32 := if x = 0 then 0 else if x.msb then -1 else 1

/-- The rounded-down quotient of small numbers by 64, as it is spelt on the host. -/
theorem quot64 {S : Shape} (X : IVec S 32) (h : S_.BroadcastsInDim S ![]) (x : S.Idx) (q : Fin 512) (e : X x = BitVec.ofNat 32 q.val) :
    select
        (andi (cmpi .ne (signi X) (broadcastInDim S ![] h (signi (id (constantI S_ 32 64#32)))))
          (cmpi .ne (Host.remsi X (broadcastInDim S ![] h (id (constantI S_ 32 64#32)))) (broadcastInDim S ![] h (constantI S_ 32 0#32))))
        (subi (Host.divsi X (broadcastInDim S ![] h (id (constantI S_ 32 64#32)))) (broadcastInDim S ![] h (constantI S_ 32 1#32)))
        (Host.divsi X (broadcastInDim S ![] h (id (constantI S_ 32 64#32)))) x = BitVec.ofNat 32 (q.val / 64) := by
  have k : ∀ q : Fin 512, (if (IntOp.andi (IntOp.cmpi .ne (sgn (BitVec.ofNat 32 q.val)) (sgn 64#32)) (IntOp.cmpi .ne (IntOp.remsi .host (BitVec.ofNat 32 q.val) 64#32) 0#32)) = 1#1 then
      IntOp.subi (IntOp.divsi .host (BitVec.ofNat 32 q.val) 64#32) 1#32 else IntOp.divsi .host (BitVec.ofNat 32 q.val) 64#32) = BitVec.ofNat 32 (q.val / 64) := by decide +kernel
  refine Eq.trans ?_ (k q)
  rw [← e]
  rfl

/-- The remainder of small numbers by 64, as it is spelt on the host. -/
theorem rem64 {S : Shape} (X : IVec S 32) (h : S_.BroadcastsInDim S ![]) (x : S.Idx) (q : Fin 512) (e : X x = BitVec.ofNat 32 q.val) :
    let n := select (cmpi .eq (id (constantI S_ 32 64#32)) (constantI S_ 32 0#32)) (constantI S_ 32 1#32) (id (constantI S_ 32 64#32))
    let R := Host.remsi X (broadcastInDim S ![] h n)
    select (andi (cmpi .ne (cmpi .slt R (broadcastInDim S ![] h (constantI S_ 32 0#32))) (broadcastInDim S ![] h (cmpi .slt n (constantI S_ 32 0#32))))
        (cmpi .ne R (broadcastInDim S ![] h (constantI S_ 32 0#32)))) (addi R (broadcastInDim S ![] h n)) R x = BitVec.ofNat 32 (q.val % 64) := by
  have k : ∀ q : Fin 512, (if IntOp.andi (IntOp.cmpi .ne (IntOp.cmpi .slt (IntOp.remsi .host (BitVec.ofNat 32 q.val) 64#32) 0#32) (IntOp.cmpi .slt 64#32 0#32))
        (IntOp.cmpi .ne (IntOp.remsi .host (BitVec.ofNat 32 q.val) 64#32) 0#32) = 1#1 then
      IntOp.addi (IntOp.remsi .host (BitVec.ofNat 32 q.val) 64#32) 64#32 else IntOp.remsi .host (BitVec.ofNat 32 q.val) 64#32) = BitVec.ofNat 32 (q.val % 64) := by decide +kernel
  refine Eq.trans ?_ (k q)
  rw [← e]
  rfl

/-- The remainder of small numbers by 128, as it is spelt on the host. -/
theorem rem128 {S : Shape} (X : IVec S 32) (h : S_.BroadcastsInDim S ![]) (x : S.Idx) (q : Fin 512) (e : X x = BitVec.ofNat 32 q.val) :
    let n := select (cmpi .eq (id (constantI S_ 32 128#32)) (constantI S_ 32 0#32)) (constantI S_ 32 1#32) (id (constantI S_ 32 128#32))
    let R := Host.remsi X (broadcastInDim S ![] h n)
    select (andi (cmpi .ne (cmpi .slt R (broadcastInDim S ![] h (constantI S_ 32 0#32))) (broadcastInDim S ![] h (cmpi .slt n (constantI S_ 32 0#32))))
        (cmpi .ne R (broadcastInDim S ![] h (constantI S_ 32 0#32)))) (addi R (broadcastInDim S ![] h n)) R x = BitVec.ofNat 32 (q.val % 128) := by
  have k : ∀ q : Fin 512, (if IntOp.andi (IntOp.cmpi .ne (IntOp.cmpi .slt (IntOp.remsi .host (BitVec.ofNat 32 q.val) 128#32) 0#32) (IntOp.cmpi .slt 128#32 0#32))
        (IntOp.cmpi .ne (IntOp.remsi .host (BitVec.ofNat 32 q.val) 128#32) 0#32) = 1#1 then
      IntOp.addi (IntOp.remsi .host (BitVec.ofNat 32 q.val) 128#32) 128#32 else IntOp.remsi .host (BitVec.ofNat 32 q.val) 128#32) = BitVec.ofNat 32 (q.val % 128) := by decide +kernel
  refine Eq.trans ?_ (k q)
  rw [← e]
  rfl

theorem v36_at (c : Dev nD) : ∀ q : Fin 512, (V m c main_v36 : IVec S1x512 32) (ix2 0 q) = BitVec.ofNat 32 (q.val % 64) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  simp -implicitDefEqProofs only [StableHlo.TRef.toBuf, StableHlo.TRef.ofBuf, cast_cast, cast_eq]
  exact fun q => rem64 _ _ _ q rfl

theorem v2_at (c : Dev nD) : ∀ q : Fin 384, (V m c main_v2 : IVec S1x384x1 32) (ix3 0 q 0) = BitVec.ofNat 32 (q.val % 128) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  simp -implicitDefEqProofs only [StableHlo.TRef.toBuf, StableHlo.TRef.ofBuf, cast_cast, cast_eq]
  exact fun q => rem128 _ _ _ ⟨q.val, by omega⟩ rfl

theorem v11_at (c : Dev nD) : ∀ q : Fin 512, (V m c main_v11 : IVec S1x1x512 32) (ix3 0 0 q) = BitVec.ofNat 32 (q.val / 64) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  simp -implicitDefEqProofs only [StableHlo.TRef.toBuf, StableHlo.TRef.ofBuf, cast_cast, cast_eq]
  exact fun q => quot64 _ _ _ q rfl

theorem v43_at (c : Dev nD) : ∀ q : Fin 512, (V m c main_v43 : IVec S512x1 32) (ix2 q 0) = BitVec.ofNat 32 (q.val / 64) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  simp -implicitDefEqProofs only [StableHlo.TRef.toBuf, StableHlo.TRef.ofBuf, cast_cast, cast_eq]
  exact fun q => quot64 _ _ _ q rfl

theorem v45_at (c : Dev nD) : ∀ q : Fin 512, (V m c main_v45 : IVec S1x512 32) (ix2 0 q) = BitVec.ofNat 32 (q.val / 64) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  simp -implicitDefEqProofs only [StableHlo.TRef.toBuf, StableHlo.TRef.ofBuf, cast_cast, cast_eq]
  exact fun q => quot64 _ _ _ q rfl

theorem v10_at (c : Dev nD) : ∀ q : Fin 8, (V m c main_v10 : IVec S8x1x1 32) (ix3 q 0 0) = BitVec.ofNat 32 (8 * q.val) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  show ∀ q : Fin 8, IntOp.addi 0#32 (IntOp.muli (BitVec.ofNat 32 q.val) 8#32) = BitVec.ofNat 32 (8 * q.val)
  decide +kernel

/-- The number made of a comparison of small numbers. -/
theorem ind_eq (ft : FTy) (a b : ℕ) (ha : a < 2 ^ 32) (hb : b < 2 ^ 32) :
    FloatOps.uitofp (F := Ideal) ft (IntOp.cmpi .eq (BitVec.ofNat 32 a) (BitVec.ofNat 32 b)) = (if a = b then 1 else 0 : EReal) := by
  have : (BitVec.ofNat 32 a = BitVec.ofNat 32 b) ↔ a = b := by
    rw [← BitVec.toNat_inj, BitVec.toNat_ofNat, BitVec.toNat_ofNat, Nat.mod_eq_of_lt ha, Nat.mod_eq_of_lt hb]
  simp only [IntOp.cmpi]
  by_cases e : a = b
  · simp [e, FloatOps.uitofp]
  · simp [e, this, FloatOps.uitofp]
theorem ind_sge (ft : FTy) (a b : ℕ) (ha : a < 2 ^ 31) (hb : b < 2 ^ 31) :
    FloatOps.uitofp (F := Ideal) ft (IntOp.cmpi .sge (BitVec.ofNat 32 a) (BitVec.ofNat 32 b)) = (if b ≤ a then 1 else 0 : EReal) := by
  rw [WordCmp.cmpi_sge_ofNat ha hb]
  by_cases e : b ≤ a
  · simp [e, FloatOps.uitofp]
  · simp [e, FloatOps.uitofp]

theorem v40_eq (c : Dev nD) : V m c main_v40 = (uitofp .f32 (cmpi .sge (broadcastInDim S64x512 ![0, 1] bcast_S64x1_S64x512_0_1 (broadcastInDim S64x1 ![0] bcast_S64_S64x1_0 (iotaInDim S64 32 0)))
    (broadcastInDim S64x512 ![0, 1] bcast_S1x512_S64x512_0_1 (V m c main_v36 : IVec S1x512 32))) : FVec Ideal S64x512 .f32) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp

theorem v49_eq (c : Dev nD) : V m c main_v49 = (uitofp .bf16 (cmpi .eq (broadcastInDim S512x512 ![0, 1] bcast_S512x1_S512x512_0_1 (V m c main_v43 : IVec S512x1 32))
    (broadcastInDim S512x512 ![0, 1] bcast_S1x512_S512x512_0_1 (V m c main_v45 : IVec S1x512 32))) : FVec Ideal S512x512 .bf16) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp

theorem v18_eq (c : Dev nD) : V m c main_v18 = (uitofp .bf16 (cmpi .eq (broadcastInDim S8x384x512 ![0, 1, 2] bcast_S1x384x1_S8x384x512_0_1_2 (V m c main_v2 : IVec S1x384x1 32))
    (broadcastInDim S8x384x512 ![0, 1, 2] bcast_S8x1x512_S8x384x512_0_1_2 (addi (broadcastInDim S8x1x512 ![0, 1, 2] bcast_S8x1x1_S8x1x512_0_1_2 (V m c main_v10 : IVec S8x1x1 32))
      (broadcastInDim S8x1x512 ![0, 1, 2] bcast_S1x1x512_S8x1x512_0_1_2 (V m c main_v11 : IVec S1x1x512 32))))) : FVec Ideal S8x384x512 .bf16) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp

theorem v40_at (c : Dev nD) (l : Fin 64) (q : Fin 512) : (V m c main_v40 : FVec Ideal S64x512 .f32) (ix2 l q) = (if q.val % 64 ≤ l.val then 1 else 0 : EReal) := by
  have hl := l.isLt
  rw [v40_eq]
  pointwise
  rw [v36_at]
  exact ind_sge .f32 _ _ (by omega) (by omega)

theorem v49_at (c : Dev nD) (k q : Fin 512) : (V m c main_v49 : FVec Ideal S512x512 .bf16) (ix2 k q) = (if k.val / 64 = q.val / 64 then 1 else 0 : EReal) := by
  have hk := k.isLt
  have hq := q.isLt
  rw [v49_eq]
  pointwise
  rw [v43_at, v45_at]
  exact ind_eq .bf16 _ _ (by omega) (by omega)

theorem v18_at (c : Dev nD) (g : Fin 8) (x : Fin 384) (q : Fin 512) : (V m c main_v18 : FVec Ideal S8x384x512 .bf16) (ix3 g x q) = (if x.val % 128 = g.val * 8 + q.val / 64 then 1 else 0 : EReal) := by
  have hg := g.isLt
  have hq := q.isLt
  rw [v18_eq]
  pointwise
  rw [v2_at, v10_at, v11_at]
  refine Eq.trans (congrArg (fun w => FloatOps.uitofp (F := Ideal) .bf16 (IntOp.cmpi .eq _ w)) ?_) (ind_eq .bf16 _ _ (by omega) (by omega))
  rw [Nat.mul_comm g.val 8]
  exact (BitVec.ofNat_add ..).symm

theorem v19_at (c : Dev nD) (r : Fin 128) (q : Fin 16384) :
    V m c main_v19 (ix2 r q) = m ((c : Thread nD τ).loc main_arg2) (ix2 q r) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  pointwise

/-- Arrays joined of equal parts are equal. -/
theorem cat2 {a a' : FVec Ideal S4096 .f32} {b b' : FVec Ideal S2048 .f32} (ha : a = a') (hb : b = b') :
    concatenate S6144 0 [⟨S4096, a⟩, ⟨S2048, b⟩] concatenates_S4096_S2048_S6144_d0 = concatenate S6144 0 [⟨S4096, a'⟩, ⟨S2048, b'⟩] concatenates_S4096_S2048_S6144_d0 := by
  subst ha hb; rfl
theorem cat5 {a a' : FVec Ideal S4x6144 .f32} {b b' d d' e e' f f' : FVec Ideal S1x6144 .f32} (ha : a = a') (hb : b = b') (hd : d = d') (he : e = e') (hf : f = f') :
    concatenate S8x6144 0 [⟨S4x6144, a⟩, ⟨S1x6144, b⟩, ⟨S1x6144, d⟩, ⟨S1x6144, e⟩, ⟨S1x6144, f⟩] concatenates_S4x6144_S1x6144_S1x6144_S1x6144_S1x6144_S8x6144_d0
      = concatenate S8x6144 0 [⟨S4x6144, a'⟩, ⟨S1x6144, b'⟩, ⟨S1x6144, d'⟩, ⟨S1x6144, e'⟩, ⟨S1x6144, f'⟩] concatenates_S4x6144_S1x6144_S1x6144_S1x6144_S1x6144_S8x6144_d0 := by
  subst ha hb hd he hf; rfl

/-- The table of the convolution's weights and the per-channel vectors, of the arguments. -/
def TAB (a3 : FVec Ideal S4x6144 .f32) (a4 : FVec Ideal S6144 .f32) (a5 : FVec Ideal S64 .f32) (a6 : FVec Ideal S4096 .f32) : FVec Ideal S8x6144 .f32 :=
  concatenate S8x6144 0 [⟨S4x6144, a3⟩, ⟨S1x6144, broadcastInDim S1x6144 ![1] bcast_S6144_S1x6144_1 a4⟩,
    ⟨S1x6144, broadcastInDim S1x6144 ![1] bcast_S6144_S1x6144_1 (concatenate S6144 0 [⟨S4096, shapeCast S4096 (broadcastInDim S64x64 ![0] bcast_S64_S64x64_0 a5) shapeCasts_S64x64_S4096⟩, ⟨S2048, broadcastInDim S2048 ![] bcast_S_S2048 (constant S_ .f32 0x00000000#32)⟩] concatenates_S4096_S2048_S6144_d0)⟩,
    ⟨S1x6144, broadcastInDim S1x6144 ![1] bcast_S6144_S1x6144_1 (concatenate S6144 0 [⟨S4096, a6⟩, ⟨S2048, broadcastInDim S2048 ![] bcast_S_S2048 (constant S_ .f32 0x00000000#32)⟩] concatenates_S4096_S2048_S6144_d0)⟩,
    ⟨S1x6144, broadcastInDim S1x6144 ![1] bcast_S6144_S1x6144_1 (broadcastInDim S6144 ![] bcast_S_S6144 (constant S_ .f32 0x00000000#32))⟩] concatenates_S4x6144_S1x6144_S1x6144_S1x6144_S1x6144_S8x6144_d0

theorem v31_eq (c : Dev nD) : V m c main_v31 = TAB (m ((c : Thread nD τ).loc main_arg3)) (m ((c : Thread nD τ).loc main_arg4)) (m ((c : Thread nD τ).loc main_arg5)) (m ((c : Thread nD τ).loc main_arg6)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  simp only [Matrix.cons_val]
  unfold TAB
  refine cat5 ?_ ?_ ?_ ?_ ?_
  · after_reads_simp
  · after_reads_simp
  · after_reads_simp
    refine congrArg _ (cat2 ?_ ?_)
    · after_reads_simp
      rfl
    · after_reads_simp
  · after_reads_simp
    refine congrArg _ (cat2 ?_ ?_) <;> after_reads_simp
  · after_reads_simp

theorem TAB_w (a3 a4 a5 a6) (r : Fin 4) (q : Fin 6144) : TAB a3 a4 a5 a6 (ix2 ⟨r.val, by omega⟩ q) = a3 (ix2 r q) := by
  pointwise [TAB]
theorem TAB_b (a3 a4 a5 a6) (q : Fin 6144) : TAB a3 a4 a5 a6 (ix2 4 q) = a4 (ix1 q) := by
  pointwise [TAB]
theorem TAB_d (a3 a4 a5 a6) (q : Fin 6144) (hq : q.val < 4096) : TAB a3 a4 a5 a6 (ix2 5 q) = a5 (ix1 ⟨q.val / 64, by omega⟩) := by
  pointwise [TAB]
  rw [dif_pos hq]
theorem TAB_n (a3 a4 a5 a6) (q : Fin 6144) (hq : q.val < 4096) : TAB a3 a4 a5 a6 (ix2 6 q) = a6 (ix1 ⟨q.val, hq⟩) := by
  pointwise [TAB]
  rw [dif_pos hq]

end Cert.KernelIdeal.Val

end
-- ==== Proof.Chunk.lean ====
/- One chunk of 64 positions of the mixer's kernel, written once over its operands: the new state, the gated and
   normalised rows, the convolution and the selection of a head's columns; and each of them read at an index. -/
module

public import proofs.«01_k».proof.Proof.Gen.KernelIdeal
public import proofs.«01_k».proof.Proof.Spec
public import Idealize.ShloMosaic.Lib.Pointwise

@[expose] public section

set_option maxRecDepth 16384

noncomputable section

namespace Cert.KernelIdeal.Val

open Idealize.ShloMosaic
open Cert.KernelIdeal Cert.KernelIdeal.Gen Cert.Ssd

/-- SiLU by the hyperbolic tangent, on a block. -/
def siluB {s : Shape} (v : FVec Ideal s .f32) : FVec Ideal s .f32 :=
  addf (mulf (mulf (broadcast s (Scalar.ofBits .f32 0x3F000000#32 : Ideal .f32)) v)
    (tanh (mulf (broadcast s (Scalar.ofBits .f32 0x3F000000#32 : Ideal .f32)) v)))
    (mulf (broadcast s (Scalar.ofBits .f32 0x3F000000#32 : Ideal .f32)) v)

/-- The four taps with their weights, the bias, SiLU: 512 channels. -/
def convX (w3 : FVec Ideal S1024x512 .f32) (r3 : FVec Ideal S1x512 .f32) (w2 : FVec Ideal S1024x512 .f32) (r2 : FVec Ideal S1x512 .f32)
    (w1 : FVec Ideal S1024x512 .f32) (r1 : FVec Ideal S1x512 .f32) (w0 : FVec Ideal S1024x512 .f32) (r0 : FVec Ideal S1x512 .f32)
    (b : FVec Ideal S1x512 .f32) : FVec Ideal S1024x512 .f32 :=
  let row := fun v : FVec Ideal S1x512 .f32 =>
    broadcastTo S1024x512 (shapeCast S1x512 v shapeCasts_S1x512_S1x512) broadcasts_S1x512_S1024x512
  siluB (addf (addf (addf (addf (mulf w3 (row r3)) (mulf w2 (row r2))) (mulf w1 (row r1))) (mulf w0 (row r0))) (row b))

/-- The same at 128 channels. -/
def convN (w3 : FVec Ideal S1024x128 .f32) (r3 : FVec Ideal S1x128 .f32) (w2 : FVec Ideal S1024x128 .f32) (r2 : FVec Ideal S1x128 .f32)
    (w1 : FVec Ideal S1024x128 .f32) (r1 : FVec Ideal S1x128 .f32) (w0 : FVec Ideal S1024x128 .f32) (r0 : FVec Ideal S1x128 .f32)
    (b : FVec Ideal S1x128 .f32) : FVec Ideal S1024x128 .f32 :=
  let row := fun v : FVec Ideal S1x128 .f32 =>
    broadcastTo S1024x128 (shapeCast S1x128 v shapeCasts_S1x128_S1x128) broadcasts_S1x128_S1024x128
  siluB (addf (addf (addf (addf (mulf w3 (row r3)) (mulf w2 (row r2))) (mulf w1 (row r1))) (mulf w0 (row r0))) (row b))

/-- A head's column spread over the group's channels: three parts of `p` against a selector of zeros and ones. -/
def spread (e : FVec Ideal S1x384x512 .bf16) (p : FVec Ideal S1024x128 .f32) : FVec Ideal S1024x512 .f32 :=
  let hi : FVec Ideal S1024x128 .bf16 := truncf .bf16 p bitsLt_bf16_f32
  let r : FVec Ideal S1024x128 .f32 := subf p (extf .f32 hi bitsLt_bf16_f32)
  let mid : FVec Ideal S1024x128 .bf16 := truncf .bf16 r bitsLt_bf16_f32
  let lo : FVec Ideal S1024x128 .bf16 := truncf .bf16 (subf r (extf .f32 mid bitsLt_bf16_f32)) bitsLt_bf16_f32
  matmul dot_S1024x384_S384x512_S1024x512_1_0_0_1_n_n none
    (concatenate S1024x384 1 [⟨S1024x128, hi⟩, ⟨S1024x128, mid⟩, ⟨S1024x128, lo⟩] concatenates_S1024x128_S1024x128_S1024x128_S1024x384_d1)
    (shapeCast S384x512 e shapeCasts_S1x384x512_S384x512) (constant S1024x512 .f32 0x00000000#32)

theorem slB (k : ℕ) : S1024x128.Slices ![64 * (k % 16), 0] S64x128 := by
  have : ∀ j : Fin 16, S1024x128.Slices ![64 * j.val, 0] S64x128 := by decide
  exact this ⟨k % 16, Nat.mod_lt _ (by norm_num)⟩
theorem slX (k : ℕ) : S1024x512.Slices ![64 * (k % 16), 0] S64x512 := by
  have : ∀ j : Fin 16, S1024x512.Slices ![64 * j.val, 0] S64x512 := by decide
  exact this ⟨k % 16, Nat.mod_lt _ (by norm_num)⟩

/-- Chunk `k`'s 64 rows. -/
def rowsB (k : ℕ) (v : FVec Ideal S1024x128 .f32) : FVec Ideal S64x128 .f32 := extractStridedSlice S64x128 ![64 * (k % 16), 0] v (slB k)
def rowsX (k : ℕ) (v : FVec Ideal S1024x512 .f32) : FVec Ideal S64x512 .f32 := extractStridedSlice S64x512 ![64 * (k % 16), 0] v (slX k)

/-- A chunk's last row. -/
def lastRow (v : FVec Ideal S64x512 .f32) : FVec Ideal S1x512 .f32 := extractStridedSlice S1x512 ![63, 0] v slices_S64x512_o63_0_S1x512

/-- The state after a chunk. -/
def stNext (b : FVec Ideal S64x128 .f32) (ac xdt : FVec Ideal S64x512 .f32) (s : FVec Ideal S128x512 .f32) : FVec Ideal S128x512 .f32 :=
  shapeCast S128x512
    (addf (mulf s (broadcastTo S128x512 (exp (lastRow ac)) broadcasts_S1x512_S128x512))
      (matmul dot_S64x128_S64x512_S128x512_0_0_1_1_n_n none (truncf .bf16 b bitsLt_bf16_f32)
        (truncf .bf16 (mulf xdt (exp (subf (broadcastTo S64x512 (lastRow ac) broadcasts_S1x512_S64x512) ac))) bitsLt_bf16_f32)
        (constant S128x512 .f32 0x00000000#32)))
    shapeCasts_S128x512_S128x512

/-- The cumulative log-decay of the chunk laid out along the channels, head after head. -/
def laneRow (w0 w1 w2 w3 w4 w5 w6 w7 : FVec Ideal S1x64 .f32) : FVec Ideal S1x512 .f32 :=
  concatenate S1x512 1 [⟨S1x64, shapeCast S1x64 w0 shapeCasts_S1x64_S1x64⟩, ⟨S1x64, shapeCast S1x64 w1 shapeCasts_S1x64_S1x64⟩,
    ⟨S1x64, shapeCast S1x64 w2 shapeCasts_S1x64_S1x64⟩, ⟨S1x64, shapeCast S1x64 w3 shapeCasts_S1x64_S1x64⟩,
    ⟨S1x64, shapeCast S1x64 w4 shapeCasts_S1x64_S1x64⟩, ⟨S1x64, shapeCast S1x64 w5 shapeCasts_S1x64_S1x64⟩,
    ⟨S1x64, shapeCast S1x64 w6 shapeCasts_S1x64_S1x64⟩, ⟨S1x64, shapeCast S1x64 w7 shapeCasts_S1x64_S1x64⟩]
    concatenates_S1x64_S1x64_S1x64_S1x64_S1x64_S1x64_S1x64_S1x64_S1x512_d1

/-- The scores of a chunk, all heads of the group side by side. -/
def scores (c b : FVec Ideal S64x128 .f32) (ac : FVec Ideal S64x512 .f32) (lr : FVec Ideal S1x512 .f32) (causal : FVec Ideal S64x512 .f32) :
    FVec Ideal S64x512 .f32 :=
  mulf (matmul dot_S64x128_S512x128_S64x512_1_1_0_0_n_n none (truncf .bf16 c bitsLt_bf16_f32)
      (truncf .bf16 (concatenate S512x128 0 [⟨S64x128, b⟩, ⟨S64x128, b⟩, ⟨S64x128, b⟩, ⟨S64x128, b⟩, ⟨S64x128, b⟩, ⟨S64x128, b⟩, ⟨S64x128, b⟩, ⟨S64x128, b⟩]
        concatenates_S64x128_S64x128_S64x128_S64x128_S64x128_S64x128_S64x128_S64x128_S512x128_d0) bitsLt_bf16_f32)
      (constant S64x512 .f32 0x00000000#32))
    (mulf (exp (minimumf (subf ac (broadcastTo S64x512 lr broadcasts_S1x512_S64x512))
        (broadcast S64x512 (Scalar.ofBits .f32 0x00000000#32 : Ideal .f32))))
      (shapeCast S64x512 causal shapeCasts_S64x512_S64x512))

/-- The chunk's inputs times the heads' blocks. -/
def diag (sc xdt : FVec Ideal S64x512 .f32) (hb : FVec Ideal S512x512 .bf16) : FVec Ideal S64x512 .f32 :=
  let x : FVec Ideal S64x512 .bf16 := truncf .bf16 xdt bitsLt_bf16_f32
  matmul dot_S64x512_S512x512_S64x512_1_0_0_1_n_n none (truncf .bf16 sc bitsLt_bf16_f32)
    (mulf (concatenate S512x512 0 [⟨S64x512, x⟩, ⟨S64x512, x⟩, ⟨S64x512, x⟩, ⟨S64x512, x⟩, ⟨S64x512, x⟩, ⟨S64x512, x⟩, ⟨S64x512, x⟩, ⟨S64x512, x⟩]
        concatenates_S64x512_S64x512_S64x512_S64x512_S64x512_S64x512_S64x512_S64x512_S512x512_d0)
      (shapeCast S512x512 hb shapeCasts_S512x512_S512x512))
    (constant S64x512 .f32 0x00000000#32)

/-- The chunk's rows before the gate. -/
def yRaw (dg : FVec Ideal S64x512 .f32) (c : FVec Ideal S64x128 .f32) (ea xa : FVec Ideal S64x512 .f32) (dsk : FVec Ideal S1x512 .f32)
    (s : FVec Ideal S128x512 .f32) : FVec Ideal S64x512 .f32 :=
  addf (addf dg (mulf (matmul dot_S64x128_S128x512_S64x512_1_0_0_1_n_n none (truncf .bf16 c bitsLt_bf16_f32)
      (truncf .bf16 s bitsLt_bf16_f32) (constant S64x512 .f32 0x00000000#32)) ea))
    (mulf (broadcastTo S64x512 (shapeCast S1x512 dsk shapeCasts_S1x512_S1x512) broadcasts_S1x512_S64x512) xa)

/-- Rows normalised to mean square one and weighted. -/
def norm (y : FVec Ideal S64x512 .f32) (nw : FVec Ideal S1x512 .f32) : FVec Ideal S64x512 .bf16 :=
  truncf .bf16 (mulf (mulf y (broadcastTo S64x512
      (rsqrt (addf (divf (shapeCast S64x1 (multiReduction .add [1] S64 (mulf y y) 0x00000000#32 reduces_S64x512_S64 (.inl rfl) rfl) shapeCasts_S64_S64x1)
          (broadcast S64x1 (Scalar.ofBits .f32 0x44000000#32 : Ideal .f32)))
        (broadcast S64x1 (Scalar.ofBits .f32 0x358637BD#32 : Ideal .f32)))) broadcasts_S64x1_S64x512))
    (broadcastTo S64x512 (shapeCast S1x512 nw shapeCasts_S1x512_S1x512) broadcasts_S1x512_S64x512)) bitsLt_bf16_f32

/-- What one point of the grid works from. -/
structure PV where
  xa : FVec Ideal S1024x512 .f32
  ba : FVec Ideal S1024x128 .f32
  ca : FVec Ideal S1024x128 .f32
  dt : FVec Ideal S1024x512 .f32
  ac : FVec Ideal S1024x512 .f32
  causal : FVec Ideal S64x512 .f32
  hb : FVec Ideal S512x512 .bf16
  dsk : FVec Ideal S1x512 .f32
  nw : FVec Ideal S1x512 .f32

/-- The state before chunk `k` of a point that starts from `s`. -/
def PV.state (v : PV) (s : FVec Ideal S128x512 .f32) : ℕ → FVec Ideal S128x512 .f32
  | 0 => s
  | k + 1 => stNext (rowsB k v.ba) (rowsX k v.ac) (rowsX k (mulf v.xa v.dt)) (v.state s k)

/-- The gated rows of chunk `k`. -/
def PV.gate (v : PV) (s : FVec Ideal S128x512 .f32) (k : ℕ) (z : FVec Ideal S64x512 .f32) (lr : FVec Ideal S1x512 .f32) : FVec Ideal S64x512 .f32 :=
  mulf (yRaw (diag (scores (rowsB k v.ca) (rowsB k v.ba) (rowsX k v.ac) lr v.causal) (rowsX k (mulf v.xa v.dt)) v.hb)
    (rowsB k v.ca) (rowsX k (exp v.ac)) (rowsX k v.xa) v.dsk (v.state s k)) (siluB z)

/-- The stored rows of chunk `k`. -/
def PV.out (v : PV) (s : FVec Ideal S128x512 .f32) (k : ℕ) (z : FVec Ideal S64x512 .f32) (lr : FVec Ideal S1x512 .f32) : FVec Ideal S64x512 .bf16 :=
  norm (v.gate s k z lr) v.nw

/-! ## Read at an index -/

theorem ofBits_half : Ideal.ofBits .f32 0x3F000000#32 = ((1 / 2 : ℝ) : EReal) := by
  simp [Ideal.ofBits, Ideal.ieee, -EReal.coe_mul]; norm_num

theorem siluB_apply {s : Shape} (v : FVec Ideal s .f32) (i : s.Idx) : siluB v i = siluT (v i) := by
  pointwise [siluB]
  rw [ofBits_half]; rfl

theorem convX_apply (w3 r3 w2 r2 w1 r1 w0 r0 b) (r : Fin 1024) (c : Fin 512) :
    convX w3 r3 w2 r2 w1 r1 w0 r0 b (ix2 r c)
      = siluT (w3 (ix2 r c) * r3 (ix2 0 c) + w2 (ix2 r c) * r2 (ix2 0 c) + w1 (ix2 r c) * r1 (ix2 0 c) + w0 (ix2 r c) * r0 (ix2 0 c) + b (ix2 0 c)) := by
  unfold convX
  rw [siluB_apply]
  pointwise

theorem convN_apply (w3 r3 w2 r2 w1 r1 w0 r0 b) (r : Fin 1024) (c : Fin 128) :
    convN w3 r3 w2 r2 w1 r1 w0 r0 b (ix2 r c)
      = siluT (w3 (ix2 r c) * r3 (ix2 0 c) + w2 (ix2 r c) * r2 (ix2 0 c) + w1 (ix2 r c) * r1 (ix2 0 c) + w0 (ix2 r c) * r0 (ix2 0 c) + b (ix2 0 c)) := by
  unfold convN
  rw [siluB_apply]
  pointwise

theorem stNext_apply (b : FVec Ideal S64x128 .f32) (ac xdt : FVec Ideal S64x512 .f32) (s : FVec Ideal S128x512 .f32) (n : Fin 128) (c : Fin 512) :
    stNext b ac xdt s (ix2 n c) = s (ix2 n c) * Ideal.exp (ac (ix2 63 c))
      + ∑ l : Fin 64, b (ix2 l n) * (xdt (ix2 l c) * Ideal.exp (ac (ix2 63 c) - ac (ix2 l c))) := by
  pointwise [stNext, lastRow]

theorem rep8 {α : Type} (f : Fin 64 → α) (k : Fin 512) :
    (if h : k.val < 64 then f ⟨k.val, h⟩
     else if h : k.val - 64 < 64 then f ⟨k.val - 64, h⟩
     else if h : k.val - 64 - 64 < 64 then f ⟨k.val - 64 - 64, h⟩
     else if h : k.val - 64 - 64 - 64 < 64 then f ⟨k.val - 64 - 64 - 64, h⟩
     else if h : k.val - 64 - 64 - 64 - 64 < 64 then f ⟨k.val - 64 - 64 - 64 - 64, h⟩
     else if h : k.val - 64 - 64 - 64 - 64 - 64 < 64 then f ⟨k.val - 64 - 64 - 64 - 64 - 64, h⟩
     else if h : k.val - 64 - 64 - 64 - 64 - 64 - 64 < 64 then f ⟨k.val - 64 - 64 - 64 - 64 - 64 - 64, h⟩
     else f ⟨k.val - 64 - 64 - 64 - 64 - 64 - 64 - 64, by omega⟩)
      = f ⟨k.val % 64, Nat.mod_lt _ (by norm_num)⟩ := by
  split_ifs <;> exact congrArg f (Fin.ext (by simp only []; omega))

theorem laneRow_apply (w0 w1 w2 w3 w4 w5 w6 w7 : FVec Ideal S1x64 .f32) (f : ℕ → EReal)
    (h0 : ∀ j : Fin 64, w0 (ix2 0 j) = f (0 + j.val)) (h1 : ∀ j : Fin 64, w1 (ix2 0 j) = f (64 + j.val))
    (h2 : ∀ j : Fin 64, w2 (ix2 0 j) = f (128 + j.val)) (h3 : ∀ j : Fin 64, w3 (ix2 0 j) = f (192 + j.val))
    (h4 : ∀ j : Fin 64, w4 (ix2 0 j) = f (256 + j.val)) (h5 : ∀ j : Fin 64, w5 (ix2 0 j) = f (320 + j.val))
    (h6 : ∀ j : Fin 64, w6 (ix2 0 j) = f (384 + j.val)) (h7 : ∀ j : Fin 64, w7 (ix2 0 j) = f (448 + j.val)) (c : Fin 512) :
    laneRow w0 w1 w2 w3 w4 w5 w6 w7 (ix2 0 c) = f c.val := by
  pointwise [laneRow]
  simp only [h0, h1, h2, h3, h4, h5, h6, h7]
  split_ifs <;> exact congrArg f (by omega)

theorem scores_apply (c b : FVec Ideal S64x128 .f32) (ac : FVec Ideal S64x512 .f32) (lr : FVec Ideal S1x512 .f32) (causal : FVec Ideal S64x512 .f32)
    (l : Fin 64) (k : Fin 512) :
    scores c b ac lr causal (ix2 l k) = (∑ n : Fin 128, c (ix2 l n) * b (ix2 ⟨k.val % 64, Nat.mod_lt _ (by norm_num)⟩ n))
      * (Ideal.exp (min (ac (ix2 l k) - lr (ix2 0 k)) 0) * causal (ix2 l k)) := by
  pointwise [scores]
  congr 1
  refine Finset.sum_congr rfl fun n _ => congrArg _ ?_
  exact rep8 (fun j => b (ix2 j n)) k

theorem diag_apply (sc xdt : FVec Ideal S64x512 .f32) (hb : FVec Ideal S512x512 .bf16) (l : Fin 64) (c : Fin 512) :
    diag sc xdt hb (ix2 l c) = ∑ k : Fin 512, sc (ix2 l k) * (xdt (ix2 ⟨k.val % 64, Nat.mod_lt _ (by norm_num)⟩ c) * hb (ix2 k c)) := by
  pointwise [diag]
  refine Finset.sum_congr rfl fun k _ => congrArg _ (congrArg (· * hb (ix2 k c)) ?_)
  exact rep8 (fun j => xdt (ix2 j c)) k

/-- With the heads' blocks as a mask, only the channel's own head is left. -/
theorem diag_head (sc xdt : FVec Ideal S64x512 .f32) (hb : FVec Ideal S512x512 .bf16) (l : Fin 64) (c : Fin 512)
    (hhb : ∀ k : Fin 512, hb (ix2 k c) = if k.val / 64 = c.val / 64 then 1 else 0) :
    diag sc xdt hb (ix2 l c)
      = ∑ s : Fin 64, sc (ix2 l ⟨c.val / 64 * 64 + s.val, by omega⟩) * xdt (ix2 s c) := by
  rw [diag_apply]
  symm
  refine Fintype.sum_of_injective (fun s : Fin 64 => (⟨c.val / 64 * 64 + s.val, by omega⟩ : Fin 512)) ?_ _ _ ?_ ?_
  · intro a b h
    have := congrArg Fin.val h
    exact Fin.ext (by simpa using this)
  · intro k hk
    rw [hhb, if_neg, mul_zero, mul_zero]
    intro h
    exact hk ⟨⟨k.val % 64, Nat.mod_lt _ (by norm_num)⟩, Fin.ext (by simp only []; omega)⟩
  · intro s
    rw [hhb, if_pos (by simp only []; omega), mul_one]
    refine congrArg (fun j => _ * xdt (ix2 j c)) (Fin.ext ?_)
    simp only []; omega

theorem yRaw_apply (dg : FVec Ideal S64x512 .f32) (cc : FVec Ideal S64x128 .f32) (ea xa : FVec Ideal S64x512 .f32) (dsk : FVec Ideal S1x512 .f32)
    (s : FVec Ideal S128x512 .f32) (l : Fin 64) (c : Fin 512) :
    yRaw dg cc ea xa dsk s (ix2 l c) = dg (ix2 l c) + (∑ n : Fin 128, cc (ix2 l n) * s (ix2 n c)) * ea (ix2 l c) + dsk (ix2 0 c) * xa (ix2 l c) := by
  pointwise [yRaw]

theorem norm_apply (y : FVec Ideal S64x512 .f32) (nw : FVec Ideal S1x512 .f32) (l : Fin 64) (c : Fin 512) :
    norm y nw (ix2 l c) = y (ix2 l c) * Ideal.rsqrt (Ideal.div (∑ e : Fin 512, y (ix2 l e) * y (ix2 l e)) (Ideal.ofBits .f32 0x44000000#32)
      + Ideal.ofBits .f32 0x358637BD#32) * nw (ix2 0 c) := by
  pointwise [norm]

theorem parts3 (p : Fin 128 → EReal) (h : Fin 128) (hp : Fin' (p h)) (x : Fin 384) (hm : x.val % 128 = h.val) (hx : ¬ x.val < 128) :
    (if g : x.val - 128 < 128 then p ⟨x.val - 128, g⟩ - p ⟨x.val - 128, g⟩
     else p ⟨x.val - 128 - 128, by omega⟩ - p ⟨x.val - 128 - 128, by omega⟩ - (p ⟨x.val - 128 - 128, by omega⟩ - p ⟨x.val - 128 - 128, by omega⟩)) = 0 := by
  by_cases g : x.val - 128 < 128
  · have e : (⟨x.val - 128, g⟩ : Fin 128) = h := Fin.ext (by show x.val - 128 = h.val; omega)
    rw [dif_pos g, e, hp.sub_self]
  · have e : (⟨x.val - 128 - 128, by omega⟩ : Fin 128) = h := Fin.ext (by show x.val - 128 - 128 = h.val; omega)
    rw [dif_neg g, e, hp.sub_self, sub_zero]

/-- The selector picks its column of `p`, where that column is real. -/
theorem spread_apply (e : FVec Ideal S1x384x512 .bf16) (p : FVec Ideal S1024x128 .f32) (r : Fin 1024) (c : Fin 512) (h : Fin 128)
    (he : ∀ x : Fin 384, e (ix3 0 x c) = if x.val % 128 = h.val then 1 else 0) (hp : Fin' (p (ix2 r h))) :
    spread e p (ix2 r c) = p (ix2 r h) := by
  pointwise [spread]
  rw [Finset.sum_eq_single (⟨h.val, by omega⟩ : Fin 384)]
  · rw [he, if_pos (Nat.mod_eq_of_lt h.isLt), mul_one, dif_pos h.isLt]
  · intro x _ hx
    rw [he]
    by_cases hm : x.val % 128 = h.val
    · have hx' : ¬ x.val < 128 := fun hlt => hx (Fin.ext (by show x.val = h.val; omega))
      rw [dif_neg hx', if_pos hm, mul_one]
      exact parts3 (fun j => p (ix2 r j)) h hp x hm hx'
    · rw [if_neg hm, mul_zero]
  · intro hx; exact absurd (Finset.mem_univ _) hx

end Cert.KernelIdeal.Val

end
-- ==== Proof.Pieces.lean ====
/- What one point of the mixer's grid stores, over the blocks it reads and what the point before left: the sixteen chunks'
   rows, the last rows of its inputs and the state after its last chunk. -/
module

public import proofs.«01_k».proof.Proof.Chunk
public import proofs.«01_k».proof.Proof.Gen.KernelIdeal.Frame
public import Idealize.ShloMosaic.Lib.Pipeline.ValueKit
public import Idealize.ShloMosaic.Lib.WritesUnit

@[expose] public section

set_option maxRecDepth 16384

noncomputable section

namespace Cert.KernelIdeal.Val

open Idealize.ShloMosaic Idealize.ShloMosaic.TcCoe
open Cert.KernelIdeal Cert.KernelIdeal.Gen Cert.Ssd

/-- Eight rows from the point before, then this point's 1024. -/
def ext {W : ℕ} (h : (⟨2, ![1032, W]⟩ : Shape).Idx → Elt Ideal .f32) (x : (⟨2, ![1024, W]⟩ : Shape).Idx → Elt Ideal .f32) : (⟨2, ![1032, W]⟩ : Shape).Idx → Elt Ideal .f32 :=
  fun y => if hy : (y 0).val < 8 then h y else x (ix2 ⟨(y 0).val - 8, by have h2 : (y 0).val < 1032 := (y 0).isLt; omega⟩ (y 1))

theorem read_ext {W : ℕ} {sig : RefSig} {κ : Kind} {sp : Space} (v : View sig κ sp (⟨2, ![1032, W]⟩ : Shape) .f32) (f : v.ty.Contents (Elt Ideal))
    (h : (⟨2, ![1032, W]⟩ : Shape).Idx → Elt Ideal .f32) (x : (⟨2, ![1024, W]⟩ : Shape).Idx → Elt Ideal .f32) (L : List (View.Piece (Elt Ideal) (⟨2, ![1032, W]⟩ : Shape) .f32))
    (inb : ∀ a : Fin 2, (![8, 0] : Fin 2 → ℕ) a + (![1024, W] : Fin 2 → ℕ) a ≤ (![1032, W] : Fin 2 → ℕ) a)
    (hL : ∀ y : (⟨2, ![1032, W]⟩ : Shape).Idx, (y 0).val < 8 → v.read (Elt Ideal) (v.writes (Elt Ideal) f L) y = h y) :
    v.read (Elt Ideal) (v.writes (Elt Ideal) f ((⟨Rect.unit (s := ⟨2, ![1032, W]⟩) ![8, 0] ![1024, W] inb, x⟩ : View.Piece (Elt Ideal) (⟨2, ![1032, W]⟩ : Shape) .f32) :: L)) = ext h x := by
  funext y
  have h2 : (y 0).val < 1032 := (y 0).isLt
  unfold ext
  by_cases hy : (y 0).val < 8
  · rw [dif_pos hy, View.read_writes_cons_rows_of_not_mem v f inb x L y rfl rfl (Or.inl hy), hL y hy]
  · rw [dif_neg hy]
    exact View.read_writes_cons_rows_of_mem v f inb x L y (ix2 ⟨(y 0).val - 8, by omega⟩ (y 1)) rfl
      (show (y 0).val = 8 + ((y 0).val - 8) by omega) rfl

theorem ext_zero {W : ℕ} {sig : RefSig} {κ : Kind} {sp : Space} (v : View sig κ sp (⟨2, ![1032, W]⟩ : Shape) .f32)
    (x : (⟨2, ![1024, W]⟩ : Shape).Idx → Elt Ideal .f32) (z : (⟨2, ![8, W]⟩ : Shape).Idx → Elt Ideal .f32)
    (inb : ∀ a : Fin 2, (![8, 0] : Fin 2 → ℕ) a + (![1024, W] : Fin 2 → ℕ) a ≤ (![1032, W] : Fin 2 → ℕ) a)
    (inb' : ∀ a : Fin 2, (![0, 0] : Fin 2 → ℕ) a + (![8, W] : Fin 2 → ℕ) a ≤ (![1032, W] : Fin 2 → ℕ) a)
    (hz : ∀ i, z i = 0) (r : Rect (⟨2, ![1032, W]⟩ : Shape)) :
    v.readCov [(⟨Rect.unit (s := ⟨2, ![1032, W]⟩) ![8, 0] ![1024, W] inb, x⟩ : View.Piece (Elt Ideal) (⟨2, ![1032, W]⟩ : Shape) .f32),
      (⟨Rect.unit (s := ⟨2, ![1032, W]⟩) ![0, 0] ![8, W] inb', z⟩ : View.Piece (Elt Ideal) (⟨2, ![1032, W]⟩ : Shape) .f32)] r.toLoadRect
      = View.ld (ext (fun _ => 0) x) r := by
  have := read_ext v v.junk (fun _ => 0) x [(⟨Rect.unit (s := ⟨2, ![1032, W]⟩) ![0, 0] ![8, W] inb', z⟩ : View.Piece (Elt Ideal) (⟨2, ![1032, W]⟩ : Shape) .f32)] inb (fun y hy => by
    rw [View.read_writes_cons_rows_of_mem v v.junk inb' z [] y (ix2 ⟨(y 0).val, hy⟩ (y 1)) rfl (Nat.zero_add _).symm rfl]
    exact hz _)
  rw [← this]
  rfl

theorem ext_prev {W : ℕ} {sig : RefSig} {κ : Kind} {sp : Space} (m : Memref sig κ sp (⟨2, ![1032, W]⟩ : Shape) .f32) (hm : m.IsWhole)
    (h : (⟨2, ![1032, W]⟩ : Shape).Idx → Elt Ideal .f32) (x : (⟨2, ![1024, W]⟩ : Shape).Idx → Elt Ideal .f32)
    (inb : ∀ a : Fin 2, (![8, 0] : Fin 2 → ℕ) a + (![1024, W] : Fin 2 → ℕ) a ≤ (![1032, W] : Fin 2 → ℕ) a) :
    m.view.read (Elt Ideal) (m.view.writes (Elt Ideal) (hm.unread h) [(⟨Rect.unit (s := ⟨2, ![1032, W]⟩) ![8, 0] ![1024, W] inb, x⟩ : View.Piece (Elt Ideal) (⟨2, ![1032, W]⟩ : Shape) .f32)])
      = ext h x :=
  read_ext m.view _ h x [] inb (fun y _ => congrFun (hm.read_unread h) y)

/-- The three convolutions' results at a point, over its block, the rows before it and the weights. -/
def cX (h : Vec Ideal S1032x512 .f32) (x : Vec Ideal S1024x512 .f32) (w : Vec Ideal S8x512 .f32) : Vec Ideal S1024x512 .f32 :=
  convX x (View.ld w (Rect.unit ![3, 0] ![1, 512] inb_S8x512_S1x512_3_0))
    (View.ld (ext h x) (Rect.unit ![7, 0] ![1024, 512] inb_S1032x512_S1024x512_7_0)) (View.ld w (Rect.unit ![2, 0] ![1, 512] inb_S8x512_S1x512_2_0))
    (View.ld (ext h x) (Rect.unit ![6, 0] ![1024, 512] inb_S1032x512_S1024x512_6_0)) (View.ld w (Rect.unit ![1, 0] ![1, 512] inb_S8x512_S1x512_1_0))
    (View.ld (ext h x) (Rect.unit ![5, 0] ![1024, 512] inb_S1032x512_S1024x512_5_0)) (View.ld w (Rect.unit ![0, 0] ![1, 512] inb_S8x512_S1x512_0_0))
    (View.ld w (Rect.unit ![4, 0] ![1, 512] inb_S8x512_S1x512_4_0))
def cN (h : Vec Ideal S1032x128 .f32) (x : Vec Ideal S1024x128 .f32) (w : Vec Ideal S8x128 .f32) : Vec Ideal S1024x128 .f32 :=
  convN x (View.ld w (Rect.unit ![3, 0] ![1, 128] inb_S8x128_S1x128_3_0))
    (View.ld (ext h x) (Rect.unit ![7, 0] ![1024, 128] inb_S1032x128_S1024x128_7_0)) (View.ld w (Rect.unit ![2, 0] ![1, 128] inb_S8x128_S1x128_2_0))
    (View.ld (ext h x) (Rect.unit ![6, 0] ![1024, 128] inb_S1032x128_S1024x128_6_0)) (View.ld w (Rect.unit ![1, 0] ![1, 128] inb_S8x128_S1x128_1_0))
    (View.ld (ext h x) (Rect.unit ![5, 0] ![1024, 128] inb_S1032x128_S1024x128_5_0)) (View.ld w (Rect.unit ![0, 0] ![1, 128] inb_S8x128_S1x128_0_0))
    (View.ld w (Rect.unit ![4, 0] ![1, 128] inb_S8x128_S1x128_4_0))

/-- What a point works from, over its blocks and the first eight rows of the three buffers. -/
def pv (h0 : Vec Ideal S1032x512 .f32) (h1 h2 : Vec Ideal S1032x128 .f32) (x1 : Vec Ideal S1024x512 .f32) (x2 x3 x4 x5 : Vec Ideal S1024x128 .f32)
    (x7 : Vec Ideal S1x384x512 .bf16) (x8 : Vec Ideal S64x512 .f32) (x9 : Vec Ideal S512x512 .bf16) (x10 : Vec Ideal S8x512 .f32)
    (x11 x12 : Vec Ideal S8x128 .f32) : PV where
  xa := cX h0 x1 x10
  ba := cN h1 x2 x11
  ca := cN h2 x3 x12
  dt := spread x7 x4
  ac := spread x7 x5
  causal := x8
  hb := x9
  dsk := View.ld x10 (Rect.unit ![5, 0] ![1, 512] inb_S8x512_S1x512_5_0)
  nw := View.ld x10 (Rect.unit ![6, 0] ![1, 512] inb_S8x512_S1x512_6_0)

theorem inbZ (k : ℕ) : ∀ a : Fin 2, (![64 * (k % 16), 0] : Fin 2 → ℕ) a + (![64, 512] : Fin 2 → ℕ) a ≤ S1024x512.size a := by
  have : ∀ j : Fin 16, ∀ a : Fin 2, (![64 * j.val, 0] : Fin 2 → ℕ) a + (![64, 512] : Fin 2 → ℕ) a ≤ S1024x512.size a := by decide
  exact this ⟨k % 16, Nat.mod_lt _ (by norm_num)⟩
theorem inbR (h k : ℕ) : ∀ a : Fin 2, (![h % 8, 64 * (k % 16)] : Fin 2 → ℕ) a + (![1, 64] : Fin 2 → ℕ) a ≤ S8x1024.size a := by
  have : ∀ h : Fin 8, ∀ j : Fin 16, ∀ a : Fin 2, (![h.val, 64 * j.val] : Fin 2 → ℕ) a + (![1, 64] : Fin 2 → ℕ) a ≤ S8x1024.size a := by decide
  exact this ⟨h % 8, Nat.mod_lt _ (by norm_num)⟩ ⟨k % 16, Nat.mod_lt _ (by norm_num)⟩

/-- Chunk `k`'s rows of the gate's input, and its cumulative log-decays head after head. -/
def zRows (x0 : Vec Ideal S1024x512 .f32) (k : ℕ) : Vec Ideal S64x512 .f32 := View.ld x0 (Rect.unit ![64 * (k % 16), 0] ![64, 512] (inbZ k))
def aRow (x6 : Vec Ideal S8x1024 .f32) (h k : ℕ) : Vec Ideal S1x64 .f32 := View.ld x6 (Rect.unit ![h % 8, 64 * (k % 16)] ![1, 64] (inbR h k))
def aRows (x6 : Vec Ideal S8x1024 .f32) (k : ℕ) : Vec Ideal S1x512 .f32 :=
  laneRow (aRow x6 0 k) (aRow x6 1 k) (aRow x6 2 k) (aRow x6 3 k) (aRow x6 4 k) (aRow x6 5 k) (aRow x6 6 k) (aRow x6 7 k)

/-- The piece a chunk stores. -/
def piece (v : PV) (s : Vec Ideal S128x512 .f32) (x0 : Vec Ideal S1024x512 .f32) (x6 : Vec Ideal S8x1024 .f32) (k : ℕ) :
    View.Piece (Elt Ideal) S1024x512 .bf16 :=
  ⟨Rect.unit ![64 * (k % 16), 0] ![64, 512] (inbZ k), v.out s k (zRows x0 k) (aRows x6 k)⟩

/-- The sixteen chunks' pieces, the last stored first. -/
def pieces (v : PV) (s : Vec Ideal S128x512 .f32) (x0 : Vec Ideal S1024x512 .f32) (x6 : Vec Ideal S8x1024 .f32) : ℕ → List (View.Piece (Elt Ideal) S1024x512 .bf16)
  | 0 => []
  | k + 1 => piece v s x0 x6 k :: pieces v s x0 x6 k

theorem pay1_zero (i) : k0_pay1 (F := Ideal) i = 0 := by unfold k0_pay1; rw [shapeCast_self]; exact Ideal.ofBits_zero_f32
theorem pay2_zero (i) : k0_pay2 (F := Ideal) i = 0 := by unfold k0_pay2; rw [shapeCast_self]; exact Ideal.ofBits_zero_f32
theorem pay3_zero (i) : k0_pay3 (F := Ideal) i = 0 := by unfold k0_pay3; rw [shapeCast_self]; exact Ideal.ofBits_zero_f32
theorem pay6_id (x) : k0_pay6 (F := Ideal) x = x := by unfold k0_pay6; exact shapeCast_self _ _
theorem pay12_id (x) : k0_pay12 (F := Ideal) x = x := by unfold k0_pay12; exact shapeCast_self _ _
theorem pay17_id (x) : k0_pay17 (F := Ideal) x = x := by unfold k0_pay17; exact shapeCast_self _ _

theorem ld0X (x : Vec Ideal S1024x512 .f32) : View.ld x (Rect.unit ![0, 0] ![1024, 512] inb_S1024x512_S1024x512_0_0) = x := View.ld_unit_lit _ x (by decide)
theorem ld0B (x : Vec Ideal S1024x128 .f32) : View.ld x (Rect.unit ![0, 0] ![1024, 128] inb_S1024x128_S1024x128_0_0) = x := View.ld_unit_lit _ x (by decide)
theorem ld0E (x : Vec Ideal S1x384x512 .bf16) : View.ld x (Rect.unit ![0, 0, 0] ![1, 384, 512] inb_S1x384x512_S1x384x512_0_0_0) = x := View.ld_unit_lit _ x (by decide)
theorem ld0C (x : Vec Ideal S64x512 .f32) : View.ld x (Rect.unit ![0, 0] ![64, 512] inb_S64x512_S64x512_0_0) = x := View.ld_unit_lit _ x (by decide)
theorem ld0H (x : Vec Ideal S512x512 .bf16) : View.ld x (Rect.unit ![0, 0] ![512, 512] inb_S512x512_S512x512_0_0) = x := View.ld_unit_lit _ x (by decide)
theorem ld0S (x : Vec Ideal S128x512 .f32) : View.ld x (Rect.unit ![0, 0] ![128, 512] inb_S128x512_S128x512_0_0) = x := View.ld_unit_lit _ x (by decide)

theorem cX_eq (h x w) : k0_pay10 (F := Ideal) (k0_pay5 (View.ld w (Rect.unit ![4, 0] ![1, 512] inb_S8x512_S1x512_4_0)))
    (k0_pay7 x (View.ld w (Rect.unit ![3, 0] ![1, 512] inb_S8x512_S1x512_3_0))
      (View.ld (ext h x) (Rect.unit ![7, 0] ![1024, 512] inb_S1032x512_S1024x512_7_0)) (View.ld w (Rect.unit ![2, 0] ![1, 512] inb_S8x512_S1x512_2_0))
      (View.ld (ext h x) (Rect.unit ![6, 0] ![1024, 512] inb_S1032x512_S1024x512_6_0)) (View.ld w (Rect.unit ![1, 0] ![1, 512] inb_S8x512_S1x512_1_0)))
    (k0_pay8 (View.ld (ext h x) (Rect.unit ![5, 0] ![1024, 512] inb_S1032x512_S1024x512_5_0)) (View.ld w (Rect.unit ![0, 0] ![1, 512] inb_S8x512_S1x512_0_0)))
    = cX h x w := rfl
theorem dt_eq (e p) : k0_pay22 (F := Ideal) e p = spread e p := rfl
theorem ac_eq (e p) : k0_pay24 (F := Ideal) (k0_pay21 e) (k0_pay23 p) (constant S1024x512 .f32 0x00000000#32) = spread e p := rfl
theorem ea_eq (e p) : k0_pay26 (F := Ideal) (k0_pay21 e) (k0_pay23 p) (constant S1024x512 .f32 0x00000000#32) = exp (spread e p) := rfl
theorem xdt_eq (a b) : k0_pay25 (F := Ideal) a b = mulf a b := rfl
theorem bN_eq (h x w) : k0_pay15 (F := Ideal) (k0_pay11 (View.ld w (Rect.unit ![4, 0] ![1, 128] inb_S8x128_S1x128_4_0)))
    (k0_pay13 x (View.ld w (Rect.unit ![3, 0] ![1, 128] inb_S8x128_S1x128_3_0))
      (View.ld (ext h x) (Rect.unit ![7, 0] ![1024, 128] inb_S1032x128_S1024x128_7_0)) (View.ld w (Rect.unit ![2, 0] ![1, 128] inb_S8x128_S1x128_2_0))
      (View.ld (ext h x) (Rect.unit ![6, 0] ![1024, 128] inb_S1032x128_S1024x128_6_0)) (View.ld w (Rect.unit ![1, 0] ![1, 128] inb_S8x128_S1x128_1_0)))
    (View.ld (ext h x) (Rect.unit ![5, 0] ![1024, 128] inb_S1032x128_S1024x128_5_0)) (View.ld w (Rect.unit ![0, 0] ![1, 128] inb_S8x128_S1x128_0_0))
    = cN h x w := rfl
theorem cN_eq (h x w) : k0_pay20 (F := Ideal) (k0_pay16 (View.ld w (Rect.unit ![4, 0] ![1, 128] inb_S8x128_S1x128_4_0)))
    (k0_pay18 x (View.ld w (Rect.unit ![3, 0] ![1, 128] inb_S8x128_S1x128_3_0))
      (View.ld (ext h x) (Rect.unit ![7, 0] ![1024, 128] inb_S1032x128_S1024x128_7_0)) (View.ld w (Rect.unit ![2, 0] ![1, 128] inb_S8x128_S1x128_2_0)))
    (View.ld (ext h x) (Rect.unit ![6, 0] ![1024, 128] inb_S1032x128_S1024x128_6_0)) (View.ld w (Rect.unit ![1, 0] ![1, 128] inb_S8x128_S1x128_1_0))
    (View.ld (ext h x) (Rect.unit ![5, 0] ![1024, 128] inb_S1032x128_S1024x128_5_0)) (View.ld w (Rect.unit ![0, 0] ![1, 128] inb_S8x128_S1x128_0_0))
    = cN h x w := rfl

/-! Each chunk's stored state, as the printed program cuts it, is the one step `stNext`. -/
theorem ac0_eq (e p) : k0_pay30 (F := Ideal) (k0_pay21 e) (k0_pay23 p) (constant S1024x512 .f32 0x00000000#32) = rowsX 0 (spread e p) := rfl
theorem al0_eq (e p) : k0_pay31 (F := Ideal) (k0_pay21 e) (k0_pay23 p) (constant S1024x512 .f32 0x00000000#32) = lastRow (rowsX 0 (spread e p)) := rfl
theorem xd0_eq (a b) : k0_pay32 (F := Ideal) a b = rowsX 0 (mulf a b) := rfl

section Cut
variable (xa xd ac : FVec Ideal S1024x512 .f32) (ba ca : FVec Ideal S1024x128 .f32) (s : FVec Ideal S128x512 .f32)
theorem st0_eq : k0_pay36 (F := Ideal) (k0_pay28 ba) (rowsX 0 ac) (lastRow (rowsX 0 ac)) (rowsX 0 xd) s = stNext (rowsB 0 ba) (rowsX 0 ac) (rowsX 0 xd) s := rfl
theorem st1_eq : k0_pay48 (F := Ideal) (k0_pay41 ba) (k0_pay43 ac) (k0_pay44 ac) (k0_pay45 xd) s = stNext (rowsB 1 ba) (rowsX 1 ac) (rowsX 1 xd) s := rfl
theorem st2_eq : k0_pay63 (F := Ideal) (k0_pay52 ba) (k0_pay54 ac) (k0_pay55 ac) (k0_pay56 xd) s = stNext (rowsB 2 ba) (rowsX 2 ac) (rowsX 2 xd) s := rfl
theorem st3_eq : k0_pay79 (F := Ideal) (k0_pay76 (k0_pay69 ac) s) (k0_pay77 (k0_pay66 ba)) (k0_pay78 (k0_pay68 ac) (k0_pay69 ac) (k0_pay70 xd)) (constant S128x512 .f32 0x00000000#32) = stNext (rowsB 3 ba) (rowsX 3 ac) (rowsX 3 xd) s := rfl
theorem st4_eq : k0_pay90 (F := Ideal) (k0_pay81 ba) (k0_pay83 ac) (k0_pay84 ac) (k0_pay85 xd) s = stNext (rowsB 4 ba) (rowsX 4 ac) (rowsX 4 xd) s := rfl
theorem st5_eq : k0_pay99 (F := Ideal) (k0_pay92 ba) (k0_pay94 ac) (k0_pay95 ac) (k0_pay96 xd) s = stNext (rowsB 5 ba) (rowsX 5 ac) (rowsX 5 xd) s := rfl
theorem st6_eq : k0_pay109 (F := Ideal) (k0_pay103 ba) (k0_pay105 ac) (k0_pay106 ac) (k0_pay107 xd) s = stNext (rowsB 6 ba) (rowsX 6 ac) (rowsX 6 xd) s := rfl
theorem st7_eq : k0_pay124 (F := Ideal) (k0_pay112 ba) (k0_pay114 ac) (k0_pay115 ac) (k0_pay116 xd) s = stNext (rowsB 7 ba) (rowsX 7 ac) (rowsX 7 xd) s := rfl
theorem st8_eq : k0_pay141 (F := Ideal) (k0_pay140 (k0_pay128 ba) (k0_pay130 ac) (k0_pay131 ac) (k0_pay132 xd) s) = stNext (rowsB 8 ba) (rowsX 8 ac) (rowsX 8 xd) s := rfl
theorem st9_eq : k0_pay153 (F := Ideal) (k0_pay143 ba) (k0_pay146 ac) s (k0_pay152 (k0_pay145 ac) (k0_pay146 ac) (k0_pay147 xd)) = stNext (rowsB 9 ba) (rowsX 9 ac) (rowsX 9 xd) s := rfl
theorem st10_eq : k0_pay161 (F := Ideal) (k0_pay155 ba) (k0_pay157 ac) (k0_pay158 (k0_pay157 ac)) (k0_pay159 xd) s = stNext (rowsB 10 ba) (rowsX 10 ac) (rowsX 10 xd) s := rfl
theorem st11_eq : k0_pay172 (F := Ideal) (k0_pay164 ba) (k0_pay166 ac) (k0_pay167 ac) (k0_pay168 xd) s = stNext (rowsB 11 ba) (rowsX 11 ac) (rowsX 11 xd) s := rfl
theorem st12_eq : k0_pay182 (F := Ideal) (k0_pay176 ba) (k0_pay178 ac) (k0_pay179 ac) (k0_pay180 xd) s = stNext (rowsB 12 ba) (rowsX 12 ac) (rowsX 12 xd) s := rfl
theorem st13_eq : k0_pay196 (F := Ideal) (k0_pay185 ba) (k0_pay187 ac) (k0_pay188 ac) (k0_pay189 xd) s = stNext (rowsB 13 ba) (rowsX 13 ac) (rowsX 13 xd) s := rfl
theorem st14_eq : k0_pay212 (F := Ideal) (k0_pay209 (k0_pay202 ac) s) (k0_pay210 (k0_pay199 ba)) (k0_pay211 (k0_pay201 ac) (k0_pay202 ac) (k0_pay203 xd)) = stNext (rowsB 14 ba) (rowsX 14 ac) (rowsX 14 xd) s := rfl
theorem st15_eq : k0_pay221 (F := Ideal) (k0_pay214 ba) (k0_pay216 ac) (k0_pay217 ac) (k0_pay218 xd) s = stNext (rowsB 15 ba) (rowsX 15 ac) (rowsX 15 xd) s := rfl
end Cut

/-- The rows a chunk stores, over its operands. -/
def chunkOut (xa xd ac : FVec Ideal S1024x512 .f32) (ba ca : FVec Ideal S1024x128 .f32) (cz : FVec Ideal S64x512 .f32) (hb : FVec Ideal S512x512 .bf16)
    (dsk nw : FVec Ideal S1x512 .f32) (k : ℕ) (s : FVec Ideal S128x512 .f32) (z : FVec Ideal S64x512 .f32) (lr : FVec Ideal S1x512 .f32) : FVec Ideal S64x512 .bf16 :=
  norm (mulf (yRaw (diag (scores (rowsB k ca) (rowsB k ba) (rowsX k ac) lr cz) (rowsX k xd) hb)
    (rowsB k ca) (rowsX k (exp ac)) (rowsX k xa) dsk s) (siluB z)) nw

theorem out_chunk (v : PV) (s : FVec Ideal S128x512 .f32) (k : ℕ) (z : FVec Ideal S64x512 .f32) (lr : FVec Ideal S1x512 .f32) :
    v.out s k z lr = chunkOut v.xa (mulf v.xa v.dt) v.ac v.ba v.ca v.causal v.hb v.dsk v.nw k (v.state s k) z lr := rfl

/-! Each chunk's stored rows, as the printed program cuts them, are the one function `chunkOut`. -/
section CutRows
variable (xa xd ac : FVec Ideal S1024x512 .f32) (ba ca : FVec Ideal S1024x128 .f32) (cz : FVec Ideal S64x512 .f32) (hb : FVec Ideal S512x512 .bf16)
  (dsk nw : FVec Ideal S1x512 .f32) (s : FVec Ideal S128x512 .f32) (z : FVec Ideal S64x512 .f32) (a0 a1 a2 a3 a4 a5 a6 a7 : FVec Ideal S1x64 .f32)
  (e : FVec Ideal S1x384x512 .bf16) (p : FVec Ideal S1024x128 .f32)
theorem row15_eq : k0_pay222 (F := Ideal) xa (exp ac) (k0_pay219 (F := Ideal) (k0_pay27 (F := Ideal) hb) (k0_pay214 (F := Ideal) ba) (k0_pay215 (F := Ideal) ca) (k0_pay216 (F := Ideal) ac) (k0_pay218 (F := Ideal) xd) a0 a1 a2 a3 a4 a5 a6 a7 cz) (k0_pay220 (F := Ideal) (k0_pay215 (F := Ideal) ca) s) dsk z nw
    = chunkOut xa xd ac ba ca cz hb dsk nw 15 s z (laneRow a0 a1 a2 a3 a4 a5 a6 a7) := rfl
theorem row14_eq : k0_pay213 (F := Ideal) xa (k0_pay207 (F := Ideal) (k0_pay27 (F := Ideal) hb) (k0_pay199 (F := Ideal) ba) (k0_pay200 (F := Ideal) ca) (k0_pay201 (F := Ideal) ac) (k0_pay203 (F := Ideal) xd) (k0_pay204 (F := Ideal) a0) (k0_pay205 (F := Ideal) a1) (k0_pay206 (F := Ideal) a2) a3 a4 a5 a6 a7 cz) (k0_pay208 (F := Ideal) (exp ac) (k0_pay200 (F := Ideal) ca) s) dsk z nw
    = chunkOut xa xd ac ba ca cz hb dsk nw 14 s z (laneRow a0 a1 a2 a3 a4 a5 a6 a7) := rfl
theorem row13_eq : k0_pay198 (F := Ideal) xa (k0_pay197 (F := Ideal) (exp ac) (k0_pay27 (F := Ideal) hb) (k0_pay185 (F := Ideal) ba) (k0_pay186 (F := Ideal) ca) (k0_pay187 (F := Ideal) ac) (k0_pay189 (F := Ideal) xd) (k0_pay190 (F := Ideal) a0) (k0_pay191 (F := Ideal) a1) (k0_pay192 (F := Ideal) a2) (k0_pay193 (F := Ideal) a3) (k0_pay194 (F := Ideal) a4) (k0_pay195 (F := Ideal) a5) a6 a7 cz s) dsk z nw
    = chunkOut xa xd ac ba ca cz hb dsk nw 13 s z (laneRow a0 a1 a2 a3 a4 a5 a6 a7) := rfl
theorem row12_eq : k0_pay184 (F := Ideal) (k0_pay183 (F := Ideal) xa (exp ac) (k0_pay27 (F := Ideal) hb) (k0_pay176 (F := Ideal) ba) (k0_pay177 (F := Ideal) ca) (k0_pay180 (F := Ideal) xd) (k0_pay181 (F := Ideal) ac a0 a1 a2 a3 a4 a5 a6 a7) (FloatOps.ofBits .f32 0x00000000#32) cz s dsk) z (FloatOps.ofBits .f32 0x3F000000#32) nw
    = chunkOut xa xd ac ba ca cz hb dsk nw 12 s z (laneRow a0 a1 a2 a3 a4 a5 a6 a7) := rfl
theorem row11_eq : k0_pay175 (F := Ideal) (k0_pay173 (F := Ideal) xa (exp ac) (k0_pay27 (F := Ideal) hb) (k0_pay165 (F := Ideal) ca) (k0_pay168 (F := Ideal) xd) (k0_pay169 (F := Ideal) ac a0 a1 a2 a3 a4 a5 a6 a7 cz) (k0_pay170 (F := Ideal) ca) (k0_pay171 (F := Ideal) ba) s dsk z) (k0_pay174 (F := Ideal) xa (exp ac) (k0_pay27 (F := Ideal) hb) (k0_pay165 (F := Ideal) ca) (k0_pay168 (F := Ideal) xd) (k0_pay169 (F := Ideal) ac a0 a1 a2 a3 a4 a5 a6 a7 cz) (k0_pay170 (F := Ideal) ca) (k0_pay171 (F := Ideal) ba) s dsk z) (FloatOps.ofBits .f32 0x44000000#32) nw
    = chunkOut xa xd ac ba ca cz hb dsk nw 11 s z (laneRow a0 a1 a2 a3 a4 a5 a6 a7) := rfl
theorem row10_eq : k0_pay163 (F := Ideal) (k0_pay162 (F := Ideal) xa (exp ac) (k0_pay156 (F := Ideal) ca) (k0_pay160 (F := Ideal) xd (k0_pay27 (F := Ideal) hb) (k0_pay155 (F := Ideal) ba) (k0_pay156 (F := Ideal) ca) (k0_pay157 (F := Ideal) ac) a0 a1 a2 a3 a4 a5 a6 a7 cz) s dsk z) nw
    = chunkOut xa xd ac ba ca cz hb dsk nw 10 s z (laneRow a0 a1 a2 a3 a4 a5 a6 a7) := rfl
theorem row9_eq : k0_pay154 (F := Ideal) xa (k0_pay150 (F := Ideal) (k0_pay27 (F := Ideal) hb) (k0_pay143 (F := Ideal) ba) (k0_pay144 (F := Ideal) ca) (k0_pay145 (F := Ideal) ac) (k0_pay147 (F := Ideal) xd) (k0_pay148 (F := Ideal) a0) (k0_pay149 (F := Ideal) a1) a2 a3 a4 a5 a6 a7 cz) (k0_pay151 (F := Ideal) (exp ac) (k0_pay144 (F := Ideal) ca) s) dsk z nw
    = chunkOut xa xd ac ba ca cz hb dsk nw 9 s z (laneRow a0 a1 a2 a3 a4 a5 a6 a7) := rfl
theorem row8_eq : k0_pay142 (F := Ideal) xa (k0_pay138 (F := Ideal) (k0_pay27 (F := Ideal) hb) (k0_pay128 (F := Ideal) ba) (k0_pay129 (F := Ideal) ca) (k0_pay130 (F := Ideal) ac) (k0_pay132 (F := Ideal) xd) (k0_pay133 (F := Ideal) a0) (k0_pay134 (F := Ideal) a1) (k0_pay135 (F := Ideal) a2) (k0_pay136 (F := Ideal) a3) (k0_pay137 (F := Ideal) a4) a5 a6 a7 cz) (k0_pay139 (F := Ideal) (exp ac) (k0_pay129 (F := Ideal) ca) s) dsk z nw
    = chunkOut xa xd ac ba ca cz hb dsk nw 8 s z (laneRow a0 a1 a2 a3 a4 a5 a6 a7) := rfl
theorem row7_eq : k0_pay127 (F := Ideal) (k0_pay125 (F := Ideal) (exp ac) (k0_pay27 (F := Ideal) hb) (k0_pay112 (F := Ideal) ba) (k0_pay113 (F := Ideal) ca) (k0_pay114 (F := Ideal) ac) (k0_pay116 (F := Ideal) xd) (k0_pay117 (F := Ideal) a0) (k0_pay118 (F := Ideal) a1) (k0_pay119 (F := Ideal) a2) (k0_pay120 (F := Ideal) a3) (k0_pay121 (F := Ideal) a4) (k0_pay122 (F := Ideal) a5) (k0_pay123 (F := Ideal) a6) a7 cz s) (k0_pay126 (F := Ideal) xa dsk) z nw
    = chunkOut xa xd ac ba ca cz hb dsk nw 7 s z (laneRow a0 a1 a2 a3 a4 a5 a6 a7) := rfl
theorem row6_eq : k0_pay111 (F := Ideal) (k0_pay110 (F := Ideal) xa (exp ac) (k0_pay27 (F := Ideal) hb) (k0_pay103 (F := Ideal) ba) (k0_pay104 (F := Ideal) ca) (k0_pay107 (F := Ideal) xd) (k0_pay108 (F := Ideal) ac a0 a1 a2 a3 a4 a5 a6 a7) cz s dsk z) nw
    = chunkOut xa xd ac ba ca cz hb dsk nw 6 s z (laneRow a0 a1 a2 a3 a4 a5 a6 a7) := rfl
theorem row5_eq : k0_pay102 (F := Ideal) (k0_pay100 (F := Ideal) xa (exp ac) (k0_pay93 (F := Ideal) ca) (k0_pay97 (F := Ideal) ba ca ac a0 a1 a2 a3 a4 a5 a6 a7 cz) (k0_pay98 (F := Ideal) xd (k0_pay27 (F := Ideal) hb)) s dsk z) (k0_pay101 (F := Ideal) xa (exp ac) (k0_pay93 (F := Ideal) ca) (k0_pay97 (F := Ideal) ba ca ac a0 a1 a2 a3 a4 a5 a6 a7 cz) (k0_pay98 (F := Ideal) xd (k0_pay27 (F := Ideal) hb)) s dsk z) nw
    = chunkOut xa xd ac ba ca cz hb dsk nw 5 s z (laneRow a0 a1 a2 a3 a4 a5 a6 a7) := rfl
theorem row4_eq : k0_pay91 (F := Ideal) xa (k0_pay87 (F := Ideal) (k0_pay27 (F := Ideal) hb) (k0_pay81 (F := Ideal) ba) (k0_pay82 (F := Ideal) ca) (k0_pay83 (F := Ideal) ac) (k0_pay85 (F := Ideal) xd) (k0_pay86 (F := Ideal) a0) a1 a2 a3 a4 a5 a6 a7 cz) (k0_pay88 (F := Ideal) (k0_pay82 (F := Ideal) ca) s) (k0_pay89 (F := Ideal) (exp ac)) dsk z nw
    = chunkOut xa xd ac ba ca cz hb dsk nw 4 s z (laneRow a0 a1 a2 a3 a4 a5 a6 a7) := rfl
theorem row3_eq : k0_pay80 (F := Ideal) xa (k0_pay74 (F := Ideal) (k0_pay27 (F := Ideal) hb) (k0_pay66 (F := Ideal) ba) (k0_pay67 (F := Ideal) ca) (k0_pay68 (F := Ideal) ac) (k0_pay70 (F := Ideal) xd) (k0_pay71 (F := Ideal) a0) (k0_pay72 (F := Ideal) a1) (k0_pay73 (F := Ideal) a2) a3 a4 a5 a6 a7 cz) (k0_pay75 (F := Ideal) (exp ac) (k0_pay67 (F := Ideal) ca) s) dsk z nw
    = chunkOut xa xd ac ba ca cz hb dsk nw 3 s z (laneRow a0 a1 a2 a3 a4 a5 a6 a7) := rfl
theorem row2_eq : k0_pay65 (F := Ideal) xa (k0_pay64 (F := Ideal) (exp ac) (k0_pay27 (F := Ideal) hb) (k0_pay52 (F := Ideal) ba) (k0_pay53 (F := Ideal) ca) (k0_pay54 (F := Ideal) ac) (k0_pay56 (F := Ideal) xd) (k0_pay57 (F := Ideal) a0) (k0_pay58 (F := Ideal) a1) (k0_pay59 (F := Ideal) a2) (k0_pay60 (F := Ideal) a3) (k0_pay61 (F := Ideal) a4) (k0_pay62 (F := Ideal) a5) a6 a7 cz s) dsk z nw
    = chunkOut xa xd ac ba ca cz hb dsk nw 2 s z (laneRow a0 a1 a2 a3 a4 a5 a6 a7) := rfl
theorem row1_eq : k0_pay51 (F := Ideal) (k0_pay49 (F := Ideal) xa (exp ac) (k0_pay27 (F := Ideal) hb) (k0_pay41 (F := Ideal) ba) (k0_pay42 (F := Ideal) ca) (k0_pay45 (F := Ideal) xd) (k0_pay46 (F := Ideal) ac a0 a1 a2 a3 a4 a5 a6 a7) (k0_pay47 (F := Ideal)) cz s dsk) z (k0_pay50 (F := Ideal)) nw
    = chunkOut xa xd ac ba ca cz hb dsk nw 1 s z (laneRow a0 a1 a2 a3 a4 a5 a6 a7) := rfl
theorem row0_eq : k0_pay40 (F := Ideal) (k0_pay37 (F := Ideal) xa (exp (spread e p)) (k0_pay27 (F := Ideal) hb) (k0_pay29 (F := Ideal) ca) (rowsX 0 xd) (k0_pay33 (F := Ideal) (k0_pay21 (F := Ideal) e) (k0_pay23 (F := Ideal) p) (constant S1024x512 .f32 0x00000000#32) a0 a1 a2 a3 a4 a5 a6 a7 cz) (k0_pay34 (F := Ideal) ca) (k0_pay35 (F := Ideal) ba) (constant S64x512 .f32 0x00000000#32) s dsk z) (k0_pay38 (F := Ideal) xa (exp (spread e p)) (k0_pay27 (F := Ideal) hb) (k0_pay29 (F := Ideal) ca) (rowsX 0 xd) (k0_pay33 (F := Ideal) (k0_pay21 (F := Ideal) e) (k0_pay23 (F := Ideal) p) (constant S1024x512 .f32 0x00000000#32) a0 a1 a2 a3 a4 a5 a6 a7 cz) (k0_pay34 (F := Ideal) ca) (k0_pay35 (F := Ideal) ba) (constant S64x512 .f32 0x00000000#32) s dsk z) (k0_pay39 (F := Ideal)) nw
    = chunkOut xa xd (spread e p) ba ca cz hb dsk nw 0 s z (laneRow a0 a1 a2 a3 a4 a5 a6 a7) := rfl
end CutRows

set_option maxHeartbeats 4000000

theorem out_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S8x1024 .f32) (harg9 : arg9.IsWhole) (arg10 : Memref sig .tc .vmem S1x384x512 .bf16) (harg10 : arg10.IsWhole) (arg11 : Memref sig .tc .vmem S64x512 .f32) (harg11 : arg11.IsWhole) (arg12 : Memref sig .tc .vmem S512x512 .bf16) (harg12 : arg12.IsWhole) (arg13 : Memref sig .tc .vmem S8x512 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S1024x512 .bf16) (harg16 : arg16.IsWhole) (arg17 : Memref sig .tc .vmem S1032x512 .f32) (harg17 : arg17.IsWhole) (arg18 : Memref sig .tc .vmem S1032x128 .f32) (harg18 : arg18.IsWhole) (arg19 : Memref sig .tc .vmem S1032x128 .f32) (harg19 : arg19.IsWhole) (arg20 : Memref sig .tc .vmem S128x512 .f32) (harg20 : arg20.IsWhole) (hc0 : cond0_0 i)
    (x0 : Vec Ideal S1024x512 .f32) (x1 : Vec Ideal S1024x512 .f32) (x2 : Vec Ideal S1024x128 .f32) (x3 : Vec Ideal S1024x128 .f32) (x4 : Vec Ideal S1024x128 .f32) (x5 : Vec Ideal S1024x128 .f32) (x6 : Vec Ideal S8x1024 .f32) (x7 : Vec Ideal S1x384x512 .bf16) (x8 : Vec Ideal S64x512 .f32) (x9 : Vec Ideal S512x512 .bf16) (x10 : Vec Ideal S8x512 .f32) (x11 : Vec Ideal S8x128 .f32) (x12 : Vec Ideal S8x128 .f32) :
    out0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = View.canon (pieces (pv (fun _ => 0) (fun _ => 0) (fun _ => 0) x1 x2 x3 x4 x5 x7 x8 x9 x10 x11 x12) (k0_pay4 (F := Ideal)) x0 x6 16) := by
  unfold out0_A_13
  rw [View.read_writes_eq_canon _ _ _ (cover0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, harg19.read_unread, harg20.read_unread]
  simp only [ld0X, ld0B, ld0E, ld0C, ld0H, ld0S, pay6_id, pay12_id, pay17_id, View.readCov_cons_toLoadRect]
  simp only [ext_zero _ _ _ _ _ pay1_zero, ext_zero _ _ _ _ _ pay2_zero, ext_zero _ _ _ _ _ pay3_zero]
  simp only [cX_eq, bN_eq, cN_eq, dt_eq, ac_eq, ea_eq, xdt_eq, ac0_eq, al0_eq, xd0_eq, pv]
  simp only [st0_eq, st1_eq, st2_eq, st3_eq, st4_eq, st5_eq, st6_eq, st7_eq, st8_eq, st9_eq, st10_eq, st11_eq, st12_eq, st13_eq, st14_eq, st15_eq]
  simp only [row0_eq, row1_eq, row2_eq, row3_eq, row4_eq, row5_eq, row6_eq, row7_eq, row8_eq, row9_eq, row10_eq, row11_eq, row12_eq, row13_eq, row14_eq, row15_eq]
  simp only [pieces, piece, out_chunk, PV.state, zRows, aRows, aRow]

theorem out_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S8x1024 .f32) (harg9 : arg9.IsWhole) (arg10 : Memref sig .tc .vmem S1x384x512 .bf16) (harg10 : arg10.IsWhole) (arg11 : Memref sig .tc .vmem S64x512 .f32) (harg11 : arg11.IsWhole) (arg12 : Memref sig .tc .vmem S512x512 .bf16) (harg12 : arg12.IsWhole) (arg13 : Memref sig .tc .vmem S8x512 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S1024x512 .bf16) (harg16 : arg16.IsWhole) (arg17 : Memref sig .tc .vmem S1032x512 .f32) (harg17 : arg17.IsWhole) (arg18 : Memref sig .tc .vmem S1032x128 .f32) (harg18 : arg18.IsWhole) (arg19 : Memref sig .tc .vmem S1032x128 .f32) (harg19 : arg19.IsWhole) (arg20 : Memref sig .tc .vmem S128x512 .f32) (harg20 : arg20.IsWhole) (hc0 : ¬cond0_0 i)
    (x0 : Vec Ideal S1024x512 .f32) (x1 : Vec Ideal S1024x512 .f32) (x2 : Vec Ideal S1024x128 .f32) (x3 : Vec Ideal S1024x128 .f32) (x4 : Vec Ideal S1024x128 .f32) (x5 : Vec Ideal S1024x128 .f32) (x6 : Vec Ideal S8x1024 .f32) (x7 : Vec Ideal S1x384x512 .bf16) (x8 : Vec Ideal S64x512 .f32) (x9 : Vec Ideal S512x512 .bf16) (x10 : Vec Ideal S8x512 .f32) (x11 : Vec Ideal S8x128 .f32) (x12 : Vec Ideal S8x128 .f32) (xs0 : Vec Ideal S1032x512 .f32) (xs1 : Vec Ideal S1032x128 .f32) (xs2 : Vec Ideal S1032x128 .f32) (xs3 : Vec Ideal S128x512 .f32) :
    out0_B_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1 xs2 xs3 = View.canon (pieces (pv xs0 xs1 xs2 x1 x2 x3 x4 x5 x7 x8 x9 x10 x11 x12) xs3 x0 x6 16) := by
  unfold out0_B_13
  rw [View.read_writes_eq_canon _ _ _ (cover0_B_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1 xs2 xs3)]
  unfold kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, harg19.read_unread, harg20.read_unread]
  simp only [ld0X, ld0B, ld0E, ld0C, ld0H, ld0S, pay6_id, pay12_id, pay17_id, View.readCov_cons_toLoadRect]
  simp only [ext_prev]
  simp only [cX_eq, bN_eq, cN_eq, dt_eq, ac_eq, ea_eq, xdt_eq, ac0_eq, al0_eq, xd0_eq, pv]
  simp only [st0_eq, st1_eq, st2_eq, st3_eq, st4_eq, st5_eq, st6_eq, st7_eq, st8_eq, st9_eq, st10_eq, st11_eq, st12_eq, st13_eq, st14_eq, st15_eq]
  simp only [row0_eq, row1_eq, row2_eq, row3_eq, row4_eq, row5_eq, row6_eq, row7_eq, row8_eq, row9_eq, row10_eq, row11_eq, row12_eq, row13_eq, row14_eq, row15_eq]
  simp only [pieces, piece, out_chunk, PV.state, zRows, aRows, aRow]

theorem st_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S8x1024 .f32) (harg9 : arg9.IsWhole) (arg10 : Memref sig .tc .vmem S1x384x512 .bf16) (harg10 : arg10.IsWhole) (arg11 : Memref sig .tc .vmem S64x512 .f32) (harg11 : arg11.IsWhole) (arg12 : Memref sig .tc .vmem S512x512 .bf16) (harg12 : arg12.IsWhole) (arg13 : Memref sig .tc .vmem S8x512 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S1024x512 .bf16) (harg16 : arg16.IsWhole) (arg17 : Memref sig .tc .vmem S1032x512 .f32) (harg17 : arg17.IsWhole) (arg18 : Memref sig .tc .vmem S1032x128 .f32) (harg18 : arg18.IsWhole) (arg19 : Memref sig .tc .vmem S1032x128 .f32) (harg19 : arg19.IsWhole) (arg20 : Memref sig .tc .vmem S128x512 .f32) (harg20 : arg20.IsWhole) (hc0 : cond0_0 i)
    (x0 : Vec Ideal S1024x512 .f32) (x1 : Vec Ideal S1024x512 .f32) (x2 : Vec Ideal S1024x128 .f32) (x3 : Vec Ideal S1024x128 .f32) (x4 : Vec Ideal S1024x128 .f32) (x5 : Vec Ideal S1024x128 .f32) (x6 : Vec Ideal S8x1024 .f32) (x7 : Vec Ideal S1x384x512 .bf16) (x8 : Vec Ideal S64x512 .f32) (x9 : Vec Ideal S512x512 .bf16) (x10 : Vec Ideal S8x512 .f32) (x11 : Vec Ideal S8x128 .f32) (x12 : Vec Ideal S8x128 .f32) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = (pv (fun _ => 0) (fun _ => 0) (fun _ => 0) x1 x2 x3 x4 x5 x7 x8 x9 x10 x11 x12).state (k0_pay4 (F := Ideal)) 16 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, harg19.read_unread, harg20.read_unread]
  simp only [ld0X, ld0B, ld0E, ld0C, ld0H, ld0S, pay6_id, pay12_id, pay17_id, View.readCov_cons_toLoadRect]
  simp only [ext_zero _ _ _ _ _ pay1_zero, ext_zero _ _ _ _ _ pay2_zero, ext_zero _ _ _ _ _ pay3_zero]
  simp only [cX_eq, bN_eq, cN_eq, dt_eq, ac_eq, ea_eq, xdt_eq, ac0_eq, al0_eq, xd0_eq, pv]
  simp only [st0_eq, st1_eq, st2_eq, st3_eq, st4_eq, st5_eq, st6_eq, st7_eq, st8_eq, st9_eq, st10_eq, st11_eq, st12_eq, st13_eq, st14_eq, st15_eq]
  generalize k0_pay4 (F := Ideal) = s
  generalize cX (fun _ => 0) x1 x10 = xa
  generalize cN (fun _ => 0) x2 x11 = ba
  generalize cN (fun _ => 0) x3 x12 = ca
  generalize spread x7 x4 = dt
  generalize spread x7 x5 = ac
  rw [View.canon_cons_unit_lit _ _ _ (by decide)]
  rfl

theorem st_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S8x1024 .f32) (harg9 : arg9.IsWhole) (arg10 : Memref sig .tc .vmem S1x384x512 .bf16) (harg10 : arg10.IsWhole) (arg11 : Memref sig .tc .vmem S64x512 .f32) (harg11 : arg11.IsWhole) (arg12 : Memref sig .tc .vmem S512x512 .bf16) (harg12 : arg12.IsWhole) (arg13 : Memref sig .tc .vmem S8x512 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S1024x512 .bf16) (harg16 : arg16.IsWhole) (arg17 : Memref sig .tc .vmem S1032x512 .f32) (harg17 : arg17.IsWhole) (arg18 : Memref sig .tc .vmem S1032x128 .f32) (harg18 : arg18.IsWhole) (arg19 : Memref sig .tc .vmem S1032x128 .f32) (harg19 : arg19.IsWhole) (arg20 : Memref sig .tc .vmem S128x512 .f32) (harg20 : arg20.IsWhole) (hc0 : ¬cond0_0 i)
    (x0 : Vec Ideal S1024x512 .f32) (x1 : Vec Ideal S1024x512 .f32) (x2 : Vec Ideal S1024x128 .f32) (x3 : Vec Ideal S1024x128 .f32) (x4 : Vec Ideal S1024x128 .f32) (x5 : Vec Ideal S1024x128 .f32) (x6 : Vec Ideal S8x1024 .f32) (x7 : Vec Ideal S1x384x512 .bf16) (x8 : Vec Ideal S64x512 .f32) (x9 : Vec Ideal S512x512 .bf16) (x10 : Vec Ideal S8x512 .f32) (x11 : Vec Ideal S8x128 .f32) (x12 : Vec Ideal S8x128 .f32) (xs0 : Vec Ideal S1032x512 .f32) (xs1 : Vec Ideal S1032x128 .f32) (xs2 : Vec Ideal S1032x128 .f32) (xs3 : Vec Ideal S128x512 .f32) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1 xs2 xs3 = (pv xs0 xs1 xs2 x1 x2 x3 x4 x5 x7 x8 x9 x10 x11 x12).state xs3 16 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1 xs2 xs3)]
  unfold kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, harg19.read_unread, harg20.read_unread]
  simp only [ld0X, ld0B, ld0E, ld0C, ld0H, ld0S, pay6_id, pay12_id, pay17_id, View.readCov_cons_toLoadRect]
  simp only [ext_prev]
  simp only [cX_eq, bN_eq, cN_eq, dt_eq, ac_eq, ea_eq, xdt_eq, ac0_eq, al0_eq, xd0_eq, pv]
  simp only [st0_eq, st1_eq, st2_eq, st3_eq, st4_eq, st5_eq, st6_eq, st7_eq, st8_eq, st9_eq, st10_eq, st11_eq, st12_eq, st13_eq, st14_eq, st15_eq]
  generalize xs3 = s
  generalize cX xs0 x1 x10 = xa
  generalize cN xs1 x2 x11 = ba
  generalize cN xs2 x3 x12 = ca
  generalize spread x7 x4 = dt
  generalize spread x7 x5 = ac
  rw [View.canon_cons_unit_lit _ _ _ (by decide)]
  rfl

end Cert.KernelIdeal.Val

end
-- ==== Proof.Point.lean ====
/- One point of the mixer's grid as the mixer of `Spec`: over blocks that hold the point's part of the arrays, what the point
   works from, its states and its rows. -/
module

public import proofs.«01_k».proof.Proof.Pieces

@[expose] public section

set_option maxRecDepth 16384

noncomputable section

namespace Cert.KernelIdeal.Val

open Idealize.ShloMosaic
open Cert.KernelIdeal Cert.KernelIdeal.Gen Cert.Ssd

/-- The arrays are real where the mixer reads them, and the cumulative log-decays do not increase within a chunk. -/
structure Good (A p1 p2 cw : ℕ → ℕ → EReal) (cb : ℕ → EReal) : Prop where
  hA : ∀ r c, c < 10240 → Fin' (A r c)
  hp1 : ∀ r c, c < 64 → Fin' (p1 r c)
  hp2 : ∀ r c, c < 64 → Fin' (p2 r c)
  hw : ∀ r c, Fin' (cw r c)
  hb : ∀ c, Fin' (cb c)
  mono : ∀ b k s l h, b < 4 → k < 64 → h < 64 → s ≤ l → l < 64 → p2 (b * 4096 + (64 * k + l)) h ≤ p2 (b * 4096 + (64 * k + s)) h

variable {A p1 p2 cw : ℕ → ℕ → EReal} {cb dsk nw : ℕ → EReal}

/-- The blocks of point `(b, g, i)`, and the rows before its own. -/
structure Blks (A p1 p2 cw : ℕ → ℕ → EReal) (cb dsk nw : ℕ → EReal) (b g i : ℕ)
    (x0 x1 : Vec Ideal S1024x512 .f32) (x2 x3 x4 x5 : Vec Ideal S1024x128 .f32) (x6 : Vec Ideal S8x1024 .f32)
    (x7 : Vec Ideal S1x384x512 .bf16) (x8 : Vec Ideal S64x512 .f32) (x9 : Vec Ideal S512x512 .bf16) (x10 : Vec Ideal S8x512 .f32)
    (x11 x12 : Vec Ideal S8x128 .f32) : Prop where
  hb : b < 4
  hg : g < 8
  hi : i < 4
  e0 : ∀ r c, x0 (ix2 r c) = A (b * 4096 + (1024 * i + r.val)) (g * 512 + c.val)
  e1 : ∀ r c, x1 (ix2 r c) = A (b * 4096 + (1024 * i + r.val)) (4096 + (g * 512 + c.val))
  e2 : ∀ r c, x2 (ix2 r c) = A (b * 4096 + (1024 * i + r.val)) (4096 + (4096 + g * 128 + c.val))
  e3 : ∀ r c, x3 (ix2 r c) = A (b * 4096 + (1024 * i + r.val)) (4096 + (5120 + g * 128 + c.val))
  e4 : ∀ r c, x4 (ix2 r c) = p1 (b * 4096 + (1024 * i + r.val)) c.val
  e5 : ∀ r c, x5 (ix2 r c) = p2 (b * 4096 + (1024 * i + r.val)) c.val
  e6 : ∀ r c, x6 (ix2 r c) = p2 (b * 4096 + (1024 * i + c.val)) (g * 8 + r.val)
  e7 : ∀ x c, x7 (ix3 0 x c) = if x.val % 128 = g * 8 + c.val / 64 then 1 else 0
  e8 : ∀ l c, x8 (ix2 l c) = if c.val % 64 ≤ l.val then 1 else 0
  e9 : ∀ k c, x9 (ix2 k c) = if k.val / 64 = c.val / 64 then 1 else 0
  eX : ∀ j c, j.val < 4 → x10 (ix2 j c) = cw j.val (g * 512 + c.val)
  eXb : ∀ c, x10 (ix2 4 c) = cb (g * 512 + c.val)
  eXd : ∀ c, x10 (ix2 5 c) = dsk (g * 8 + c.val / 64)
  eXn : ∀ c, x10 (ix2 6 c) = nw (g * 512 + c.val)
  eB : ∀ j c, j.val < 4 → x11 (ix2 j c) = cw j.val (4096 + g * 128 + c.val)
  eBb : ∀ c, x11 (ix2 4 c) = cb (4096 + g * 128 + c.val)
  eC : ∀ j c, j.val < 4 → x12 (ix2 j c) = cw j.val (5120 + g * 128 + c.val)
  eCb : ∀ c, x12 (ix2 4 c) = cb (5120 + g * 128 + c.val)

/-- The rows of a buffer from the point before: the three positions before the point's own. -/
def Hist (A : ℕ → ℕ → EReal) (b i : ℕ) {W : ℕ} (q : ℕ) (h : (⟨2, ![1032, W]⟩ : Shape).Idx → Elt Ideal .f32) : Prop :=
  ∀ (r : Fin 1032) (c : Fin W), 5 ≤ r.val → r.val < 8 → h (ix2 r c) = tap A b (1024 * i) (r.val - 5) (q + c.val)

/-- The buffer read `3 - j` rows back is tap `j`. -/
theorem ext_tap {W : ℕ} {b i q : ℕ} {h : (⟨2, ![1032, W]⟩ : Shape).Idx → Elt Ideal .f32} {x : (⟨2, ![1024, W]⟩ : Shape).Idx → Elt Ideal .f32}
    (hh : Hist A b i q h) (hx : ∀ r c, x (ix2 r c) = A (b * 4096 + (1024 * i + r.val)) (4096 + (q + c.val)))
    (y : (⟨2, ![1032, W]⟩ : Shape).Idx) (r : Fin 1024) (c : Fin W) (j : ℕ) (h0 : (y 0).val = 5 + j + r.val) (h1 : (y 1).val = c.val) :
    ext h x y = tap A b (1024 * i + r.val) j (q + c.val) := by
  have e1 : y 1 = c := Fin.ext h1
  unfold ext
  by_cases hy : (y 0).val < 8
  · rw [dif_pos hy, eq_ix2 y]
    refine (hh (y 0) (y 1) (by omega) hy).trans ?_
    unfold tap
    rw [e1]
    have e : 1024 * i + ((y 0).val - 5) = 1024 * i + r.val + j := by omega
    rw [e]
  · rw [dif_neg hy]
    refine (hx _ _).trans ?_
    unfold tap
    rw [if_neg (by omega), e1]
    congr 1
    show b * 4096 + (1024 * i + ((y 0).val - 8)) = _
    omega

section

variable {b g i : ℕ} {x0 x1 : Vec Ideal S1024x512 .f32} {x2 x3 x4 x5 : Vec Ideal S1024x128 .f32} {x6 : Vec Ideal S8x1024 .f32}
    {x7 : Vec Ideal S1x384x512 .bf16} {x8 : Vec Ideal S64x512 .f32} {x9 : Vec Ideal S512x512 .bf16} {x10 : Vec Ideal S8x512 .f32}
    {x11 x12 : Vec Ideal S8x128 .f32}

theorem cX_at (G : Good A p1 p2 cw cb) {q : ℕ} (hq : q + 512 ≤ 6144) {h : Vec Ideal S1032x512 .f32} {x : Vec Ideal S1024x512 .f32} {w : Vec Ideal S8x512 .f32}
    (hh : Hist A b i q h) (hx : ∀ r c, x (ix2 r c) = A (b * 4096 + (1024 * i + r.val)) (4096 + (q + c.val)))
    (hw : ∀ j c, j.val < 4 → w (ix2 j c) = cw j.val (q + c.val)) (hb : ∀ c, w (ix2 4 c) = cb (q + c.val)) (r : Fin 1024) (c : Fin 512) :
    cX h x w (ix2 r c) = act A cw cb b (1024 * i + r.val) (q + c.val) := by
  have et : x (ix2 r c) = tap A b (1024 * i + r.val) 3 (q + c.val) := by
    rw [hx]; unfold tap; rw [if_neg (by omega)]; rfl
  have ew : ∀ (j : ℕ) (hj : j < 8) inb, View.ld w (Rect.unit ![j, 0] ![1, 512] inb) (ix2 0 c) = w (ix2 ⟨j, hj⟩ c) :=
    fun j hj inb => View.ld_unit_apply_of w _ _ inb _ _ (fun a => by fin_cases a <;> simp)
  have el : ∀ (j o : ℕ) (ho : o = 5 + j) inb, View.ld (ext h x) (Rect.unit ![o, 0] ![1024, 512] inb) (ix2 r c) = tap A b (1024 * i + r.val) j (q + c.val) :=
    fun j o ho inb => ext_tap hh hx _ r c j (by subst ho; rw [Rect.idx_unit_val]; simp) (by rw [Rect.idx_unit_val]; simp)
  have hb' : w (ix2 ⟨4, by decide⟩ c) = cb (q + c.val) := hb c
  unfold cX
  rw [convX_apply, et, ew 3 (by decide), ew 2 (by decide), ew 1 (by decide), ew 0 (by decide), ew 4 (by decide), hb', hw ⟨3, by decide⟩ c (by decide),
    hw ⟨2, by decide⟩ c (by decide), hw ⟨1, by decide⟩ c (by decide), hw ⟨0, by decide⟩ c (by decide)]
  rw [el 2 7 rfl, el 1 6 rfl, el 0 5 rfl]
  exact (conv_fin A cw cb G.hA G.hw G.hb b _ _ (by omega)).siluT

theorem cN_at (G : Good A p1 p2 cw cb) {q : ℕ} (hq : q + 128 ≤ 6144) {h : Vec Ideal S1032x128 .f32} {x : Vec Ideal S1024x128 .f32} {w : Vec Ideal S8x128 .f32}
    (hh : Hist A b i q h) (hx : ∀ r c, x (ix2 r c) = A (b * 4096 + (1024 * i + r.val)) (4096 + (q + c.val)))
    (hw : ∀ j c, j.val < 4 → w (ix2 j c) = cw j.val (q + c.val)) (hb : ∀ c, w (ix2 4 c) = cb (q + c.val)) (r : Fin 1024) (c : Fin 128) :
    cN h x w (ix2 r c) = act A cw cb b (1024 * i + r.val) (q + c.val) := by
  have et : x (ix2 r c) = tap A b (1024 * i + r.val) 3 (q + c.val) := by
    rw [hx]; unfold tap; rw [if_neg (by omega)]; rfl
  have ew : ∀ (j : ℕ) (hj : j < 8) inb, View.ld w (Rect.unit ![j, 0] ![1, 128] inb) (ix2 0 c) = w (ix2 ⟨j, hj⟩ c) :=
    fun j hj inb => View.ld_unit_apply_of w _ _ inb _ _ (fun a => by fin_cases a <;> simp)
  have el : ∀ (j o : ℕ) (ho : o = 5 + j) inb, View.ld (ext h x) (Rect.unit ![o, 0] ![1024, 128] inb) (ix2 r c) = tap A b (1024 * i + r.val) j (q + c.val) :=
    fun j o ho inb => ext_tap hh hx _ r c j (by subst ho; rw [Rect.idx_unit_val]; simp) (by rw [Rect.idx_unit_val]; simp)
  have hb' : w (ix2 ⟨4, by decide⟩ c) = cb (q + c.val) := hb c
  unfold cN
  rw [convN_apply, et, ew 3 (by decide), ew 2 (by decide), ew 1 (by decide), ew 0 (by decide), ew 4 (by decide), hb', hw ⟨3, by decide⟩ c (by decide),
    hw ⟨2, by decide⟩ c (by decide), hw ⟨1, by decide⟩ c (by decide), hw ⟨0, by decide⟩ c (by decide)]
  rw [el 2 7 rfl, el 1 6 rfl, el 0 5 rfl]
  exact (conv_fin A cw cb G.hA G.hw G.hb b _ _ (by omega)).siluT

/-- What a point works from, as the mixer's arrays at the point's rows. -/
structure Works (A p1 p2 cw : ℕ → ℕ → EReal) (cb dsk nw : ℕ → EReal) (b g i : ℕ) (v : PV) : Prop where
  xa : ∀ r c, v.xa (ix2 r c) = xv A cw cb b g (1024 * i + r.val) c.val
  ba : ∀ r n, v.ba (ix2 r n) = bv A cw cb b g (1024 * i + r.val) n.val
  ca : ∀ r n, v.ca (ix2 r n) = cv A cw cb b g (1024 * i + r.val) n.val
  dt : ∀ r c, v.dt (ix2 r c) = hd b g p1 (1024 * i + r.val) c.val
  ac : ∀ r c, v.ac (ix2 r c) = hd b g p2 (1024 * i + r.val) c.val
  causal : ∀ l c, v.causal (ix2 l c) = if c.val % 64 ≤ l.val then 1 else 0
  hb : ∀ k c, v.hb (ix2 k c) = if k.val / 64 = c.val / 64 then 1 else 0
  dsk : ∀ c, v.dsk (ix2 0 c) = dsk (g * 8 + c.val / 64)
  nw : ∀ c, v.nw (ix2 0 c) = nw (g * 512 + c.val)

theorem works (G : Good A p1 p2 cw cb) (B : Blks A p1 p2 cw cb dsk nw b g i x0 x1 x2 x3 x4 x5 x6 x7 x8 x9 x10 x11 x12)
    {h0 : Vec Ideal S1032x512 .f32} {h1 h2 : Vec Ideal S1032x128 .f32} (H0 : Hist A b i (g * 512) h0) (H1 : Hist A b i (4096 + g * 128) h1)
    (H2 : Hist A b i (5120 + g * 128) h2) :
    Works A p1 p2 cw cb dsk nw b g i (pv h0 h1 h2 x1 x2 x3 x4 x5 x7 x8 x9 x10 x11 x12) where
  xa r c := cX_at G (by have := B.hg; omega) H0 B.e1 B.eX B.eXb r c
  ba r c := cN_at G (by have := B.hg; omega) H1 B.e2 B.eB B.eBb r c
  ca r c := cN_at G (by have := B.hg; omega) H2 B.e3 B.eC B.eCb r c
  dt r c := by
    have hg := B.hg
    have e := B.e4 r ⟨g * 8 + c.val / 64, by omega⟩
    refine (spread_apply x7 x4 r c _ (fun x => B.e7 x c) (e ▸ G.hp1 _ _ (by show g * 8 + c.val / 64 < 64; omega))).trans e
  ac r c := by
    have hg := B.hg
    have e := B.e5 r ⟨g * 8 + c.val / 64, by omega⟩
    refine (spread_apply x7 x5 r c _ (fun x => B.e7 x c) (e ▸ G.hp2 _ _ (by show g * 8 + c.val / 64 < 64; omega))).trans e
  causal := B.e8
  hb := B.e9
  dsk c := (View.ld_unit_apply_of x10 _ _ _ _ (ix2 5 c) (fun a => by fin_cases a <;> simp)).trans (B.eXd c)
  nw c := (View.ld_unit_apply_of x10 _ _ _ _ (ix2 6 c) (fun a => by fin_cases a <;> simp)).trans (B.eXn c)

theorem rowsB_at (k : ℕ) (hk : k < 16) (v : FVec Ideal S1024x128 .f32) (l : Fin 64) (n : Fin 128) :
    rowsB k v (ix2 l n) = v (ix2 ⟨64 * k + l.val, by omega⟩ n) := by
  pointwise [rowsB]
  congr 2; exact Fin.ext (by show 64 * (k % 16) + l.val = 64 * k + l.val; omega)
theorem rowsX_at (k : ℕ) (hk : k < 16) (v : FVec Ideal S1024x512 .f32) (l : Fin 64) (c : Fin 512) :
    rowsX k v (ix2 l c) = v (ix2 ⟨64 * k + l.val, by omega⟩ c) := by
  pointwise [rowsX]
  congr 2; exact Fin.ext (by show 64 * (k % 16) + l.val = 64 * k + l.val; omega)

theorem st_at {v : PV} (w : Works A p1 p2 cw cb dsk nw b g i v) {s : Vec Ideal S128x512 .f32}
    (hs : ∀ n c, s (ix2 n c) = st A p1 p2 cw cb b g (16 * i) n.val c.val) :
    ∀ k, k ≤ 16 → ∀ n c, v.state s k (ix2 n c) = st A p1 p2 cw cb b g (16 * i + k) n.val c.val
  | 0, _, n, c => hs n c
  | k + 1, hk, n, c => by
    have hr : ∀ l, 1024 * i + (64 * k + l) = 64 * (16 * i + k) + l := fun l => by omega
    show stNext _ _ _ _ (ix2 n c) = st A p1 p2 cw cb b g (16 * i + k + 1) n.val c.val
    rw [stNext_apply, st_at w hs k (by omega) n c]
    simp only [rowsX_at k (by omega), rowsB_at k (by omega), w.ac, w.ba, hr]
    simp only [st]
    congr 1
    refine Finset.sum_congr rfl fun l _ => ?_
    show _ * (v.xa _ * v.dt _ * _) = _
    rw [w.xa, w.dt]
    simp only [hr]
    rfl

theorem out_at (G : Good A p1 p2 cw cb) (B : Blks A p1 p2 cw cb dsk nw b g i x0 x1 x2 x3 x4 x5 x6 x7 x8 x9 x10 x11 x12)
    {v : PV} (w : Works A p1 p2 cw cb dsk nw b g i v) {s : Vec Ideal S128x512 .f32}
    (hs : ∀ n c, s (ix2 n c) = st A p1 p2 cw cb b g (16 * i) n.val c.val) (k : ℕ) (hk : k < 16) (l : Fin 64) (c : Fin 512) :
    v.out s k (zRows x0 k) (aRows x6 k) (ix2 l c) = outv A p1 p2 cw cb dsk nw b g (16 * i + k) l.val c.val := by
  have hr : ∀ l, 1024 * i + (64 * k + l) = 64 * (16 * i + k) + l := fun l => by omega
  have hi := B.hi
  have hg := B.hg
  have ez : ∀ c : Fin 512, siluB (zRows x0 k) (ix2 l c) = silu (A (b * 4096 + (64 * (16 * i + k) + l.val)) (g * 512 + c.val)) := fun c => by
    rw [siluB_apply]
    have : zRows x0 k (ix2 l c) = A (b * 4096 + (64 * (16 * i + k) + l.val)) (g * 512 + c.val) := by
      refine (View.ld_unit_apply_of x0 _ _ _ _ (ix2 ⟨64 * k + l.val, by omega⟩ c) (fun a => ?_)).trans ((B.e0 _ _).trans ?_)
      · fin_cases a
        · show 64 * k + l.val = 64 * (k % 16) + l.val; omega
        · exact (Nat.zero_add _).symm
      · rw [hr]
    rw [this]
    exact (G.hA _ _ (by omega)).siluT
  have ea : ∀ c : Fin 512, aRows x6 k (ix2 0 c) = hd b g p2 (64 * (16 * i + k) + c.val % 64) c.val := by
    have er : ∀ (h o : ℕ), o = 64 * h → h < 8 → ∀ j : Fin 64,
        aRow x6 h k (ix2 0 j) = hd b g p2 (64 * (16 * i + k) + (o + j.val) % 64) (o + j.val) := fun h o ho hh j => by
      refine (View.ld_unit_apply_of x6 _ _ _ _ (ix2 ⟨h, hh⟩ ⟨64 * k + j.val, by omega⟩) (fun a => ?_)).trans ((B.e6 _ _).trans ?_)
      · fin_cases a
        · show h = h % 8 + 0; omega
        · show 64 * k + j.val = 64 * (k % 16) + j.val; omega
      · unfold hd
        rw [← hr]
        congr 1
        · show b * 4096 + (1024 * i + (64 * k + j.val)) = _; omega
        · show g * 8 + h = _; omega
    intro c
    unfold aRows
    exact laneRow_apply _ _ _ _ _ _ _ _ (fun c => hd b g p2 (64 * (16 * i + k) + c % 64) c) (er 0 0 rfl (by omega)) (er 1 64 rfl (by omega))
      (er 2 128 rfl (by omega)) (er 3 192 rfl (by omega)) (er 4 256 rfl (by omega)) (er 5 320 rfl (by omega)) (er 6 384 rfl (by omega)) (er 7 448 rfl (by omega)) c
  have ey : ∀ c : Fin 512, yRaw (diag (scores (rowsB k v.ca) (rowsB k v.ba) (rowsX k v.ac) (aRows x6 k) v.causal) (rowsX k (mulf v.xa v.dt)) v.hb)
      (rowsB k v.ca) (rowsX k (exp v.ac)) (rowsX k v.xa) v.dsk (v.state s k) (ix2 l c) = yv A p1 p2 cw cb dsk b g (16 * i + k) l.val c.val := fun c => by
    rw [yRaw_apply, diag_head _ _ _ l c (fun k => w.hb k c)]
    simp only [scores_apply, rowsX_at k hk, rowsB_at k hk, w.ac, w.ba, w.ca, w.xa, w.dsk, w.causal, st_at w hs k (by omega), hr, ea]
    simp only [yv]
    refine congrArg₂ (· + ·) (congrArg₂ (· + ·) ?_ ?_) rfl
    · refine Finset.sum_congr rfl fun t _ => ?_
      have ht : (c.val / 64 * 64 + t.val) % 64 = t.val := by omega
      have hq : (c.val / 64 * 64 + t.val) / 64 = c.val / 64 := by omega
      have hh : ∀ T, hd b g p2 T (c.val / 64 * 64 + t.val) = hd b g p2 T c.val := fun T => by unfold hd; rw [hq]
      show _ * (v.xa _ * v.dt _) = _
      rw [w.xa, w.dt]
      simp only [hr, ht, hh]
      congr 2
      unfold dec
      by_cases hl : t.val ≤ l.val
      · rw [if_pos hl, if_pos hl, mul_one]
        refine congrArg Ideal.exp (Fin'.sub_le (G.hp2 _ _ (by omega)) (G.hp2 _ _ (by omega)) ?_)
        exact G.mono b _ t.val l.val _ B.hb (by omega) (by omega) hl l.isLt
      · rw [if_neg hl, if_neg hl, mul_zero]
    · show _ * Ideal.exp (v.ac _) = _
      rw [w.ac]
      simp only [hr]
  unfold PV.out
  rw [norm_apply, w.nw]
  have eg : ∀ c : Fin 512, v.gate s k (zRows x0 k) (aRows x6 k) (ix2 l c) = gated A p1 p2 cw cb dsk b g (16 * i + k) l.val c.val := fun c => by
    show yRaw _ _ _ _ _ _ (ix2 l c) * siluB _ (ix2 l c) = _
    rw [ey, ez]
    rfl
  simp only [eg]
  rfl

/-- The point's block of the result. -/
theorem pieces_at (G : Good A p1 p2 cw cb) (B : Blks A p1 p2 cw cb dsk nw b g i x0 x1 x2 x3 x4 x5 x6 x7 x8 x9 x10 x11 x12)
    {v : PV} (w : Works A p1 p2 cw cb dsk nw b g i v) {s : Vec Ideal S128x512 .f32}
    (hs : ∀ n c, s (ix2 n c) = st A p1 p2 cw cb b g (16 * i) n.val c.val) (r : Fin 1024) (c : Fin 512) :
    View.canon (pieces v s x0 x6 16) (ix2 r c) = outv A p1 p2 cw cb dsk nw b g (16 * i + r.val / 64) (r.val % 64) c.val := by
  have hall : ∀ k, k ≤ 16 → View.AllAt (pieces v s x0 x6 k) (ix2 r c) (outv A p1 p2 cw cb dsk nw b g (16 * i + r.val / 64) (r.val % 64) c.val) := by
    intro k
    induction k with
    | zero => exact fun _ => View.allAt_nil _ _
    | succ k ih =>
      intro hk
      refine View.allAt_cons_unit _ _ _ _ _ (fun x hx => ?_) (ih (by omega))
      have h0 : r.val = 64 * (k % 16) + (x 0).val := hx 0
      have h1 : c.val = 0 + (x 1).val := hx 1
      have hx0 : (x 0).val < 64 := (x 0).isLt
      rw [eq_ix2 x]
      refine (out_at G B w hs k (by omega) (x 0) (x 1)).trans ?_
      congr 1
      · omega
      · omega
      · omega
  have hmem : ∀ k, k ≤ 16 → r.val < 64 * k → ∃ p ∈ pieces v s x0 x6 k, (ix2 r c : S1024x512.Idx) ∈ p.1.set := by
    intro k
    induction k with
    | zero => intro _ h; exact absurd h (by omega)
    | succ k ih =>
      intro hk hr
      by_cases h : r.val < 64 * k
      · obtain ⟨p, hp, hm⟩ := ih (by omega) h
        exact ⟨p, List.mem_cons_of_mem _ hp, hm⟩
      · refine ⟨_, List.mem_cons_self, ?_⟩
        refine (Rect.mem_set_unit (s := S1024x512) (inb := inbZ k)).mpr fun a => ?_
        fin_cases a
        · show 64 * (k % 16) ≤ r.val ∧ r.val < 64 * (k % 16) + 64; omega
        · show 0 ≤ c.val ∧ c.val < 0 + 512; omega
  exact View.canon_eq_of_allAt _ _ _ (hmem 16 le_rfl (by omega)) (hall 16 le_rfl)

end

end Cert.KernelIdeal.Val

end
-- ==== Proof.Blocks.lean ====
/- The blocks of a point of the mixer's grid hold the point's part of the arguments. -/
module

public import proofs.«01_k».proof.Proof.Operands
public import proofs.«01_k».proof.Proof.Point

@[expose] public section

set_option maxRecDepth 16384

noncomputable section

namespace Cert.KernelIdeal.Val

open Idealize.ShloMosaic Idealize.ShloMosaic.TcCoe Idealize.SL.Sem
open Cert.KernelIdeal Cert.KernelIdeal.Gen Cert.Ssd

variable (m : (ℓ : Loc nD τ sig) → Buf (Elt Ideal) ℓ)

/-- Which block of each array a point reads or writes. -/
theorem idx : ∀ t : Fin cfg0.N, win0_0.index t = ![t.val / 32 * 4 + t.val % 4, t.val / 4 % 8] ∧ win0_1.index t = ![t.val / 32 * 4 + t.val % 4, 8 + t.val / 4 % 8]
    ∧ win0_2.index t = ![t.val / 32 * 4 + t.val % 4, 64 + t.val / 4 % 8] ∧ win0_3.index t = ![t.val / 32 * 4 + t.val % 4, 72 + t.val / 4 % 8]
    ∧ win0_4.index t = ![t.val / 32 * 4 + t.val % 4, 0] ∧ win0_5.index t = ![t.val / 32 * 4 + t.val % 4, 0]
    ∧ win0_6.index t = ![t.val / 4 % 8, t.val / 32 * 4 + t.val % 4] ∧ win0_13.index t = ![t.val / 32 * 4 + t.val % 4, t.val / 4 % 8] :=
  (by decide +kernel : ∀ t : Fin grid0.N, _)
theorem idx' : ∀ t : Fin cfg0.N, win0_7.index t = ![t.val / 4 % 8, 0, 0] ∧ win0_8.index t = ![0, 0] ∧ win0_9.index t = ![0, 0]
    ∧ win0_10.index t = ![0, t.val / 4 % 8] ∧ win0_11.index t = ![0, 32 + t.val / 4 % 8] ∧ win0_12.index t = ![0, 40 + t.val / 4 % 8] :=
  (by decide +kernel : ∀ t : Fin grid0.N, _)

/-- The arguments' arrays. -/
abbrev P0 (c : Dev nD) : FVec Ideal S16384x26624 .f32 := m ((c : Thread nD τ).loc main_arg0)
abbrev P1 (c : Dev nD) : FVec Ideal S16384x128 .f32 := m ((c : Thread nD τ).loc main_arg1)
abbrev P2 (c : Dev nD) : FVec Ideal S16384x128 .f32 := m ((c : Thread nD τ).loc main_arg2)
abbrev P3 (c : Dev nD) : FVec Ideal S4x6144 .f32 := m ((c : Thread nD τ).loc main_arg3)
abbrev P4 (c : Dev nD) : FVec Ideal S6144 .f32 := m ((c : Thread nD τ).loc main_arg4)
abbrev P5 (c : Dev nD) : FVec Ideal S64 .f32 := m ((c : Thread nD τ).loc main_arg5)
abbrev P6 (c : Dev nD) : FVec Ideal S4096 .f32 := m ((c : Thread nD τ).loc main_arg6)

theorem blk0 (c : Dev nD) (t : Fin cfg0.N) (r : Fin 1024) (q : Fin 512) :
    iblk m c 0 t (ix2 r q) = at2 (P0 m c) (t.val / 32 * 4096 + (1024 * (t.val % 4) + r.val)) (t.val / 4 % 8 * 512 + q.val) := by
  have e := (idx t).1
  show V m c main_arg0 (((cfg0.win 0).blk t).view.emb (ix2 r q)) = _
  rw [V_main_arg0]
  refine at2_of _ _ _ _ ?_ ?_ <;> first | (blk_simp [e]; done) | (blk_simp [e]; omega) | (blk_simp [e]; rfl)

theorem blk1 (c : Dev nD) (t : Fin cfg0.N) (r : Fin 1024) (q : Fin 512) :
    iblk m c 1 t (ix2 r q) = at2 (P0 m c) (t.val / 32 * 4096 + (1024 * (t.val % 4) + r.val)) (4096 + (t.val / 4 % 8 * 512 + q.val)) := by
  have e := (idx t).2.1
  show V m c main_arg0 (((cfg0.win 1).blk t).view.emb (ix2 r q)) = _
  rw [V_main_arg0]
  refine at2_of _ _ _ _ ?_ ?_ <;> first | (blk_simp [e]; done) | (blk_simp [e]; omega) | (blk_simp [e]; rfl)

theorem blk2 (c : Dev nD) (t : Fin cfg0.N) (r : Fin 1024) (q : Fin 128) :
    iblk m c 2 t (ix2 r q) = at2 (P0 m c) (t.val / 32 * 4096 + (1024 * (t.val % 4) + r.val)) (4096 + (4096 + t.val / 4 % 8 * 128 + q.val)) := by
  have e := (idx t).2.2.1
  show V m c main_arg0 (((cfg0.win 2).blk t).view.emb (ix2 r q)) = _
  rw [V_main_arg0]
  refine at2_of _ _ _ _ ?_ ?_ <;> first | (blk_simp [e]; done) | (blk_simp [e]; omega) | (blk_simp [e]; rfl)

theorem blk3 (c : Dev nD) (t : Fin cfg0.N) (r : Fin 1024) (q : Fin 128) :
    iblk m c 3 t (ix2 r q) = at2 (P0 m c) (t.val / 32 * 4096 + (1024 * (t.val % 4) + r.val)) (4096 + (5120 + t.val / 4 % 8 * 128 + q.val)) := by
  have e := (idx t).2.2.2.1
  show V m c main_arg0 (((cfg0.win 3).blk t).view.emb (ix2 r q)) = _
  rw [V_main_arg0]
  refine at2_of _ _ _ _ ?_ ?_ <;> first | (blk_simp [e]; done) | (blk_simp [e]; omega) | (blk_simp [e]; rfl)

theorem blk4 (c : Dev nD) (t : Fin cfg0.N) (r : Fin 1024) (q : Fin 128) :
    iblk m c 4 t (ix2 r q) = at2 (P1 m c) (t.val / 32 * 4096 + (1024 * (t.val % 4) + r.val)) (q.val) := by
  have e := (idx t).2.2.2.2.1
  show V m c main_arg1 (((cfg0.win 4).blk t).view.emb (ix2 r q)) = _
  rw [V_main_arg1]
  refine at2_of _ _ _ _ ?_ ?_ <;> first | (blk_simp [e]; done) | (blk_simp [e]; omega) | (blk_simp [e]; rfl)

theorem blk5 (c : Dev nD) (t : Fin cfg0.N) (r : Fin 1024) (q : Fin 128) :
    iblk m c 5 t (ix2 r q) = at2 (P2 m c) (t.val / 32 * 4096 + (1024 * (t.val % 4) + r.val)) (q.val) := by
  have e := (idx t).2.2.2.2.2.1
  show V m c main_arg2 (((cfg0.win 5).blk t).view.emb (ix2 r q)) = _
  rw [V_main_arg2]
  refine at2_of _ _ _ _ ?_ ?_ <;> first | (blk_simp [e]; done) | (blk_simp [e]; omega) | (blk_simp [e]; rfl)

theorem blk6 (c : Dev nD) (t : Fin cfg0.N) (r : Fin 8) (q : Fin 1024) :
    iblk m c 6 t (ix2 r q) = at2 (P2 m c) (t.val / 32 * 4096 + (1024 * (t.val % 4) + q.val)) (t.val / 4 % 8 * 8 + r.val) := by
  have e := (idx t).2.2.2.2.2.2.1
  show V m c main_v19 (((cfg0.win 6).blk t).view.emb (ix2 r q)) = _
  rw [eq_ix2 (((cfg0.win 6).blk t).view.emb (ix2 r q))]
  refine (v19_at m c _ _).trans (at2_of _ _ _ _ ?_ ?_) <;> first | (blk_simp [e]; done) | (blk_simp [e]; omega) | (blk_simp [e]; rfl)

theorem blk7 (c : Dev nD) (t : Fin cfg0.N) (x : Fin 384) (q : Fin 512) :
    iblk m c 7 t (ix3 0 x q) = (if x.val % 128 = t.val / 4 % 8 * 8 + q.val / 64 then 1 else 0 : EReal) := by
  have e := (idx' t).1
  have hg : t.val / 4 % 8 < 8 := by omega
  show V m c main_v18 (((cfg0.win 7).blk t).view.emb (ix3 0 x q)) = _
  have h : ((cfg0.win 7).blk t).view.emb (ix3 0 x q) = ix3 (⟨t.val / 4 % 8, hg⟩ : Fin 8) x q := by
    funext a
    refine Fin.ext ?_
    fin_cases a <;> first | (blk_simp [e]; done) | (blk_simp [e]; omega) | (blk_simp [e]; rfl)
  rw [h]
  exact v18_at m c _ x q

theorem blk8 (c : Dev nD) (t : Fin cfg0.N) (l : Fin 64) (q : Fin 512) :
    iblk m c 8 t (ix2 l q) = (if q.val % 64 ≤ l.val then 1 else 0 : EReal) := by
  have e := (idx' t).2.1
  show V m c main_v40 (((cfg0.win 8).blk t).view.emb (ix2 l q)) = _
  have h : ((cfg0.win 8).blk t).view.emb (ix2 l q) = ix2 l q := by
    funext a
    refine Fin.ext ?_
    fin_cases a <;> first | (blk_simp [e]; done) | (blk_simp [e]; omega) | (blk_simp [e]; rfl)
  rw [h]
  exact v40_at m c l q

theorem blk9 (c : Dev nD) (t : Fin cfg0.N) (k q : Fin 512) :
    iblk m c 9 t (ix2 k q) = (if k.val / 64 = q.val / 64 then 1 else 0 : EReal) := by
  have e := (idx' t).2.2.1
  show V m c main_v49 (((cfg0.win 9).blk t).view.emb (ix2 k q)) = _
  have h : ((cfg0.win 9).blk t).view.emb (ix2 k q) = ix2 k q := by
    funext a
    refine Fin.ext ?_
    fin_cases a <;> first | (blk_simp [e]; done) | (blk_simp [e]; omega) | (blk_simp [e]; rfl)
  rw [h]
  exact v49_at m c k q

theorem blk10 (c : Dev nD) (t : Fin cfg0.N) (j : Fin 8) (q : Fin 512) :
    iblk m c 10 t (ix2 j q) = TAB (P3 m c) (P4 m c) (P5 m c) (P6 m c) (ix2 j ⟨t.val / 4 % 8 * 512 + q.val, by omega⟩) := by
  have e := (idx' t).2.2.2.1
  show V m c main_v31 (((cfg0.win 10).blk t).view.emb (ix2 j q)) = _
  rw [v31_eq]
  refine congrArg _ (funext fun a => Fin.ext ?_)
  fin_cases a
  · first | (blk_simp [e]; done) | (blk_simp [e]; omega) | (blk_simp [e]; rfl)
  · blk_simp [e]
    first | rfl | (show _ + q.val = _ + q.val; omega)

theorem blk11 (c : Dev nD) (t : Fin cfg0.N) (j : Fin 8) (q : Fin 128) :
    iblk m c 11 t (ix2 j q) = TAB (P3 m c) (P4 m c) (P5 m c) (P6 m c) (ix2 j ⟨4096 + t.val / 4 % 8 * 128 + q.val, by omega⟩) := by
  have e := (idx' t).2.2.2.2.1
  show V m c main_v31 (((cfg0.win 11).blk t).view.emb (ix2 j q)) = _
  rw [v31_eq]
  refine congrArg _ (funext fun a => Fin.ext ?_)
  fin_cases a
  · first | (blk_simp [e]; done) | (blk_simp [e]; omega) | (blk_simp [e]; rfl)
  · blk_simp [e]
    first | rfl | (show _ + q.val = _ + q.val; omega)

theorem blk12 (c : Dev nD) (t : Fin cfg0.N) (j : Fin 8) (q : Fin 128) :
    iblk m c 12 t (ix2 j q) = TAB (P3 m c) (P4 m c) (P5 m c) (P6 m c) (ix2 j ⟨5120 + t.val / 4 % 8 * 128 + q.val, by omega⟩) := by
  have e := (idx' t).2.2.2.2.2
  show V m c main_v31 (((cfg0.win 12).blk t).view.emb (ix2 j q)) = _
  rw [v31_eq]
  refine congrArg _ (funext fun a => Fin.ext ?_)
  fin_cases a
  · first | (blk_simp [e]; done) | (blk_simp [e]; omega) | (blk_simp [e]; rfl)
  · blk_simp [e]
    first | rfl | (show _ + q.val = _ + q.val; omega)

/-- The table's rows, of the arguments. -/
theorem tab_w (a3 a4 a5 a6) (j : Fin 8) (hj : j.val < 4) (q : Fin 6144) : TAB a3 a4 a5 a6 (ix2 j q) = at2 a3 j.val q.val :=
  (TAB_w a3 a4 a5 a6 ⟨j.val, hj⟩ q).trans (at2_of _ _ _ _ rfl rfl)
theorem tab_b (a3 a4 a5 a6) (q : Fin 6144) : TAB a3 a4 a5 a6 (ix2 4 q) = at1 a4 q.val :=
  (TAB_b a3 a4 a5 a6 q).trans (at1_of _ _ _ rfl)

/-- The blocks of point `t`. -/
theorem blks (c : Dev nD) (t : Fin cfg0.N) :
    Blks (at2 (P0 m c)) (at2 (P1 m c)) (at2 (P2 m c)) (at2 (P3 m c)) (at1 (P4 m c)) (at1 (P5 m c)) (at1 (P6 m c)) (t.val / 32) (t.val / 4 % 8) (t.val % 4)
      (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) where
  hb := by
    have hN : t.val < 128 := lt_of_lt_of_eq t.isLt N_0
    omega
  hg := by omega
  hi := by omega
  e0 := blk0 m c t
  e1 := blk1 m c t
  e2 := blk2 m c t
  e3 := blk3 m c t
  e4 := blk4 m c t
  e5 := blk5 m c t
  e6 := blk6 m c t
  e7 := blk7 m c t
  e8 := blk8 m c t
  e9 := blk9 m c t
  eX j q hj := (blk10 m c t j q).trans (tab_w _ _ _ _ j hj _)
  eXb q := (blk10 m c t 4 q).trans (tab_b _ _ _ _ _)
  eXd q := (blk10 m c t 5 q).trans ((TAB_d _ _ _ _ _ (by dsimp only; omega)).trans (at1_of _ _ _ (by show (_ * 512 + _) / 64 = _; omega)))
  eXn q := (blk10 m c t 6 q).trans ((TAB_n _ _ _ _ _ (by dsimp only; omega)).trans (at1_of _ _ _ rfl))
  eB j q hj := (blk11 m c t j q).trans (tab_w _ _ _ _ j hj _)
  eBb q := (blk11 m c t 4 q).trans (tab_b _ _ _ _ _)
  eC j q hj := (blk12 m c t j q).trans (tab_w _ _ _ _ j hj _)
  eCb q := (blk12 m c t 4 q).trans (tab_b _ _ _ _ _)

end Cert.KernelIdeal.Val

end
-- ==== Proof.Scratch.lean ====
/- The eight rows each of the mixer's three row buffers keeps for the next point: the last eight rows of the point's block. -/
module

public import proofs.«01_k».proof.Proof.Pieces

@[expose] public section

set_option maxRecDepth 16384

noncomputable section

namespace Cert.KernelIdeal.Val

open Idealize.ShloMosaic Idealize.ShloMosaic.TcCoe
open Cert.KernelIdeal Cert.KernelIdeal.Gen Cert.Ssd

theorem read_head {W : ℕ} {sig : RefSig} {κ : Kind} {sp : Space} (v : View sig κ sp (⟨2, ![1032, W]⟩ : Shape) .f32) (f : v.ty.Contents (Elt Ideal))
    (w : (⟨2, ![8, W]⟩ : Shape).Idx → Elt Ideal .f32) (L : List (View.Piece (Elt Ideal) (⟨2, ![1032, W]⟩ : Shape) .f32))
    (inb : ∀ a : Fin 2, (![0, 0] : Fin 2 → ℕ) a + (![8, W] : Fin 2 → ℕ) a ≤ (![1032, W] : Fin 2 → ℕ) a) (r : Fin 1032) (hr : r.val < 8) (q : Fin W) :
    v.read (Elt Ideal) (v.writes (Elt Ideal) f ((⟨Rect.unit (s := ⟨2, ![1032, W]⟩) ![0, 0] ![8, W] inb, w⟩ : View.Piece (Elt Ideal) (⟨2, ![1032, W]⟩ : Shape) .f32) :: L)) (ix2 r q)
      = w (ix2 ⟨r.val, hr⟩ q) :=
  View.read_writes_cons_rows_of_mem v f inb w L _ (ix2 ⟨r.val, hr⟩ q) rfl (Nat.zero_add _).symm rfl

theorem pay9_at (x : Vec Ideal S1024x512 .f32) (r : Fin 8) (q : Fin 512) : k0_pay9 (F := Ideal) x (ix2 r q) = x (ix2 ⟨1016 + r.val, by omega⟩ q) := by
  pointwise [k0_pay9]
theorem pay14_at (x : Vec Ideal S1024x128 .f32) (r : Fin 8) (q : Fin 128) : k0_pay14 (F := Ideal) x (ix2 r q) = x (ix2 ⟨1016 + r.val, by omega⟩ q) := by
  pointwise [k0_pay14]
theorem pay19_at (x : Vec Ideal S1024x128 .f32) (r : Fin 8) (q : Fin 128) : k0_pay19 (F := Ideal) x (ix2 r q) = x (ix2 ⟨1016 + r.val, by omega⟩ q) := by
  pointwise [k0_pay19]

set_option maxHeartbeats 4000000

theorem rows0_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S8x1024 .f32) (harg9 : arg9.IsWhole) (arg10 : Memref sig .tc .vmem S1x384x512 .bf16) (harg10 : arg10.IsWhole) (arg11 : Memref sig .tc .vmem S64x512 .f32) (harg11 : arg11.IsWhole) (arg12 : Memref sig .tc .vmem S512x512 .bf16) (harg12 : arg12.IsWhole) (arg13 : Memref sig .tc .vmem S8x512 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S1024x512 .bf16) (harg16 : arg16.IsWhole) (arg17 : Memref sig .tc .vmem S1032x512 .f32) (harg17 : arg17.IsWhole) (arg18 : Memref sig .tc .vmem S1032x128 .f32) (harg18 : arg18.IsWhole) (arg19 : Memref sig .tc .vmem S1032x128 .f32) (harg19 : arg19.IsWhole) (arg20 : Memref sig .tc .vmem S128x512 .f32) (harg20 : arg20.IsWhole) (hc0 : cond0_0 i)
    (x0 : Vec Ideal S1024x512 .f32) (x1 : Vec Ideal S1024x512 .f32) (x2 : Vec Ideal S1024x128 .f32) (x3 : Vec Ideal S1024x128 .f32) (x4 : Vec Ideal S1024x128 .f32) (x5 : Vec Ideal S1024x128 .f32) (x6 : Vec Ideal S8x1024 .f32) (x7 : Vec Ideal S1x384x512 .bf16) (x8 : Vec Ideal S64x512 .f32) (x9 : Vec Ideal S512x512 .bf16) (x10 : Vec Ideal S8x512 .f32) (x11 : Vec Ideal S8x128 .f32) (x12 : Vec Ideal S8x128 .f32) (r : Fin 1032) (hr : r.val < 8) (q : Fin 512) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 (ix2 r q) = x1 (ix2 ⟨1016 + r.val, by omega⟩ q) := by
  unfold sout0_A_0 kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, harg19.read_unread, harg20.read_unread]
  simp only [ld0X, ld0B, ld0E, ld0C, ld0H, ld0S, pay6_id, pay12_id, pay17_id, View.readCov_cons_toLoadRect]
  rw [read_head _ _ _ _ _ r hr q, pay9_at]

theorem rows1_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S8x1024 .f32) (harg9 : arg9.IsWhole) (arg10 : Memref sig .tc .vmem S1x384x512 .bf16) (harg10 : arg10.IsWhole) (arg11 : Memref sig .tc .vmem S64x512 .f32) (harg11 : arg11.IsWhole) (arg12 : Memref sig .tc .vmem S512x512 .bf16) (harg12 : arg12.IsWhole) (arg13 : Memref sig .tc .vmem S8x512 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S1024x512 .bf16) (harg16 : arg16.IsWhole) (arg17 : Memref sig .tc .vmem S1032x512 .f32) (harg17 : arg17.IsWhole) (arg18 : Memref sig .tc .vmem S1032x128 .f32) (harg18 : arg18.IsWhole) (arg19 : Memref sig .tc .vmem S1032x128 .f32) (harg19 : arg19.IsWhole) (arg20 : Memref sig .tc .vmem S128x512 .f32) (harg20 : arg20.IsWhole) (hc0 : cond0_0 i)
    (x0 : Vec Ideal S1024x512 .f32) (x1 : Vec Ideal S1024x512 .f32) (x2 : Vec Ideal S1024x128 .f32) (x3 : Vec Ideal S1024x128 .f32) (x4 : Vec Ideal S1024x128 .f32) (x5 : Vec Ideal S1024x128 .f32) (x6 : Vec Ideal S8x1024 .f32) (x7 : Vec Ideal S1x384x512 .bf16) (x8 : Vec Ideal S64x512 .f32) (x9 : Vec Ideal S512x512 .bf16) (x10 : Vec Ideal S8x512 .f32) (x11 : Vec Ideal S8x128 .f32) (x12 : Vec Ideal S8x128 .f32) (r : Fin 1032) (hr : r.val < 8) (q : Fin 128) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 (ix2 r q) = x2 (ix2 ⟨1016 + r.val, by omega⟩ q) := by
  unfold sout0_A_1 kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, harg19.read_unread, harg20.read_unread]
  simp only [ld0X, ld0B, ld0E, ld0C, ld0H, ld0S, pay6_id, pay12_id, pay17_id, View.readCov_cons_toLoadRect]
  rw [read_head _ _ _ _ _ r hr q, pay14_at]

theorem rows2_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S8x1024 .f32) (harg9 : arg9.IsWhole) (arg10 : Memref sig .tc .vmem S1x384x512 .bf16) (harg10 : arg10.IsWhole) (arg11 : Memref sig .tc .vmem S64x512 .f32) (harg11 : arg11.IsWhole) (arg12 : Memref sig .tc .vmem S512x512 .bf16) (harg12 : arg12.IsWhole) (arg13 : Memref sig .tc .vmem S8x512 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S1024x512 .bf16) (harg16 : arg16.IsWhole) (arg17 : Memref sig .tc .vmem S1032x512 .f32) (harg17 : arg17.IsWhole) (arg18 : Memref sig .tc .vmem S1032x128 .f32) (harg18 : arg18.IsWhole) (arg19 : Memref sig .tc .vmem S1032x128 .f32) (harg19 : arg19.IsWhole) (arg20 : Memref sig .tc .vmem S128x512 .f32) (harg20 : arg20.IsWhole) (hc0 : cond0_0 i)
    (x0 : Vec Ideal S1024x512 .f32) (x1 : Vec Ideal S1024x512 .f32) (x2 : Vec Ideal S1024x128 .f32) (x3 : Vec Ideal S1024x128 .f32) (x4 : Vec Ideal S1024x128 .f32) (x5 : Vec Ideal S1024x128 .f32) (x6 : Vec Ideal S8x1024 .f32) (x7 : Vec Ideal S1x384x512 .bf16) (x8 : Vec Ideal S64x512 .f32) (x9 : Vec Ideal S512x512 .bf16) (x10 : Vec Ideal S8x512 .f32) (x11 : Vec Ideal S8x128 .f32) (x12 : Vec Ideal S8x128 .f32) (r : Fin 1032) (hr : r.val < 8) (q : Fin 128) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 (ix2 r q) = x3 (ix2 ⟨1016 + r.val, by omega⟩ q) := by
  unfold sout0_A_2 kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, harg19.read_unread, harg20.read_unread]
  simp only [ld0X, ld0B, ld0E, ld0C, ld0H, ld0S, pay6_id, pay12_id, pay17_id, View.readCov_cons_toLoadRect]
  rw [read_head _ _ _ _ _ r hr q, pay19_at]

theorem rows0_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S8x1024 .f32) (harg9 : arg9.IsWhole) (arg10 : Memref sig .tc .vmem S1x384x512 .bf16) (harg10 : arg10.IsWhole) (arg11 : Memref sig .tc .vmem S64x512 .f32) (harg11 : arg11.IsWhole) (arg12 : Memref sig .tc .vmem S512x512 .bf16) (harg12 : arg12.IsWhole) (arg13 : Memref sig .tc .vmem S8x512 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S1024x512 .bf16) (harg16 : arg16.IsWhole) (arg17 : Memref sig .tc .vmem S1032x512 .f32) (harg17 : arg17.IsWhole) (arg18 : Memref sig .tc .vmem S1032x128 .f32) (harg18 : arg18.IsWhole) (arg19 : Memref sig .tc .vmem S1032x128 .f32) (harg19 : arg19.IsWhole) (arg20 : Memref sig .tc .vmem S128x512 .f32) (harg20 : arg20.IsWhole) (hc0 : ¬cond0_0 i)
    (x0 : Vec Ideal S1024x512 .f32) (x1 : Vec Ideal S1024x512 .f32) (x2 : Vec Ideal S1024x128 .f32) (x3 : Vec Ideal S1024x128 .f32) (x4 : Vec Ideal S1024x128 .f32) (x5 : Vec Ideal S1024x128 .f32) (x6 : Vec Ideal S8x1024 .f32) (x7 : Vec Ideal S1x384x512 .bf16) (x8 : Vec Ideal S64x512 .f32) (x9 : Vec Ideal S512x512 .bf16) (x10 : Vec Ideal S8x512 .f32) (x11 : Vec Ideal S8x128 .f32) (x12 : Vec Ideal S8x128 .f32) (xs0 : Vec Ideal S1032x512 .f32) (xs1 : Vec Ideal S1032x128 .f32) (xs2 : Vec Ideal S1032x128 .f32) (xs3 : Vec Ideal S128x512 .f32) (r : Fin 1032) (hr : r.val < 8) (q : Fin 512) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1 xs2 xs3 (ix2 r q) = x1 (ix2 ⟨1016 + r.val, by omega⟩ q) := by
  unfold sout0_B_0 kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, harg19.read_unread, harg20.read_unread]
  simp only [ld0X, ld0B, ld0E, ld0C, ld0H, ld0S, pay6_id, pay12_id, pay17_id, View.readCov_cons_toLoadRect]
  rw [read_head _ _ _ _ _ r hr q, pay9_at]

theorem rows1_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S8x1024 .f32) (harg9 : arg9.IsWhole) (arg10 : Memref sig .tc .vmem S1x384x512 .bf16) (harg10 : arg10.IsWhole) (arg11 : Memref sig .tc .vmem S64x512 .f32) (harg11 : arg11.IsWhole) (arg12 : Memref sig .tc .vmem S512x512 .bf16) (harg12 : arg12.IsWhole) (arg13 : Memref sig .tc .vmem S8x512 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S1024x512 .bf16) (harg16 : arg16.IsWhole) (arg17 : Memref sig .tc .vmem S1032x512 .f32) (harg17 : arg17.IsWhole) (arg18 : Memref sig .tc .vmem S1032x128 .f32) (harg18 : arg18.IsWhole) (arg19 : Memref sig .tc .vmem S1032x128 .f32) (harg19 : arg19.IsWhole) (arg20 : Memref sig .tc .vmem S128x512 .f32) (harg20 : arg20.IsWhole) (hc0 : ¬cond0_0 i)
    (x0 : Vec Ideal S1024x512 .f32) (x1 : Vec Ideal S1024x512 .f32) (x2 : Vec Ideal S1024x128 .f32) (x3 : Vec Ideal S1024x128 .f32) (x4 : Vec Ideal S1024x128 .f32) (x5 : Vec Ideal S1024x128 .f32) (x6 : Vec Ideal S8x1024 .f32) (x7 : Vec Ideal S1x384x512 .bf16) (x8 : Vec Ideal S64x512 .f32) (x9 : Vec Ideal S512x512 .bf16) (x10 : Vec Ideal S8x512 .f32) (x11 : Vec Ideal S8x128 .f32) (x12 : Vec Ideal S8x128 .f32) (xs0 : Vec Ideal S1032x512 .f32) (xs1 : Vec Ideal S1032x128 .f32) (xs2 : Vec Ideal S1032x128 .f32) (xs3 : Vec Ideal S128x512 .f32) (r : Fin 1032) (hr : r.val < 8) (q : Fin 128) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1 xs2 xs3 (ix2 r q) = x2 (ix2 ⟨1016 + r.val, by omega⟩ q) := by
  unfold sout0_B_1 kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, harg19.read_unread, harg20.read_unread]
  simp only [ld0X, ld0B, ld0E, ld0C, ld0H, ld0S, pay6_id, pay12_id, pay17_id, View.readCov_cons_toLoadRect]
  rw [read_head _ _ _ _ _ r hr q, pay14_at]

theorem rows2_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S8x1024 .f32) (harg9 : arg9.IsWhole) (arg10 : Memref sig .tc .vmem S1x384x512 .bf16) (harg10 : arg10.IsWhole) (arg11 : Memref sig .tc .vmem S64x512 .f32) (harg11 : arg11.IsWhole) (arg12 : Memref sig .tc .vmem S512x512 .bf16) (harg12 : arg12.IsWhole) (arg13 : Memref sig .tc .vmem S8x512 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S1024x512 .bf16) (harg16 : arg16.IsWhole) (arg17 : Memref sig .tc .vmem S1032x512 .f32) (harg17 : arg17.IsWhole) (arg18 : Memref sig .tc .vmem S1032x128 .f32) (harg18 : arg18.IsWhole) (arg19 : Memref sig .tc .vmem S1032x128 .f32) (harg19 : arg19.IsWhole) (arg20 : Memref sig .tc .vmem S128x512 .f32) (harg20 : arg20.IsWhole) (hc0 : ¬cond0_0 i)
    (x0 : Vec Ideal S1024x512 .f32) (x1 : Vec Ideal S1024x512 .f32) (x2 : Vec Ideal S1024x128 .f32) (x3 : Vec Ideal S1024x128 .f32) (x4 : Vec Ideal S1024x128 .f32) (x5 : Vec Ideal S1024x128 .f32) (x6 : Vec Ideal S8x1024 .f32) (x7 : Vec Ideal S1x384x512 .bf16) (x8 : Vec Ideal S64x512 .f32) (x9 : Vec Ideal S512x512 .bf16) (x10 : Vec Ideal S8x512 .f32) (x11 : Vec Ideal S8x128 .f32) (x12 : Vec Ideal S8x128 .f32) (xs0 : Vec Ideal S1032x512 .f32) (xs1 : Vec Ideal S1032x128 .f32) (xs2 : Vec Ideal S1032x128 .f32) (xs3 : Vec Ideal S128x512 .f32) (r : Fin 1032) (hr : r.val < 8) (q : Fin 128) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1 xs2 xs3 (ix2 r q) = x3 (ix2 ⟨1016 + r.val, by omega⟩ q) := by
  unfold sout0_B_2 kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, harg19.read_unread, harg20.read_unread]
  simp only [ld0X, ld0B, ld0E, ld0C, ld0H, ld0S, pay6_id, pay12_id, pay17_id, View.readCov_cons_toLoadRect]
  rw [read_head _ _ _ _ _ r hr q, pay19_at]

end Cert.KernelIdeal.Val

end
-- ==== Proof.SsdVal.lean ====
/- The mixer: what each point of the grid leaves, and the array that the kernel leaves. -/
module

public import proofs.«01_k».proof.Proof.Blocks
public import proofs.«01_k».proof.Proof.Scratch

@[expose] public section

set_option maxRecDepth 16384

noncomputable section

namespace Cert.KernelIdeal.Val

open Idealize.ShloMosaic Idealize.ShloMosaic.TcCoe Idealize.SL.Sem
open Cert.KernelIdeal Cert.KernelIdeal.Gen Cert.Ssd

variable (m : (ℓ : Loc nD τ sig) → Buf (Elt Ideal) ℓ)

/-- The arguments are as `Good` has it. -/
abbrev GoodAt (c : Dev nD) : Prop := Good (at2 (P0 m c)) (at2 (P1 m c)) (at2 (P2 m c)) (at2 (P3 m c)) (at1 (P4 m c))
/-- The state and the result of the mixer on the arguments. -/
abbrev stM (c : Dev nD) (b g k n q : ℕ) : EReal := st (at2 (P0 m c)) (at2 (P1 m c)) (at2 (P2 m c)) (at2 (P3 m c)) (at1 (P4 m c)) b g k n q
abbrev outM (c : Dev nD) (b g k l q : ℕ) : EReal :=
  outv (at2 (P0 m c)) (at2 (P1 m c)) (at2 (P2 m c)) (at2 (P3 m c)) (at1 (P4 m c)) (at1 (P5 m c)) (at1 (P6 m c)) b g k l q

/-- What a point leaves: its rows of the result, the state after them, and its last rows before the next point's. -/
structure Left (c : Dev nD) (t : Fin cfg0.N) : Prop where
  out : ∀ r q, (outsAt0 m c t.val t.isLt).1 (ix2 r q) = outM m c (t.val / 32) (t.val / 4 % 8) (16 * (t.val % 4) + r.val / 64) (r.val % 64) q.val
  st : ∀ n q, (outsAt0 m c t.val t.isLt).2.2.2.2 (ix2 n q) = stM m c (t.val / 32) (t.val / 4 % 8) (16 * (t.val % 4) + 16) n.val q.val
  x : ∀ (r : Fin 1032) (hr : r.val < 8) q, (outsAt0 m c t.val t.isLt).2.1 (ix2 r q) = iblk m c 1 t (ix2 ⟨1016 + r.val, by omega⟩ q)
  b : ∀ (r : Fin 1032) (hr : r.val < 8) q, (outsAt0 m c t.val t.isLt).2.2.1 (ix2 r q) = iblk m c 2 t (ix2 ⟨1016 + r.val, by omega⟩ q)
  c : ∀ (r : Fin 1032) (hr : r.val < 8) q, (outsAt0 m c t.val t.isLt).2.2.2.1 (ix2 r q) = iblk m c 3 t (ix2 ⟨1016 + r.val, by omega⟩ q)

/-- Before the sequence's first row there is nothing. -/
theorem hist_zero (A : ℕ → ℕ → EReal) (b : ℕ) {W : ℕ} (q : ℕ) : Hist A b 0 (W := W) q (fun _ => 0) := fun r c h5 h8 => by
  unfold tap
  rw [if_pos (by omega)]

/-- A sequence's first point. -/
theorem leftA (c : Dev nD) (G : GoodAt m c) (t : Fin cfg0.N) (h0 : t.val % 4 = 0) : Left m c t := by
  have B := blks m c t
  rw [h0] at B
  have w := works G B (hist_zero _ _ _) (hist_zero _ _ _) (hist_zero _ _ _)
  have hs : ∀ n q, k0_pay4 (F := Ideal) (ix2 n q) = stM m c (t.val / 32) (t.val / 4 % 8) (16 * 0) n.val q.val := fun n q => by
    pointwise [k0_pay4]
    rfl
  constructor
  · intro r q
    rw [outsAt0_A m c t h0]
    dsimp only
    rw [out_A, pieces_at G B w hs, h0]
  · intro n q
    rw [outsAt0_A m c t h0]
    dsimp only
    rw [st_A, st_at w hs 16 le_rfl, h0]
  · intro r hr q
    rw [outsAt0_A m c t h0]
    dsimp only
    rw [rows0_A (hr := hr)]
  · intro r hr q
    rw [outsAt0_A m c t h0]
    dsimp only
    rw [rows1_A (hr := hr)]
  · intro r hr q
    rw [outsAt0_A m c t h0]
    dsimp only
    rw [rows2_A (hr := hr)]

/-- A point after another of its sequence. -/
theorem leftB (c : Dev nD) (G : GoodAt m c) (t t' : Fin cfg0.N) (e : t'.val = t.val - 1) (h0 : ¬t.val % 4 = 0) (L : Left m c t') : Left m c t := by
  have B := blks m c t
  obtain ⟨t', ht'⟩ := t'
  dsimp only at e
  subst e
  have e1 : (t.val - 1) / 32 = t.val / 32 := by omega
  have e2 : (t.val - 1) / 4 % 8 = t.val / 4 % 8 := by omega
  have e3 : (t.val - 1) % 4 + 1 = t.val % 4 := by omega
  have hist : ∀ (r : ℕ), 5 ≤ r → r < 8 → (t.val - 1) / 32 * 4096 + (1024 * ((t.val - 1) % 4) + (1016 + r)) = t.val / 32 * 4096 + (1024 * (t.val % 4) + (r - 5) - 3) := fun r h5 h8 => by omega
  have hn : ∀ (r : ℕ), ¬1024 * (t.val % 4) + (r - 5) < 3 := fun r => by omega
  have w := works G B
    (h0 := (outsAt0 m c (t.val - 1) ht').2.1) (h1 := (outsAt0 m c (t.val - 1) ht').2.2.1) (h2 := (outsAt0 m c (t.val - 1) ht').2.2.2.1)
    (fun r q h5 h8 => (L.x r h8 q).trans ((blk1 m c _ _ q).trans (by unfold tap; rw [if_neg (hn r)]; dsimp only; rw [hist r.val h5 h8, e2])))
    (fun r q h5 h8 => (L.b r h8 q).trans ((blk2 m c _ _ q).trans (by unfold tap; rw [if_neg (hn r)]; dsimp only; rw [hist r.val h5 h8, e2])))
    (fun r q h5 h8 => (L.c r h8 q).trans ((blk3 m c _ _ q).trans (by unfold tap; rw [if_neg (hn r)]; dsimp only; rw [hist r.val h5 h8, e2])))
  have hs : ∀ n q, (outsAt0 m c (t.val - 1) ht').2.2.2.2 (ix2 n q) = stM m c (t.val / 32) (t.val / 4 % 8) (16 * (t.val % 4)) n.val q.val := fun n q => by
    have := L.st n q
    dsimp only at this
    rw [this, e1, e2, ← e3]
    rfl
  constructor
  · intro r q
    rw [outsAt0_B m c t h0]
    dsimp only
    rw [out_B, pieces_at G B w hs]
  · intro n q
    rw [outsAt0_B m c t h0]
    dsimp only
    rw [st_B, st_at w hs 16 le_rfl]
  · intro r hr q
    rw [outsAt0_B m c t h0]
    dsimp only
    rw [rows0_B (hr := hr)]
  · intro r hr q
    rw [outsAt0_B m c t h0]
    dsimp only
    rw [rows1_B (hr := hr)]
  · intro r hr q
    rw [outsAt0_B m c t h0]
    dsimp only
    rw [rows2_B (hr := hr)]

/-- What every point leaves. -/
theorem left (c : Dev nD) (G : GoodAt m c) : ∀ (n : ℕ) (h : n < cfg0.N), Left m c ⟨n, h⟩ := by
  intro n
  induction n with
  | zero => intro h; exact leftA m c G _ rfl
  | succ n ih =>
    intro h
    by_cases h0 : (n + 1) % 4 = 0
    · exact leftA m c G _ h0
    · exact leftB m c G _ ⟨n, Nat.lt_of_succ_lt h⟩ rfl h0 (ih _)

/-- The mixer's result as an array. -/
def OUT (c : Dev nD) : FVec Ideal S16384x4096 .bf16 := fun y =>
  outM m c ((y 0).val / 4096) ((y 1).val / 512) ((y 0).val % 4096 / 64) ((y 0).val % 64) ((y 1).val % 512)

/-- The array after the run. -/
theorem final (c : Dev nD) (G : GoodAt m c) : (dats m 0 c).arrAt 13 cfg0.N = OUT m c := by
  refine (dats m 0 c).arrAt_eq_of_covers 13 _ (by decide +kernel) fun t _ y => ?_
  have e := (idx t).2.2.2.2.2.2.2
  have hN : t.val < 128 := lt_of_lt_of_eq t.isLt N_0
  have h0 : ((((cfg0.win 13).blk t).view.emb y) 0).val = (t.val / 32 * 4 + t.val % 4) * 1024 + (y 0).val := by blk_simp [e]
  have h1 : ((((cfg0.win 13).blk t).view.emb y) 1).val = t.val / 4 % 8 * 512 + (y 1).val := by blk_simp [e]
  have hy0 : (y 0).val < 1024 := (y 0).isLt
  have hy1 : (y 1).val < 512 := (y 1).isLt
  blk_simp
  rw [after0_13]
  refine ((congrArg _ (eq_ix2 y)).trans ((left m c G t.val t.isLt).out (y 0) (y 1))).trans ?_
  unfold OUT
  rw [h0, h1]
  dsimp only [outM]
  rw [show ((t.val / 32 * 4 + t.val % 4) * 1024 + (y 0).val) / 4096 = t.val / 32 by omega,
    show (t.val / 4 % 8 * 512 + (y 1).val) / 512 = t.val / 4 % 8 by omega,
    show ((t.val / 32 * 4 + t.val % 4) * 1024 + (y 0).val) % 4096 / 64 = 16 * (t.val % 4) + (y 0).val / 64 by omega,
    show ((t.val / 32 * 4 + t.val % 4) * 1024 + (y 0).val) % 64 = (y 0).val % 64 by omega,
    show (t.val / 4 % 8 * 512 + (y 1).val) % 512 = (y 1).val by omega]

/-- The kernel's run: the result, and the arguments as they were. -/
theorem run (G : ∀ c : Dev nD, GoodAt m c) (ρ : Dev nD → PrngReg) : θ_run defs (onTc (τ := τ) (main (F := Ideal))) ⟨m, fun _ => 0, ρ⟩ fun r => ∀ c : Dev nD,
      r.2.mem ((c : Thread nD τ).loc main_v50) = OUT m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 13).trans (final m c (G c)),
      ((h c).1 3).trans (((dats m 0 c).arrAt_in 3 rfl _).trans ((A_eq m c 3).trans (V_main_arg0 m c))),
      ((h c).1 4).trans (((dats m 0 c).arrAt_in 4 rfl _).trans ((A_eq m c 4).trans (V_main_arg1 m c))),
      ((h c).1 5).trans (((dats m 0 c).arrAt_in 5 rfl _).trans ((A_eq m c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Val

end
-- ==== Proof.RefVal.lean ====
/- The values of one trip of the reference's loop read at an index, over the state the trip starts from. -/
module

public import proofs.«01_k».proof.Proof.Gen.ReferenceIdeal.Step
public import proofs.«01_k».proof.Proof.Spec
public import Idealize.ShloMosaic.Lib.Pointwise
public import Idealize.ShloMosaic.Lib.WordCmp
public import Idealize.ShloMosaic.Lib.DynamicIndex

@[expose] public section

set_option maxRecDepth 16384

noncomputable section

namespace Cert.ReferenceIdeal.Val

open Idealize.ShloMosaic
open Cert.ReferenceIdeal Cert.ReferenceIdeal.Gen Cert.ReferenceIdeal.Step Cert.Ssd

variable (s : State Ideal) (j : Fin 64)

theorem word (j : Fin 64) : (BitVec.ofNat 32 j.val).toInt = j.val := by
  have := j.isLt
  exact WordCmp.toInt_ofNat_of_lt (by omega)

/-! The trip's slices of the loop's inputs. -/
theorem b5_at (b : Fin 4) (l : Fin 64) (g : Fin 8) (n : Fin 128) : b5 j.val s (ix4 b l g n) = s.main_v54_0 (ix5 j b l g n) := by
  have hj := j.isLt
  unfold b5 b4
  rw [WordCmp.dynamicSlice_eq_extract (s := S64x4x64x8x128) S1x4x64x8x128 _ _ _ ![j.val, 0, 0, 0, 0] ⟨rfl, fun a => by fin_cases a <;> (simp <;> omega)⟩ ?_]
  swap
  · exact fun a => by fin_cases a <;> first | exact word j | rfl
  pointwise
theorem b11_at (b : Fin 4) (l : Fin 64) (g : Fin 8) (n : Fin 128) : b11 j.val s (ix4 b l g n) = s.main_v54_1 (ix5 j b l g n) := by
  have hj := j.isLt
  unfold b11 b10
  rw [WordCmp.dynamicSlice_eq_extract (s := S64x4x64x8x128) S1x4x64x8x128 _ _ _ ![j.val, 0, 0, 0, 0] ⟨rfl, fun a => by fin_cases a <;> (simp <;> omega)⟩ ?_]
  swap
  · exact fun a => by fin_cases a <;> first | exact word j | rfl
  pointwise
theorem b18_at (b : Fin 4) (l : Fin 64) (g h : Fin 8) (p : Fin 64) : b18 j.val s (ix5 b l g h p) = s.main_v54_2 (ix6 j b l g h p) := by
  have hj := j.isLt
  unfold b18 b17
  rw [WordCmp.dynamicSlice_eq_extract (s := S64x4x64x8x8x64) S1x4x64x8x8x64 _ _ _ ![j.val, 0, 0, 0, 0, 0] ⟨rfl, fun a => by fin_cases a <;> (simp <;> omega)⟩ ?_]
  swap
  · exact fun a => by fin_cases a <;> first | exact word j | rfl
  pointwise
theorem b24_at (b : Fin 4) (l : Fin 64) (g h : Fin 8) : b24 j.val s (ix4 b l g h) = s.main_v54_3 (ix5 j b l g h) := by
  have hj := j.isLt
  unfold b24 b23
  rw [WordCmp.dynamicSlice_eq_extract (s := S64x4x64x8x8) S1x4x64x8x8 _ _ _ ![j.val, 0, 0, 0, 0] ⟨rfl, fun a => by fin_cases a <;> (simp <;> omega)⟩ ?_]
  swap
  · exact fun a => by fin_cases a <;> first | exact word j | rfl
  pointwise
theorem b30_at (b : Fin 4) (g h : Fin 8) (l : Fin 64) : b30 j.val s (ix4 b g h l) = s.main_v54_4 (ix5 j b g h l) := by
  have hj := j.isLt
  unfold b30 b29
  rw [WordCmp.dynamicSlice_eq_extract (s := S64x4x8x8x64) S1x4x8x8x64 _ _ _ ![j.val, 0, 0, 0, 0] ⟨rfl, fun a => by fin_cases a <;> (simp <;> omega)⟩ ?_]
  swap
  · exact fun a => by fin_cases a <;> first | exact word j | rfl
  pointwise

/-- The trip's inputs times their steps. -/
theorem b40_at (b : Fin 4) (l : Fin 64) (g h : Fin 8) (p : Fin 64) :
    b40 j.val s (ix5 b l g h p) = s.main_v54_2 (ix6 j b l g h p) * s.main_v54_3 (ix5 j b l g h) := by
  pointwise [b40, b39, b38]
  rw [b18_at, b24_at]

/-- The trip's mask: the positions up to the row's. -/
theorem b37_at (l t : Fin 64) : b37 j.val s (ix2 l t) = if t.val ≤ l.val then 1#1 else 0#1 := by
  have hl := l.isLt
  have ht := t.isLt
  pointwise [b37, b36, b35, b34, b33, b32, b31]
  rw [WordCmp.cmpi_sge_ofNat (by omega) (by omega)]
  by_cases h : t.val ≤ l.val <;> simp [h]

/-- The decay between two positions of the trip. -/
theorem b56_at (b : Fin 4) (g h : Fin 8) (l t : Fin 64) :
    b56 j.val s (ix5 b g h l t) = if t.val ≤ l.val then Ideal.exp (s.main_v54_4 (ix5 j b g h l) - s.main_v54_4 (ix5 j b g h t)) else 0 := by
  have hm := b37_at s j l t
  have e1 := b30_at s j b g h l
  have e2 := b30_at s j b g h t
  pointwise [b56, b55, b54, b53, b52, b51, b50, b49, b48, b47, b46, b45, b44, b43, b42, b41]
  rw [hm, e1, e2]
  by_cases hh : t.val ≤ l.val
  · simp [hh, Scalar.select]
  · simp [hh, Scalar.select]

/-- The trip's rows within the chunk. -/
theorem b62_at (b : Fin 4) (l : Fin 64) (g h : Fin 8) (p : Fin 64) :
    b62 j.val s (ix5 b l g h p) = ∑ t : Fin 64, (s.main_v54_2 (ix6 j b t g h p) * s.main_v54_3 (ix5 j b t g h))
      * ((∑ n : Fin 128, s.main_v54_0 (ix5 j b l g n) * s.main_v54_1 (ix5 j b t g n))
        * (if t.val ≤ l.val then Ideal.exp (s.main_v54_4 (ix5 j b g h l) - s.main_v54_4 (ix5 j b g h t)) else 0)) := by
  pointwise [b62, b61, b60, b59, b58, b57]
  simp only [b40_at, b56_at, b5_at, b11_at]

/-- The trip's rows from the state. -/
theorem b77_at (b : Fin 4) (l : Fin 64) (g h : Fin 8) (p : Fin 64) :
    b77 j.val s (ix5 b l g h p) = (∑ n : Fin 128, s.main_v54_7 (ix5 b g h p n) * s.main_v54_0 (ix5 j b l g n))
      * Ideal.exp (s.main_v54_4 (ix5 j b g h l)) := by
  pointwise [b77, b76, b75, b74, b73, b72, b71]
  simp only [b30_at, b5_at]

/-- The trip's result. -/
theorem b91_at (b : Fin 4) (l : Fin 64) (g h : Fin 8) (p : Fin 64) (d : Fin 64) (hd : d.val = g.val * 8 + h.val) :
    b91 j.val s (ix5 b l g h p) = b62 j.val s (ix5 b l g h p) + b77 j.val s (ix5 b l g h p)
      + s.main_v54_5 (ix1 d) * s.main_v54_2 (ix6 j b l g h p) := by
  have e := b18_at s j b l g h p
  pointwise [b91, b90, b89, b88, b87, b86]
  rw [e]
  congr 3
  exact congrArg ix1 (Fin.ext (by show g.val * 8 + h.val = d.val; omega))

/-- The state after the trip. -/
theorem b85_at (b : Fin 4) (g h : Fin 8) (p : Fin 64) (n : Fin 128) :
    b85 j.val s (ix5 b g h p n) = s.main_v54_7 (ix5 b g h p n) * Ideal.exp (s.main_v54_4 (ix5 j b g h 63))
      + ∑ t : Fin 64, (s.main_v54_2 (ix6 j b t g h p) * s.main_v54_3 (ix5 j b t g h)
          * Ideal.exp (s.main_v54_4 (ix5 j b g h 63) - s.main_v54_4 (ix5 j b g h t))) * s.main_v54_1 (ix5 j b t g n) := by
  pointwise [b85, b84, b83, b82, b81, b80, b79, b78, b70, b69, b68, b67, b66, b65, b64, b63]
  simp only [b30_at, b11_at, b40_at]

/-- The results after the trip: the trip's own, the others as they were. -/
theorem b98_at (k : Fin 64) (b : Fin 4) (l : Fin 64) (g h : Fin 8) (p : Fin 64) :
    b98 j.val s (ix6 k b l g h p) = if k = j then b91 j.val s (ix5 b l g h p) else s.main_v54_8 (ix6 k b l g h p) := by
  have hj := j.isLt
  unfold b98
  rw [WordCmp.dynamicUpdateSlice_eq_update (s := S64x4x64x8x8x64) (u := S1x4x64x8x8x64) _ _ _ _ ![j.val, 0, 0, 0, 0, 0] ⟨rfl, fun a => by fin_cases a <;> (simp <;> omega)⟩ ?_]
  swap
  · exact fun a => by fin_cases a <;> first | exact word j | rfl
  pointwise [b92]
  by_cases h : k = j
  · subst h; rw [if_pos rfl, dif_pos (by omega)]
  · rw [if_neg h, dif_neg]
    intro hh; exact h (Fin.ext (by omega))

end Cert.ReferenceIdeal.Val

end
-- ==== Proof.RefInit.lean ====
/- The arrays the reference's loop starts from, read at an index: the convolved inputs, the keys, the queries, the steps
   and the cumulative log-decays, chunk after chunk. -/
module

public import proofs.«01_k».proof.Proof.Gen.ReferenceIdeal.Step
public import proofs.«01_k».proof.Proof.Spec
public import Idealize.ShloMosaic.Lib.Pointwise

@[expose] public section

set_option maxRecDepth 16384

noncomputable section

namespace Cert.ReferenceIdeal.Val

open Idealize.ShloMosaic
open Cert.ReferenceIdeal Cert.ReferenceIdeal.Gen Cert.ReferenceIdeal.Step Cert.Ssd

variable (a0 : FVec Ideal S16384x26624 .f32) (a1 a2 : FVec Ideal S16384x128 .f32) (a3 : FVec Ideal S4x6144 .f32) (a4 : FVec Ideal S6144 .f32)

theorem sitofp_zero : FloatOps.sitofp (F := Ideal) FTy.f32 (0#32) = (0 : EReal) := by
  show (((0#32 : BitVec 32).toInt : ℝ) : EReal) = 0
  simp

/-- A tap's operand: the row `t + i - 3` of the sequence, nothing before it. -/
theorem v2_at (b : Fin 4) (r : Fin 4099) (q : Fin 6144) (t i : ℕ) (hr : r.val = t + i) (ht : t < 4096) (hi : i < 4) :
    A_main_v2 (F := Ideal) a0 a1 a2 a3 a4 (ix3 b r q) = tap (at2 a0) b.val t i q.val := by
  pointwise [A_main_v2, A_main_v1, A_main_v0, K_main_call0_v0, K_main_c]
  unfold tap
  by_cases h : t + i < 3
  · rw [if_pos h, dif_neg (by omega)]
    exact sitofp_zero
  · rw [if_neg h, dif_pos (by omega)]
    exact at2_of a0 _ _ _ (by show b.val * 4096 + (r.val - 3) = _; omega) rfl

theorem v34_at (b : Fin 4) (t : Fin 4096) (q : Fin 6144) :
    A_main_v34 (F := Ideal) a0 a1 a2 a3 a4 (ix3 b t q) = conv (at2 a0) (at2 a3) (at1 a4) b.val t.val q.val := by
  have e := fun (r : Fin 4099) (i : ℕ) hr hi => v2_at a0 a1 a2 a3 a4 b r q t.val i hr t.isLt hi
  pointwise [A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v8, A_main_v7, A_main_v6, A_main_v5, A_main_v4, A_main_v3, K_main_v9, K_main_cst]
  rw [e _ 0 rfl (by omega), e _ 1 (Nat.add_comm _ _) (by omega), e _ 2 (Nat.add_comm _ _) (by omega),
    e _ 3 (Nat.add_comm _ _) (by omega), at2_of a3 (ix2 0 q) 0 q.val rfl rfl, at2_of a3 (ix2 1 q) 1 q.val rfl rfl,
    at2_of a3 (ix2 2 q) 2 q.val rfl rfl, at2_of a3 (ix2 3 q) 3 q.val rfl rfl, at1_of a4 (ix1 q) q.val rfl]
  unfold conv
  simp only [mul_comm (at2 a3 _ _)]
  congr 1
  ac_rfl

theorem v35_at (b : Fin 4) (t : Fin 4096) (q : Fin 6144) :
    A_main_v35 (F := Ideal) a0 a1 a2 a3 a4 (ix3 b t q) = act (at2 a0) (at2 a3) (at1 a4) b.val t.val q.val := by
  have e := v34_at a0 a1 a2 a3 a4 b t q
  pointwise [A_main_v35, A_main_call1_v5, A_main_call1_v3, A_main_call1_v1, A_main_call1_v0, K_main_call1_v4, K_main_call1_v2, K_main_call1_cst, K_main_call1_cst_0]
  rw [e]
  rfl

theorem v50_at (k : Fin 64) (b : Fin 4) (l : Fin 64) (g h : Fin 8) (p : Fin 64) :
    A_main_v50 (F := Ideal) a0 a1 a2 a3 a4 (ix6 k b l g h p)
      = xv (at2 a0) (at2 a3) (at1 a4) b.val g.val (64 * k.val + l.val) (h.val * 64 + p.val) := by
  pointwise [A_main_v50, A_main_v39, A_main_v36]
  rw [v35_at]
  unfold xv
  congr 1 <;> (simp only; omega)
theorem v49_at (k : Fin 64) (b : Fin 4) (l : Fin 64) (g : Fin 8) (n : Fin 128) :
    A_main_v49 (F := Ideal) a0 a1 a2 a3 a4 (ix5 k b l g n) = bv (at2 a0) (at2 a3) (at1 a4) b.val g.val (64 * k.val + l.val) n.val := by
  pointwise [A_main_v49, A_main_v40, A_main_v37]
  rw [v35_at]
  unfold bv
  congr 1 <;> (simp only; omega)
theorem v48_at (k : Fin 64) (b : Fin 4) (l : Fin 64) (g : Fin 8) (n : Fin 128) :
    A_main_v48 (F := Ideal) a0 a1 a2 a3 a4 (ix5 k b l g n) = cv (at2 a0) (at2 a3) (at1 a4) b.val g.val (64 * k.val + l.val) n.val := by
  pointwise [A_main_v48, A_main_v41, A_main_v38]
  rw [v35_at]
  unfold cv
  congr 1 <;> (simp only; omega)
theorem v51_at (k : Fin 64) (b : Fin 4) (l : Fin 64) (g h : Fin 8) :
    A_main_v51 (F := Ideal) a0 a1 a2 a3 a4 (ix5 k b l g h) = at2 a1 (b.val * 4096 + (64 * k.val + l.val)) (g.val * 8 + h.val) := by
  pointwise [A_main_v51, A_main_v43, A_main_v42]
  exact at2_of a1 _ _ _ (by show b.val * 4096 + k.val * 64 + l.val = _; omega) rfl
theorem v52_at (k : Fin 64) (b : Fin 4) (g h : Fin 8) (l : Fin 64) :
    A_main_v52 (F := Ideal) a0 a1 a2 a3 a4 (ix5 k b g h l) = at2 a2 (b.val * 4096 + (64 * k.val + l.val)) (g.val * 8 + h.val) := by
  pointwise [A_main_v52, A_main_v46, A_main_v45, A_main_v44]
  exact at2_of a2 _ _ _ (by show b.val * 4096 + k.val * 64 + l.val = _; omega) rfl

end Cert.ReferenceIdeal.Val

end
-- ==== Proof.RefSteps.lean ====
/- One trip of the reference's loop as one application of `step`, value by value: at a valuation that holds a state
   (the carried buffers, the constants, the trip's number) every value of the trip is `Step`'s, and the run's result is
   `step` iterated from `init`. The text follows the generated module of the same content; `step_8` is proved here by the
   value's own lemma. -/
module

public import proofs.«01_k».proof.Proof.Gen.ReferenceIdeal.Run
public import proofs.«01_k».proof.Proof.Gen.ReferenceIdeal.Step

@[expose] public section

noncomputable section

namespace Cert.ReferenceIdeal.Trip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v54_7) = s.main_v54_7
  f_8 : V0 (Proc.devRef .tc main_v54_8) = s.main_v54_8
  f_0 : V0 (Proc.devRef .tc main_v54_0) = s.main_v54_0
  f_1 : V0 (Proc.devRef .tc main_v54_1) = s.main_v54_1
  f_2 : V0 (Proc.devRef .tc main_v54_2) = s.main_v54_2
  f_3 : V0 (Proc.devRef .tc main_v54_3) = s.main_v54_3
  f_4 : V0 (Proc.devRef .tc main_v54_4) = s.main_v54_4
  f_5 : V0 (Proc.devRef .tc main_v54_5) = s.main_v54_5
  n_6 : V0 (Proc.devRef .tc main_v54_6) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call2_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call2_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x4x64x8x128 (V0 (Proc.devRef .tc main_v54_0)) (fun k => (((![V0 (Proc.devRef .tc main_v54_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x64x8x128_S1x4x64x8x128 : (Proc.devRef .tc main_while0b_call2_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
theorem al_5 (h : Holds V0 s j) : (res_main_while0b_v78 V0 : (Proc.devRef .tc main_while0b_v78 : DevRef τ sig).ty.Contents (Elt F)) = Cert.ReferenceIdeal.Step.b5 j s := by
  unfold res_main_while0b_v78 Cert.ReferenceIdeal.Step.b5
  rw [← al_4 h]
  try rfl
set_option maxRecDepth 8192 in
theorem al_6 (h : Holds V0 s j) : (constantI S_ 32 0#32 : (Proc.devRef .tc main_while0b_call3_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call3_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call3_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call3_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x64x8x128 (V0 (Proc.devRef .tc main_v54_1)) (fun k => (((![V0 (Proc.devRef .tc main_v54_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x64x8x128_S1x4x64x8x128 : (Proc.devRef .tc main_while0b_call3_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
theorem al_11 (h : Holds V0 s j) : (res_main_while0b_v79 V0 : (Proc.devRef .tc main_while0b_v79 : DevRef τ sig).ty.Contents (Elt F)) = Cert.ReferenceIdeal.Step.b11 j s := by
  unfold res_main_while0b_v79 Cert.ReferenceIdeal.Step.b11
  rw [← al_10 h]
  try rfl
set_option maxRecDepth 8192 in
theorem al_12 (h : Holds V0 s j) : (constantI S_ 32 0#32 : (Proc.devRef .tc main_while0b_call4_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call4_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call4_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call4_c_2 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call4_c_3 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x4x64x8x8x64 (V0 (Proc.devRef .tc main_v54_2)) (fun k => (((![V0 (Proc.devRef .tc main_v54_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x4x64x8x8x64_S1x4x64x8x8x64 : (Proc.devRef .tc main_while0b_call4_v0 : DevRef τ sig).ty.Contents (Elt F)) = Cert.ReferenceIdeal.Step.b17 j s := by
  unfold Cert.ReferenceIdeal.Step.b17
  rw [← al_12 h, ← al_13 h, ← al_14 h, ← al_15 h, ← al_16 h, h.f_2, h.n_6]
  try rfl
set_option maxRecDepth 8192 in
theorem al_18 (h : Holds V0 s j) : (res_main_while0b_v80 V0 : (Proc.devRef .tc main_while0b_v80 : DevRef τ sig).ty.Contents (Elt F)) = Cert.ReferenceIdeal.Step.b18 j s := by
  unfold res_main_while0b_v80 Cert.ReferenceIdeal.Step.b18
  rw [← al_17 h]
  try rfl
set_option maxRecDepth 8192 in
theorem al_19 (h : Holds V0 s j) : (constantI S_ 32 0#32 : (Proc.devRef .tc main_while0b_call5_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call5_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call5_c_1 : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call5_c_2 : DevRef τ sig).ty.Contents (Elt F)) = Cert.ReferenceIdeal.Step.b22 j s := by
  unfold Cert.ReferenceIdeal.Step.b22
  rfl
set_option maxRecDepth 8192 in
theorem al_23 (h : Holds V0 s j) : (Host.dynamicSlice S1x4x64x8x8 (V0 (Proc.devRef .tc main_v54_3)) (fun k => (((![V0 (Proc.devRef .tc main_v54_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x64x8x8_S1x4x64x8x8 : (Proc.devRef .tc main_while0b_call5_v0 : DevRef τ sig).ty.Contents (Elt F)) = Cert.ReferenceIdeal.Step.b23 j s := by
  unfold Cert.ReferenceIdeal.Step.b23
  rw [← al_19 h, ← al_20 h, ← al_21 h, ← al_22 h, h.f_3, h.n_6]
  try rfl
set_option maxRecDepth 8192 in
theorem al_24 (h : Holds V0 s j) : (shapeCast S4x64x8x8 (Host.dynamicSlice S1x4x64x8x8 (V0 (Proc.devRef .tc main_v54_3)) (fun k => (((![V0 (Proc.devRef .tc main_v54_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x64x8x8_S1x4x64x8x8) shapeCasts_S1x4x64x8x8_S4x64x8x8 : (Proc.devRef .tc main_while0b_v81 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (constantI S_ 32 0#32 : (Proc.devRef .tc main_while0b_call6_c : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call6_c_0 : DevRef τ sig).ty.Contents (Elt F)) = Cert.ReferenceIdeal.Step.b26 j s := by
  unfold Cert.ReferenceIdeal.Step.b26
  rfl
set_option maxRecDepth 8192 in
theorem al_27 (h : Holds V0 s j) : (constantI S_ 32 0#32 : (Proc.devRef .tc main_while0b_call6_c_1 : DevRef τ sig).ty.Contents (Elt F)) = Cert.ReferenceIdeal.Step.b27 j s := by
  unfold Cert.ReferenceIdeal.Step.b27
  rfl
set_option maxRecDepth 8192 in
theorem al_28 (h : Holds V0 s j) : (constantI S_ 32 0#32 : (Proc.devRef .tc main_while0b_call6_c_2 : DevRef τ sig).ty.Contents (Elt F)) = Cert.ReferenceIdeal.Step.b28 j s := by
  unfold Cert.ReferenceIdeal.Step.b28
  rfl
set_option maxRecDepth 8192 in
theorem al_29 (h : Holds V0 s j) : (Host.dynamicSlice S1x4x8x8x64 (V0 (Proc.devRef .tc main_v54_4)) (fun k => (((![V0 (Proc.devRef .tc main_v54_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x8x64_S1x4x8x8x64 : (Proc.devRef .tc main_while0b_call6_v0 : DevRef τ sig).ty.Contents (Elt F)) = Cert.ReferenceIdeal.Step.b29 j s := by
  unfold Cert.ReferenceIdeal.Step.b29
  rw [← al_25 h, ← al_26 h, ← al_27 h, ← al_28 h, h.f_4, h.n_6]
  try rfl
set_option maxRecDepth 8192 in
theorem al_30 (h : Holds V0 s j) : (res_main_while0b_v82 V0 : (Proc.devRef .tc main_while0b_v82 : DevRef τ sig).ty.Contents (Elt F)) = Cert.ReferenceIdeal.Step.b30 j s := by
  unfold res_main_while0b_v82 Cert.ReferenceIdeal.Step.b30
  rw [← al_29 h]
  try rfl
set_option maxRecDepth 8192 in
theorem al_31 (h : Holds V0 s j) : (iotaInDim S64 32 0 : (Proc.devRef .tc main_while0b_v83 : DevRef τ sig).ty.Contents (Elt F)) = Cert.ReferenceIdeal.Step.b31 j s := by
  unfold Cert.ReferenceIdeal.Step.b31
  rfl
set_option maxRecDepth 8192 in
theorem al_32 (h : Holds V0 s j) : (broadcastInDim S64x1 ![0] bcast_S64_S64x1_0 (iotaInDim S64 32 0) : (Proc.devRef .tc main_while0b_v84 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (iotaInDim S64 32 0 : (Proc.devRef .tc main_while0b_v85 : DevRef τ sig).ty.Contents (Elt F)) = Cert.ReferenceIdeal.Step.b33 j s := by
  unfold Cert.ReferenceIdeal.Step.b33
  rfl
set_option maxRecDepth 8192 in
theorem al_34 (h : Holds V0 s j) : (broadcastInDim S1x64 ![1] bcast_S64_S1x64_1 (iotaInDim S64 32 0) : (Proc.devRef .tc main_while0b_v86 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (broadcastInDim S64x64 ![0, 1] bcast_S64x1_S64x64_0_1 (broadcastInDim S64x1 ![0] bcast_S64_S64x1_0 (iotaInDim S64 32 0)) : (Proc.devRef .tc main_while0b_v87 : DevRef τ sig).ty.Contents (Elt F)) = Cert.ReferenceIdeal.Step.b35 j s := by
  unfold Cert.ReferenceIdeal.Step.b35
  rw [← al_32 h]
  try rfl
set_option maxRecDepth 8192 in
theorem al_36 (h : Holds V0 s j) : (broadcastInDim S64x64 ![0, 1] bcast_S1x64_S64x64_0_1 (broadcastInDim S1x64 ![1] bcast_S64_S1x64_1 (iotaInDim S64 32 0)) : (Proc.devRef .tc main_while0b_v88 : DevRef τ sig).ty.Contents (Elt F)) = Cert.ReferenceIdeal.Step.b36 j s := by
  unfold Cert.ReferenceIdeal.Step.b36
  rw [← al_34 h]
  try rfl
set_option maxRecDepth 8192 in
theorem al_37 (h : Holds V0 s j) : (res_main_while0b_v89 V0 : (Proc.devRef .tc main_while0b_v89 : DevRef τ sig).ty.Contents (Elt F)) = Cert.ReferenceIdeal.Step.b37 j s := by
  unfold res_main_while0b_v89 Cert.ReferenceIdeal.Step.b37
  rw [← al_35 h, ← al_36 h]
  try rfl
set_option maxRecDepth 8192 in
theorem al_38 (h : Holds V0 s j) : (broadcastInDim S4x64x8x8x1 ![0, 1, 2, 3] bcast_S4x64x8x8_S4x64x8x8x1_0_1_2_3 (shapeCast S4x64x8x8 (Host.dynamicSlice S1x4x64x8x8 (V0 (Proc.devRef .tc main_v54_3)) (fun k => (((![V0 (Proc.devRef .tc main_v54_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x64x8x8_S1x4x64x8x8) shapeCasts_S1x4x64x8x8_S4x64x8x8) : (Proc.devRef .tc main_while0b_v90 : DevRef τ sig).ty.Contents (Elt F)) = Cert.ReferenceIdeal.Step.b38 j s := by
  unfold Cert.ReferenceIdeal.Step.b38
  rw [← al_24 h]
  try rfl
set_option maxRecDepth 8192 in
theorem al_39 (h : Holds V0 s j) : (broadcastInDim S4x64x8x8x64 ![0, 1, 2, 3, 4] bcast_S4x64x8x8x1_S4x64x8x8x64_0_1_2_3_4 (broadcastInDim S4x64x8x8x1 ![0, 1, 2, 3] bcast_S4x64x8x8_S4x64x8x8x1_0_1_2_3 (shapeCast S4x64x8x8 (Host.dynamicSlice S1x4x64x8x8 (V0 (Proc.devRef .tc main_v54_3)) (fun k => (((![V0 (Proc.devRef .tc main_v54_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x64x8x8_S1x4x64x8x8) shapeCasts_S1x4x64x8x8_S4x64x8x8)) : (Proc.devRef .tc main_while0b_v91 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (res_main_while0b_v92 V0 : (Proc.devRef .tc main_while0b_v92 : DevRef τ sig).ty.Contents (Elt F)) = Cert.ReferenceIdeal.Step.b40 j s := by
  unfold res_main_while0b_v92 Cert.ReferenceIdeal.Step.b40
  rw [← al_18 h, ← al_39 h]
  try rfl
set_option maxRecDepth 8192 in
theorem al_41 (h : Holds V0 s j) : (broadcastInDim S4x8x8x64x1 ![0, 1, 2, 3] bcast_S4x8x8x64_S4x8x8x64x1_0_1_2_3 (res_main_while0b_v82 V0) : (Proc.devRef .tc main_while0b_v93 : DevRef τ sig).ty.Contents (Elt F)) = Cert.ReferenceIdeal.Step.b41 j s := by
  unfold Cert.ReferenceIdeal.Step.b41
  rw [← al_30 h]
  try rfl
set_option maxRecDepth 8192 in
theorem al_42 (h : Holds V0 s j) : (broadcastInDim S4x8x8x1x64 ![0, 1, 2, 4] bcast_S4x8x8x64_S4x8x8x1x64_0_1_2_4 (res_main_while0b_v82 V0) : (Proc.devRef .tc main_while0b_v94 : DevRef τ sig).ty.Contents (Elt F)) = Cert.ReferenceIdeal.Step.b42 j s := by
  unfold Cert.ReferenceIdeal.Step.b42
  rw [← al_30 h]
  try rfl
set_option maxRecDepth 8192 in
theorem al_43 (h : Holds V0 s j) : (broadcastInDim S4x8x8x64x64 ![0, 1, 2, 3, 4] bcast_S4x8x8x64x1_S4x8x8x64x64_0_1_2_3_4 (broadcastInDim S4x8x8x64x1 ![0, 1, 2, 3] bcast_S4x8x8x64_S4x8x8x64x1_0_1_2_3 (res_main_while0b_v82 V0)) : (Proc.devRef .tc main_while0b_v95 : DevRef τ sig).ty.Contents (Elt F)) = Cert.ReferenceIdeal.Step.b43 j s := by
  unfold Cert.ReferenceIdeal.Step.b43
  rw [← al_41 h]
  try rfl
set_option maxRecDepth 8192 in
theorem al_44 (h : Holds V0 s j) : (broadcastInDim S4x8x8x64x64 ![0, 1, 2, 3, 4] bcast_S4x8x8x1x64_S4x8x8x64x64_0_1_2_3_4 (broadcastInDim S4x8x8x1x64 ![0, 1, 2, 4] bcast_S4x8x8x64_S4x8x8x1x64_0_1_2_4 (res_main_while0b_v82 V0)) : (Proc.devRef .tc main_while0b_v96 : DevRef τ sig).ty.Contents (Elt F)) = Cert.ReferenceIdeal.Step.b44 j s := by
  unfold Cert.ReferenceIdeal.Step.b44
  rw [← al_42 h]
  try rfl
set_option maxRecDepth 8192 in
theorem al_45 (h : Holds V0 s j) : (subf (broadcastInDim S4x8x8x64x64 ![0, 1, 2, 3, 4] bcast_S4x8x8x64x1_S4x8x8x64x64_0_1_2_3_4 (broadcastInDim S4x8x8x64x1 ![0, 1, 2, 3] bcast_S4x8x8x64_S4x8x8x64x1_0_1_2_3 (res_main_while0b_v82 V0))) (broadcastInDim S4x8x8x64x64 ![0, 1, 2, 3, 4] bcast_S4x8x8x1x64_S4x8x8x64x64_0_1_2_3_4 (broadcastInDim S4x8x8x1x64 ![0, 1, 2, 4] bcast_S4x8x8x64_S4x8x8x1x64_0_1_2_4 (res_main_while0b_v82 V0))) : (Proc.devRef .tc main_while0b_v97 : DevRef τ sig).ty.Contents (Elt F)) = Cert.ReferenceIdeal.Step.b45 j s := by
  unfold Cert.ReferenceIdeal.Step.b45
  rw [← al_43 h, ← al_44 h]
  try rfl
set_option maxRecDepth 8192 in
theorem al_46 (h : Holds V0 s j) : (constant S_ .f32 0x00000000#32 : (Proc.devRef .tc main_while0b_cst_14 : DevRef τ sig).ty.Contents (Elt F)) = Cert.ReferenceIdeal.Step.b46 j s := by
  unfold Cert.ReferenceIdeal.Step.b46
  rfl
set_option maxRecDepth 8192 in
theorem al_47 (h : Holds V0 s j) : (id (constant S_ .f32 0x00000000#32) : (Proc.devRef .tc main_while0b_call7_v0 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (broadcastInDim S4x8x8x64x64 ![3, 4] bcast_S64x64_S4x8x8x64x64_3_4 (res_main_while0b_v89 V0) : (Proc.devRef .tc main_while0b_call7_v1 : DevRef τ sig).ty.Contents (Elt F)) = Cert.ReferenceIdeal.Step.b48 j s := by
  unfold Cert.ReferenceIdeal.Step.b48
  rw [← al_37 h]
  try rfl
set_option maxRecDepth 8192 in
theorem al_49 (h : Holds V0 s j) : (broadcastInDim S4x8x8x64x64 ![] bcast_S_S4x8x8x64x64 (id (constant S_ .f32 0x00000000#32)) : (Proc.devRef .tc main_while0b_call7_v2 : DevRef τ sig).ty.Contents (Elt F)) = Cert.ReferenceIdeal.Step.b49 j s := by
  unfold Cert.ReferenceIdeal.Step.b49
  rw [← al_47 h]
  try rfl
set_option maxRecDepth 8192 in
theorem al_50 (h : Holds V0 s j) : (select (broadcastInDim S4x8x8x64x64 ![3, 4] bcast_S64x64_S4x8x8x64x64_3_4 (res_main_while0b_v89 V0)) (subf (broadcastInDim S4x8x8x64x64 ![0, 1, 2, 3, 4] bcast_S4x8x8x64x1_S4x8x8x64x64_0_1_2_3_4 (broadcastInDim S4x8x8x64x1 ![0, 1, 2, 3] bcast_S4x8x8x64_S4x8x8x64x1_0_1_2_3 (res_main_while0b_v82 V0))) (broadcastInDim S4x8x8x64x64 ![0, 1, 2, 3, 4] bcast_S4x8x8x1x64_S4x8x8x64x64_0_1_2_3_4 (broadcastInDim S4x8x8x1x64 ![0, 1, 2, 4] bcast_S4x8x8x64_S4x8x8x1x64_0_1_2_4 (res_main_while0b_v82 V0)))) (broadcastInDim S4x8x8x64x64 ![] bcast_S_S4x8x8x64x64 (id (constant S_ .f32 0x00000000#32))) : (Proc.devRef .tc main_while0b_v98 : DevRef τ sig).ty.Contents (Elt F)) = Cert.ReferenceIdeal.Step.b50 j s := by
  unfold Cert.ReferenceIdeal.Step.b50
  rw [← al_48 h, ← al_45 h, ← al_49 h]
  try rfl
set_option maxRecDepth 8192 in
theorem al_51 (h : Holds V0 s j) : (Host.exp (select (broadcastInDim S4x8x8x64x64 ![3, 4] bcast_S64x64_S4x8x8x64x64_3_4 (res_main_while0b_v89 V0)) (subf (broadcastInDim S4x8x8x64x64 ![0, 1, 2, 3, 4] bcast_S4x8x8x64x1_S4x8x8x64x64_0_1_2_3_4 (broadcastInDim S4x8x8x64x1 ![0, 1, 2, 3] bcast_S4x8x8x64_S4x8x8x64x1_0_1_2_3 (res_main_while0b_v82 V0))) (broadcastInDim S4x8x8x64x64 ![0, 1, 2, 3, 4] bcast_S4x8x8x1x64_S4x8x8x64x64_0_1_2_3_4 (broadcastInDim S4x8x8x1x64 ![0, 1, 2, 4] bcast_S4x8x8x64_S4x8x8x1x64_0_1_2_4 (res_main_while0b_v82 V0)))) (broadcastInDim S4x8x8x64x64 ![] bcast_S_S4x8x8x64x64 (id (constant S_ .f32 0x00000000#32)))) : (Proc.devRef .tc main_while0b_v99 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (constant S_ .f32 0x00000000#32 : (Proc.devRef .tc main_while0b_cst_15 : DevRef τ sig).ty.Contents (Elt F)) = Cert.ReferenceIdeal.Step.b52 j s := by
  unfold Cert.ReferenceIdeal.Step.b52
  rfl
set_option maxRecDepth 8192 in
theorem al_53 (h : Holds V0 s j) : (id (constant S_ .f32 0x00000000#32) : (Proc.devRef .tc main_while0b_call8_v0 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (broadcastInDim S4x8x8x64x64 ![3, 4] bcast_S64x64_S4x8x8x64x64_3_4 (res_main_while0b_v89 V0) : (Proc.devRef .tc main_while0b_call8_v1 : DevRef τ sig).ty.Contents (Elt F)) = Cert.ReferenceIdeal.Step.b54 j s := by
  unfold Cert.ReferenceIdeal.Step.b54
  rw [← al_37 h]
  try rfl
set_option maxRecDepth 8192 in
theorem al_55 (h : Holds V0 s j) : (broadcastInDim S4x8x8x64x64 ![] bcast_S_S4x8x8x64x64 (id (constant S_ .f32 0x00000000#32)) : (Proc.devRef .tc main_while0b_call8_v2 : DevRef τ sig).ty.Contents (Elt F)) = Cert.ReferenceIdeal.Step.b55 j s := by
  unfold Cert.ReferenceIdeal.Step.b55
  rw [← al_53 h]
  try rfl
set_option maxRecDepth 8192 in
theorem al_56 (h : Holds V0 s j) : (select (broadcastInDim S4x8x8x64x64 ![3, 4] bcast_S64x64_S4x8x8x64x64_3_4 (res_main_while0b_v89 V0)) (Host.exp (select (broadcastInDim S4x8x8x64x64 ![3, 4] bcast_S64x64_S4x8x8x64x64_3_4 (res_main_while0b_v89 V0)) (subf (broadcastInDim S4x8x8x64x64 ![0, 1, 2, 3, 4] bcast_S4x8x8x64x1_S4x8x8x64x64_0_1_2_3_4 (broadcastInDim S4x8x8x64x1 ![0, 1, 2, 3] bcast_S4x8x8x64_S4x8x8x64x1_0_1_2_3 (res_main_while0b_v82 V0))) (broadcastInDim S4x8x8x64x64 ![0, 1, 2, 3, 4] bcast_S4x8x8x1x64_S4x8x8x64x64_0_1_2_3_4 (broadcastInDim S4x8x8x1x64 ![0, 1, 2, 4] bcast_S4x8x8x64_S4x8x8x1x64_0_1_2_4 (res_main_while0b_v82 V0)))) (broadcastInDim S4x8x8x64x64 ![] bcast_S_S4x8x8x64x64 (id (constant S_ .f32 0x00000000#32))))) (broadcastInDim S4x8x8x64x64 ![] bcast_S_S4x8x8x64x64 (id (constant S_ .f32 0x00000000#32))) : (Proc.devRef .tc main_while0b_v100 : DevRef τ sig).ty.Contents (Elt F)) = Cert.ReferenceIdeal.Step.b56 j s := by
  unfold Cert.ReferenceIdeal.Step.b56
  rw [← al_54 h, ← al_51 h, ← al_55 h]
  try rfl
set_option maxRecDepth 8192 in
theorem al_57 (h : Holds V0 s j) : (Host.dotGeneral dot_S4x64x8x128_S4x64x8x128_S4x8x64x64_3_3_1_1_02_02 none (res_main_while0b_v78 V0) (res_main_while0b_v79 V0) : (Proc.devRef .tc main_while0b_v101 : DevRef τ sig).ty.Contents (Elt F)) = Cert.ReferenceIdeal.Step.b57 j s := by
  unfold Cert.ReferenceIdeal.Step.b57
  rw [← al_5 h, ← al_11 h]
  try rfl
set_option maxRecDepth 8192 in
theorem al_58 (h : Holds V0 s j) : (broadcastInDim S4x8x1x64x64 ![0, 1, 3, 4] bcast_S4x8x64x64_S4x8x1x64x64_0_1_3_4 (Host.dotGeneral dot_S4x64x8x128_S4x64x8x128_S4x8x64x64_3_3_1_1_02_02 none (res_main_while0b_v78 V0) (res_main_while0b_v79 V0)) : (Proc.devRef .tc main_while0b_v102 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (broadcastInDim S4x8x8x64x64 ![0, 1, 2, 3, 4] bcast_S4x8x1x64x64_S4x8x8x64x64_0_1_2_3_4 (broadcastInDim S4x8x1x64x64 ![0, 1, 3, 4] bcast_S4x8x64x64_S4x8x1x64x64_0_1_3_4 (Host.dotGeneral dot_S4x64x8x128_S4x64x8x128_S4x8x64x64_3_3_1_1_02_02 none (res_main_while0b_v78 V0) (res_main_while0b_v79 V0))) : (Proc.devRef .tc main_while0b_v103 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (mulf (broadcastInDim S4x8x8x64x64 ![0, 1, 2, 3, 4] bcast_S4x8x1x64x64_S4x8x8x64x64_0_1_2_3_4 (broadcastInDim S4x8x1x64x64 ![0, 1, 3, 4] bcast_S4x8x64x64_S4x8x1x64x64_0_1_3_4 (Host.dotGeneral dot_S4x64x8x128_S4x64x8x128_S4x8x64x64_3_3_1_1_02_02 none (res_main_while0b_v78 V0) (res_main_while0b_v79 V0)))) (select (broadcastInDim S4x8x8x64x64 ![3, 4] bcast_S64x64_S4x8x8x64x64_3_4 (res_main_while0b_v89 V0)) (Host.exp (select (broadcastInDim S4x8x8x64x64 ![3, 4] bcast_S64x64_S4x8x8x64x64_3_4 (res_main_while0b_v89 V0)) (subf (broadcastInDim S4x8x8x64x64 ![0, 1, 2, 3, 4] bcast_S4x8x8x64x1_S4x8x8x64x64_0_1_2_3_4 (broadcastInDim S4x8x8x64x1 ![0, 1, 2, 3] bcast_S4x8x8x64_S4x8x8x64x1_0_1_2_3 (res_main_while0b_v82 V0))) (broadcastInDim S4x8x8x64x64 ![0, 1, 2, 3, 4] bcast_S4x8x8x1x64_S4x8x8x64x64_0_1_2_3_4 (broadcastInDim S4x8x8x1x64 ![0, 1, 2, 4] bcast_S4x8x8x64_S4x8x8x1x64_0_1_2_4 (res_main_while0b_v82 V0)))) (broadcastInDim S4x8x8x64x64 ![] bcast_S_S4x8x8x64x64 (id (constant S_ .f32 0x00000000#32))))) (broadcastInDim S4x8x8x64x64 ![] bcast_S_S4x8x8x64x64 (id (constant S_ .f32 0x00000000#32)))) : (Proc.devRef .tc main_while0b_v104 : DevRef τ sig).ty.Contents (Elt F)) = Cert.ReferenceIdeal.Step.b60 j s := by
  unfold Cert.ReferenceIdeal.Step.b60
  rw [← al_59 h, ← al_56 h]
  try rfl
set_option maxRecDepth 8192 in
theorem al_61 (h : Holds V0 s j) : (Host.dotGeneral dot_S4x64x8x8x64_S4x8x8x64x64_S4x8x8x64x64_1_4_4_3_023_012 none (res_main_while0b_v92 V0) (mulf (broadcastInDim S4x8x8x64x64 ![0, 1, 2, 3, 4] bcast_S4x8x1x64x64_S4x8x8x64x64_0_1_2_3_4 (broadcastInDim S4x8x1x64x64 ![0, 1, 3, 4] bcast_S4x8x64x64_S4x8x1x64x64_0_1_3_4 (Host.dotGeneral dot_S4x64x8x128_S4x64x8x128_S4x8x64x64_3_3_1_1_02_02 none (res_main_while0b_v78 V0) (res_main_while0b_v79 V0)))) (select (broadcastInDim S4x8x8x64x64 ![3, 4] bcast_S64x64_S4x8x8x64x64_3_4 (res_main_while0b_v89 V0)) (Host.exp (select (broadcastInDim S4x8x8x64x64 ![3, 4] bcast_S64x64_S4x8x8x64x64_3_4 (res_main_while0b_v89 V0)) (subf (broadcastInDim S4x8x8x64x64 ![0, 1, 2, 3, 4] bcast_S4x8x8x64x1_S4x8x8x64x64_0_1_2_3_4 (broadcastInDim S4x8x8x64x1 ![0, 1, 2, 3] bcast_S4x8x8x64_S4x8x8x64x1_0_1_2_3 (res_main_while0b_v82 V0))) (broadcastInDim S4x8x8x64x64 ![0, 1, 2, 3, 4] bcast_S4x8x8x1x64_S4x8x8x64x64_0_1_2_3_4 (broadcastInDim S4x8x8x1x64 ![0, 1, 2, 4] bcast_S4x8x8x64_S4x8x8x1x64_0_1_2_4 (res_main_while0b_v82 V0)))) (broadcastInDim S4x8x8x64x64 ![] bcast_S_S4x8x8x64x64 (id (constant S_ .f32 0x00000000#32))))) (broadcastInDim S4x8x8x64x64 ![] bcast_S_S4x8x8x64x64 (id (constant S_ .f32 0x00000000#32))))) : (Proc.devRef .tc main_while0b_v105 : DevRef τ sig).ty.Contents (Elt F)) = Cert.ReferenceIdeal.Step.b61 j s := by
  unfold Cert.ReferenceIdeal.Step.b61
  rw [← al_40 h, ← al_60 h]
  try rfl
set_option maxRecDepth 8192 in
theorem al_62 (h : Holds V0 s j) : (transpose S4x64x8x8x64 [0, 4, 1, 2, 3] (Host.dotGeneral dot_S4x64x8x8x64_S4x8x8x64x64_S4x8x8x64x64_1_4_4_3_023_012 none (res_main_while0b_v92 V0) (mulf (broadcastInDim S4x8x8x64x64 ![0, 1, 2, 3, 4] bcast_S4x8x1x64x64_S4x8x8x64x64_0_1_2_3_4 (broadcastInDim S4x8x1x64x64 ![0, 1, 3, 4] bcast_S4x8x64x64_S4x8x1x64x64_0_1_3_4 (Host.dotGeneral dot_S4x64x8x128_S4x64x8x128_S4x8x64x64_3_3_1_1_02_02 none (res_main_while0b_v78 V0) (res_main_while0b_v79 V0)))) (select (broadcastInDim S4x8x8x64x64 ![3, 4] bcast_S64x64_S4x8x8x64x64_3_4 (res_main_while0b_v89 V0)) (Host.exp (select (broadcastInDim S4x8x8x64x64 ![3, 4] bcast_S64x64_S4x8x8x64x64_3_4 (res_main_while0b_v89 V0)) (subf (broadcastInDim S4x8x8x64x64 ![0, 1, 2, 3, 4] bcast_S4x8x8x64x1_S4x8x8x64x64_0_1_2_3_4 (broadcastInDim S4x8x8x64x1 ![0, 1, 2, 3] bcast_S4x8x8x64_S4x8x8x64x1_0_1_2_3 (res_main_while0b_v82 V0))) (broadcastInDim S4x8x8x64x64 ![0, 1, 2, 3, 4] bcast_S4x8x8x1x64_S4x8x8x64x64_0_1_2_3_4 (broadcastInDim S4x8x8x1x64 ![0, 1, 2, 4] bcast_S4x8x8x64_S4x8x8x1x64_0_1_2_4 (res_main_while0b_v82 V0)))) (broadcastInDim S4x8x8x64x64 ![] bcast_S_S4x8x8x64x64 (id (constant S_ .f32 0x00000000#32))))) (broadcastInDim S4x8x8x64x64 ![] bcast_S_S4x8x8x64x64 (id (constant S_ .f32 0x00000000#32)))))) transposes_S4x8x8x64x64_S4x64x8x8x64_0_4_1_2_3 : (Proc.devRef .tc main_while0b_v106 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (extractStridedSlice S4x8x8x1 ![0, 0, 0, 63] (res_main_while0b_v82 V0) slices_S4x8x8x64_S4x8x8x1_0_0_0_63 : (Proc.devRef .tc main_while0b_v107 : DevRef τ sig).ty.Contents (Elt F)) = Cert.ReferenceIdeal.Step.b63 j s := by
  unfold Cert.ReferenceIdeal.Step.b63
  rw [← al_30 h]
  try rfl
set_option maxRecDepth 8192 in
theorem al_64 (h : Holds V0 s j) : (broadcastInDim S4x8x8x64 ![0, 1, 2, 3] bcast_S4x8x8x1_S4x8x8x64_0_1_2_3 (extractStridedSlice S4x8x8x1 ![0, 0, 0, 63] (res_main_while0b_v82 V0) slices_S4x8x8x64_S4x8x8x1_0_0_0_63) : (Proc.devRef .tc main_while0b_v108 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (subf (broadcastInDim S4x8x8x64 ![0, 1, 2, 3] bcast_S4x8x8x1_S4x8x8x64_0_1_2_3 (extractStridedSlice S4x8x8x1 ![0, 0, 0, 63] (res_main_while0b_v82 V0) slices_S4x8x8x64_S4x8x8x1_0_0_0_63)) (res_main_while0b_v82 V0) : (Proc.devRef .tc main_while0b_v109 : DevRef τ sig).ty.Contents (Elt F)) = Cert.ReferenceIdeal.Step.b65 j s := by
  unfold Cert.ReferenceIdeal.Step.b65
  rw [← al_64 h, ← al_30 h]
  try rfl
set_option maxRecDepth 8192 in
theorem al_66 (h : Holds V0 s j) : (Host.exp (subf (broadcastInDim S4x8x8x64 ![0, 1, 2, 3] bcast_S4x8x8x1_S4x8x8x64_0_1_2_3 (extractStridedSlice S4x8x8x1 ![0, 0, 0, 63] (res_main_while0b_v82 V0) slices_S4x8x8x64_S4x8x8x1_0_0_0_63)) (res_main_while0b_v82 V0)) : (Proc.devRef .tc main_while0b_v110 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (transpose S4x64x8x8 [0, 3, 1, 2] (Host.exp (subf (broadcastInDim S4x8x8x64 ![0, 1, 2, 3] bcast_S4x8x8x1_S4x8x8x64_0_1_2_3 (extractStridedSlice S4x8x8x1 ![0, 0, 0, 63] (res_main_while0b_v82 V0) slices_S4x8x8x64_S4x8x8x1_0_0_0_63)) (res_main_while0b_v82 V0))) transposes_S4x8x8x64_S4x64x8x8_0_3_1_2 : (Proc.devRef .tc main_while0b_v111 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (broadcastInDim S4x64x8x8x1 ![0, 1, 2, 3] bcast_S4x64x8x8_S4x64x8x8x1_0_1_2_3 (transpose S4x64x8x8 [0, 3, 1, 2] (Host.exp (subf (broadcastInDim S4x8x8x64 ![0, 1, 2, 3] bcast_S4x8x8x1_S4x8x8x64_0_1_2_3 (extractStridedSlice S4x8x8x1 ![0, 0, 0, 63] (res_main_while0b_v82 V0) slices_S4x8x8x64_S4x8x8x1_0_0_0_63)) (res_main_while0b_v82 V0))) transposes_S4x8x8x64_S4x64x8x8_0_3_1_2) : (Proc.devRef .tc main_while0b_v112 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (broadcastInDim S4x64x8x8x64 ![0, 1, 2, 3, 4] bcast_S4x64x8x8x1_S4x64x8x8x64_0_1_2_3_4 (broadcastInDim S4x64x8x8x1 ![0, 1, 2, 3] bcast_S4x64x8x8_S4x64x8x8x1_0_1_2_3 (transpose S4x64x8x8 [0, 3, 1, 2] (Host.exp (subf (broadcastInDim S4x8x8x64 ![0, 1, 2, 3] bcast_S4x8x8x1_S4x8x8x64_0_1_2_3 (extractStridedSlice S4x8x8x1 ![0, 0, 0, 63] (res_main_while0b_v82 V0) slices_S4x8x8x64_S4x8x8x1_0_0_0_63)) (res_main_while0b_v82 V0))) transposes_S4x8x8x64_S4x64x8x8_0_3_1_2)) : (Proc.devRef .tc main_while0b_v113 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (mulf (res_main_while0b_v92 V0) (broadcastInDim S4x64x8x8x64 ![0, 1, 2, 3, 4] bcast_S4x64x8x8x1_S4x64x8x8x64_0_1_2_3_4 (broadcastInDim S4x64x8x8x1 ![0, 1, 2, 3] bcast_S4x64x8x8_S4x64x8x8x1_0_1_2_3 (transpose S4x64x8x8 [0, 3, 1, 2] (Host.exp (subf (broadcastInDim S4x8x8x64 ![0, 1, 2, 3] bcast_S4x8x8x1_S4x8x8x64_0_1_2_3 (extractStridedSlice S4x8x8x1 ![0, 0, 0, 63] (res_main_while0b_v82 V0) slices_S4x8x8x64_S4x8x8x1_0_0_0_63)) (res_main_while0b_v82 V0))) transposes_S4x8x8x64_S4x64x8x8_0_3_1_2))) : (Proc.devRef .tc main_while0b_v114 : DevRef τ sig).ty.Contents (Elt F)) = Cert.ReferenceIdeal.Step.b70 j s := by
  unfold Cert.ReferenceIdeal.Step.b70
  rw [← al_40 h, ← al_69 h]
  try rfl
set_option maxRecDepth 8192 in
theorem al_71 (h : Holds V0 s j) : (Host.dotGeneral dot_S4x8x8x64x128_S4x64x8x128_S4x8x8x64x64_4_3_23_1_01_02 none (V0 (Proc.devRef .tc main_v54_7)) (res_main_while0b_v78 V0) : (Proc.devRef .tc main_while0b_v115 : DevRef τ sig).ty.Contents (Elt F)) = Cert.ReferenceIdeal.Step.b71 j s := by
  unfold Cert.ReferenceIdeal.Step.b71
  rw [← al_5 h, h.f_7]
  try rfl
set_option maxRecDepth 8192 in
theorem al_72 (h : Holds V0 s j) : (transpose S4x64x8x8x64 [0, 4, 1, 2, 3] (Host.dotGeneral dot_S4x8x8x64x128_S4x64x8x128_S4x8x8x64x64_4_3_23_1_01_02 none (V0 (Proc.devRef .tc main_v54_7)) (res_main_while0b_v78 V0)) transposes_S4x8x8x64x64_S4x64x8x8x64_0_4_1_2_3 : (Proc.devRef .tc main_while0b_v116 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (Host.exp (res_main_while0b_v82 V0) : (Proc.devRef .tc main_while0b_v117 : DevRef τ sig).ty.Contents (Elt F)) = Cert.ReferenceIdeal.Step.b73 j s := by
  unfold Cert.ReferenceIdeal.Step.b73
  rw [← al_30 h]
  try rfl
set_option maxRecDepth 8192 in
theorem al_74 (h : Holds V0 s j) : (transpose S4x64x8x8 [0, 3, 1, 2] (Host.exp (res_main_while0b_v82 V0)) transposes_S4x8x8x64_S4x64x8x8_0_3_1_2 : (Proc.devRef .tc main_while0b_v118 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (broadcastInDim S4x64x8x8x1 ![0, 1, 2, 3] bcast_S4x64x8x8_S4x64x8x8x1_0_1_2_3 (transpose S4x64x8x8 [0, 3, 1, 2] (Host.exp (res_main_while0b_v82 V0)) transposes_S4x8x8x64_S4x64x8x8_0_3_1_2) : (Proc.devRef .tc main_while0b_v119 : DevRef τ sig).ty.Contents (Elt F)) = Cert.ReferenceIdeal.Step.b75 j s := by
  unfold Cert.ReferenceIdeal.Step.b75
  rw [← al_74 h]
  try rfl
set_option maxRecDepth 8192 in
theorem al_76 (h : Holds V0 s j) : (broadcastInDim S4x64x8x8x64 ![0, 1, 2, 3, 4] bcast_S4x64x8x8x1_S4x64x8x8x64_0_1_2_3_4 (broadcastInDim S4x64x8x8x1 ![0, 1, 2, 3] bcast_S4x64x8x8_S4x64x8x8x1_0_1_2_3 (transpose S4x64x8x8 [0, 3, 1, 2] (Host.exp (res_main_while0b_v82 V0)) transposes_S4x8x8x64_S4x64x8x8_0_3_1_2)) : (Proc.devRef .tc main_while0b_v120 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (mulf (transpose S4x64x8x8x64 [0, 4, 1, 2, 3] (Host.dotGeneral dot_S4x8x8x64x128_S4x64x8x128_S4x8x8x64x64_4_3_23_1_01_02 none (V0 (Proc.devRef .tc main_v54_7)) (res_main_while0b_v78 V0)) transposes_S4x8x8x64x64_S4x64x8x8x64_0_4_1_2_3) (broadcastInDim S4x64x8x8x64 ![0, 1, 2, 3, 4] bcast_S4x64x8x8x1_S4x64x8x8x64_0_1_2_3_4 (broadcastInDim S4x64x8x8x1 ![0, 1, 2, 3] bcast_S4x64x8x8_S4x64x8x8x1_0_1_2_3 (transpose S4x64x8x8 [0, 3, 1, 2] (Host.exp (res_main_while0b_v82 V0)) transposes_S4x8x8x64_S4x64x8x8_0_3_1_2))) : (Proc.devRef .tc main_while0b_v121 : DevRef τ sig).ty.Contents (Elt F)) = Cert.ReferenceIdeal.Step.b77 j s := by
  unfold Cert.ReferenceIdeal.Step.b77
  rw [← al_72 h, ← al_76 h]
  try rfl
set_option maxRecDepth 8192 in
theorem al_78 (h : Holds V0 s j) : (extractStridedSlice S4x8x8x1 ![0, 0, 0, 63] (res_main_while0b_v82 V0) slices_S4x8x8x64_S4x8x8x1_0_0_0_63 : (Proc.devRef .tc main_while0b_v122 : DevRef τ sig).ty.Contents (Elt F)) = Cert.ReferenceIdeal.Step.b78 j s := by
  unfold Cert.ReferenceIdeal.Step.b78
  rw [← al_30 h]
  try rfl
set_option maxRecDepth 8192 in
theorem al_79 (h : Holds V0 s j) : (shapeCast S4x8x8 (extractStridedSlice S4x8x8x1 ![0, 0, 0, 63] (res_main_while0b_v82 V0) slices_S4x8x8x64_S4x8x8x1_0_0_0_63) shapeCasts_S4x8x8x1_S4x8x8 : (Proc.devRef .tc main_while0b_v123 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (Host.exp (shapeCast S4x8x8 (extractStridedSlice S4x8x8x1 ![0, 0, 0, 63] (res_main_while0b_v82 V0) slices_S4x8x8x64_S4x8x8x1_0_0_0_63) shapeCasts_S4x8x8x1_S4x8x8) : (Proc.devRef .tc main_while0b_v124 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (broadcastInDim S4x8x8x1x1 ![0, 1, 2] bcast_S4x8x8_S4x8x8x1x1_0_1_2 (Host.exp (shapeCast S4x8x8 (extractStridedSlice S4x8x8x1 ![0, 0, 0, 63] (res_main_while0b_v82 V0) slices_S4x8x8x64_S4x8x8x1_0_0_0_63) shapeCasts_S4x8x8x1_S4x8x8)) : (Proc.devRef .tc main_while0b_v125 : DevRef τ sig).ty.Contents (Elt F)) = Cert.ReferenceIdeal.Step.b81 j s := by
  unfold Cert.ReferenceIdeal.Step.b81
  rw [← al_80 h]
  try rfl
set_option maxRecDepth 8192 in
theorem al_82 (h : Holds V0 s j) : (broadcastInDim S4x8x8x64x128 ![0, 1, 2, 3, 4] bcast_S4x8x8x1x1_S4x8x8x64x128_0_1_2_3_4 (broadcastInDim S4x8x8x1x1 ![0, 1, 2] bcast_S4x8x8_S4x8x8x1x1_0_1_2 (Host.exp (shapeCast S4x8x8 (extractStridedSlice S4x8x8x1 ![0, 0, 0, 63] (res_main_while0b_v82 V0) slices_S4x8x8x64_S4x8x8x1_0_0_0_63) shapeCasts_S4x8x8x1_S4x8x8))) : (Proc.devRef .tc main_while0b_v126 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (mulf (V0 (Proc.devRef .tc main_v54_7)) (broadcastInDim S4x8x8x64x128 ![0, 1, 2, 3, 4] bcast_S4x8x8x1x1_S4x8x8x64x128_0_1_2_3_4 (broadcastInDim S4x8x8x1x1 ![0, 1, 2] bcast_S4x8x8_S4x8x8x1x1_0_1_2 (Host.exp (shapeCast S4x8x8 (extractStridedSlice S4x8x8x1 ![0, 0, 0, 63] (res_main_while0b_v82 V0) slices_S4x8x8x64_S4x8x8x1_0_0_0_63) shapeCasts_S4x8x8x1_S4x8x8)))) : (Proc.devRef .tc main_while0b_v127 : DevRef τ sig).ty.Contents (Elt F)) = Cert.ReferenceIdeal.Step.b83 j s := by
  unfold Cert.ReferenceIdeal.Step.b83
  rw [← al_82 h, h.f_7]
  try rfl
set_option maxRecDepth 8192 in
theorem al_84 (h : Holds V0 s j) : (Host.dotGeneral dot_S4x64x8x8x64_S4x64x8x128_S4x8x8x64x128_1_1_34_3_02_02 none (mulf (res_main_while0b_v92 V0) (broadcastInDim S4x64x8x8x64 ![0, 1, 2, 3, 4] bcast_S4x64x8x8x1_S4x64x8x8x64_0_1_2_3_4 (broadcastInDim S4x64x8x8x1 ![0, 1, 2, 3] bcast_S4x64x8x8_S4x64x8x8x1_0_1_2_3 (transpose S4x64x8x8 [0, 3, 1, 2] (Host.exp (subf (broadcastInDim S4x8x8x64 ![0, 1, 2, 3] bcast_S4x8x8x1_S4x8x8x64_0_1_2_3 (extractStridedSlice S4x8x8x1 ![0, 0, 0, 63] (res_main_while0b_v82 V0) slices_S4x8x8x64_S4x8x8x1_0_0_0_63)) (res_main_while0b_v82 V0))) transposes_S4x8x8x64_S4x64x8x8_0_3_1_2)))) (res_main_while0b_v79 V0) : (Proc.devRef .tc main_while0b_v128 : DevRef τ sig).ty.Contents (Elt F)) = Cert.ReferenceIdeal.Step.b84 j s := by
  unfold Cert.ReferenceIdeal.Step.b84
  rw [← al_70 h, ← al_11 h]
  try rfl
set_option maxRecDepth 8192 in
theorem al_85 (h : Holds V0 s j) : (addf (mulf (V0 (Proc.devRef .tc main_v54_7)) (broadcastInDim S4x8x8x64x128 ![0, 1, 2, 3, 4] bcast_S4x8x8x1x1_S4x8x8x64x128_0_1_2_3_4 (broadcastInDim S4x8x8x1x1 ![0, 1, 2] bcast_S4x8x8_S4x8x8x1x1_0_1_2 (Host.exp (shapeCast S4x8x8 (extractStridedSlice S4x8x8x1 ![0, 0, 0, 63] (res_main_while0b_v82 V0) slices_S4x8x8x64_S4x8x8x1_0_0_0_63) shapeCasts_S4x8x8x1_S4x8x8))))) (Host.dotGeneral dot_S4x64x8x8x64_S4x64x8x128_S4x8x8x64x128_1_1_34_3_02_02 none (mulf (res_main_while0b_v92 V0) (broadcastInDim S4x64x8x8x64 ![0, 1, 2, 3, 4] bcast_S4x64x8x8x1_S4x64x8x8x64_0_1_2_3_4 (broadcastInDim S4x64x8x8x1 ![0, 1, 2, 3] bcast_S4x64x8x8_S4x64x8x8x1_0_1_2_3 (transpose S4x64x8x8 [0, 3, 1, 2] (Host.exp (subf (broadcastInDim S4x8x8x64 ![0, 1, 2, 3] bcast_S4x8x8x1_S4x8x8x64_0_1_2_3 (extractStridedSlice S4x8x8x1 ![0, 0, 0, 63] (res_main_while0b_v82 V0) slices_S4x8x8x64_S4x8x8x1_0_0_0_63)) (res_main_while0b_v82 V0))) transposes_S4x8x8x64_S4x64x8x8_0_3_1_2)))) (res_main_while0b_v79 V0)) : (Proc.devRef .tc main_while0b_v129 : DevRef τ sig).ty.Contents (Elt F)) = Cert.ReferenceIdeal.Step.b85 j s := by
  unfold Cert.ReferenceIdeal.Step.b85
  rw [← al_83 h, ← al_84 h]
  try rfl
set_option maxRecDepth 8192 in
theorem al_86 (h : Holds V0 s j) : (addf (transpose S4x64x8x8x64 [0, 4, 1, 2, 3] (Host.dotGeneral dot_S4x64x8x8x64_S4x8x8x64x64_S4x8x8x64x64_1_4_4_3_023_012 none (res_main_while0b_v92 V0) (mulf (broadcastInDim S4x8x8x64x64 ![0, 1, 2, 3, 4] bcast_S4x8x1x64x64_S4x8x8x64x64_0_1_2_3_4 (broadcastInDim S4x8x1x64x64 ![0, 1, 3, 4] bcast_S4x8x64x64_S4x8x1x64x64_0_1_3_4 (Host.dotGeneral dot_S4x64x8x128_S4x64x8x128_S4x8x64x64_3_3_1_1_02_02 none (res_main_while0b_v78 V0) (res_main_while0b_v79 V0)))) (select (broadcastInDim S4x8x8x64x64 ![3, 4] bcast_S64x64_S4x8x8x64x64_3_4 (res_main_while0b_v89 V0)) (Host.exp (select (broadcastInDim S4x8x8x64x64 ![3, 4] bcast_S64x64_S4x8x8x64x64_3_4 (res_main_while0b_v89 V0)) (subf (broadcastInDim S4x8x8x64x64 ![0, 1, 2, 3, 4] bcast_S4x8x8x64x1_S4x8x8x64x64_0_1_2_3_4 (broadcastInDim S4x8x8x64x1 ![0, 1, 2, 3] bcast_S4x8x8x64_S4x8x8x64x1_0_1_2_3 (res_main_while0b_v82 V0))) (broadcastInDim S4x8x8x64x64 ![0, 1, 2, 3, 4] bcast_S4x8x8x1x64_S4x8x8x64x64_0_1_2_3_4 (broadcastInDim S4x8x8x1x64 ![0, 1, 2, 4] bcast_S4x8x8x64_S4x8x8x1x64_0_1_2_4 (res_main_while0b_v82 V0)))) (broadcastInDim S4x8x8x64x64 ![] bcast_S_S4x8x8x64x64 (id (constant S_ .f32 0x00000000#32))))) (broadcastInDim S4x8x8x64x64 ![] bcast_S_S4x8x8x64x64 (id (constant S_ .f32 0x00000000#32)))))) transposes_S4x8x8x64x64_S4x64x8x8x64_0_4_1_2_3) (mulf (transpose S4x64x8x8x64 [0, 4, 1, 2, 3] (Host.dotGeneral dot_S4x8x8x64x128_S4x64x8x128_S4x8x8x64x64_4_3_23_1_01_02 none (V0 (Proc.devRef .tc main_v54_7)) (res_main_while0b_v78 V0)) transposes_S4x8x8x64x64_S4x64x8x8x64_0_4_1_2_3) (broadcastInDim S4x64x8x8x64 ![0, 1, 2, 3, 4] bcast_S4x64x8x8x1_S4x64x8x8x64_0_1_2_3_4 (broadcastInDim S4x64x8x8x1 ![0, 1, 2, 3] bcast_S4x64x8x8_S4x64x8x8x1_0_1_2_3 (transpose S4x64x8x8 [0, 3, 1, 2] (Host.exp (res_main_while0b_v82 V0)) transposes_S4x8x8x64_S4x64x8x8_0_3_1_2)))) : (Proc.devRef .tc main_while0b_v130 : DevRef τ sig).ty.Contents (Elt F)) = Cert.ReferenceIdeal.Step.b86 j s := by
  unfold Cert.ReferenceIdeal.Step.b86
  rw [← al_62 h, ← al_77 h]
  try rfl
set_option maxRecDepth 8192 in
theorem al_87 (h : Holds V0 s j) : (shapeCast S8x8x1 (V0 (Proc.devRef .tc main_v54_5)) shapeCasts_S64_S8x8x1 : (Proc.devRef .tc main_while0b_v131 : DevRef τ sig).ty.Contents (Elt F)) = Cert.ReferenceIdeal.Step.b87 j s := by
  unfold Cert.ReferenceIdeal.Step.b87
  rw [h.f_5]
  try rfl
set_option maxRecDepth 8192 in
theorem al_88 (h : Holds V0 s j) : (broadcastInDim S1x1x8x8x1 ![2, 3, 4] bcast_S8x8x1_S1x1x8x8x1_2_3_4 (shapeCast S8x8x1 (V0 (Proc.devRef .tc main_v54_5)) shapeCasts_S64_S8x8x1) : (Proc.devRef .tc main_while0b_v132 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (broadcastInDim S4x64x8x8x64 ![0, 1, 2, 3, 4] bcast_S1x1x8x8x1_S4x64x8x8x64_0_1_2_3_4 (broadcastInDim S1x1x8x8x1 ![2, 3, 4] bcast_S8x8x1_S1x1x8x8x1_2_3_4 (shapeCast S8x8x1 (V0 (Proc.devRef .tc main_v54_5)) shapeCasts_S64_S8x8x1)) : (Proc.devRef .tc main_while0b_v133 : DevRef τ sig).ty.Contents (Elt F)) = Cert.ReferenceIdeal.Step.b89 j s := by
  unfold Cert.ReferenceIdeal.Step.b89
  rw [← al_88 h]
  try rfl
set_option maxRecDepth 8192 in
theorem al_90 (h : Holds V0 s j) : (mulf (broadcastInDim S4x64x8x8x64 ![0, 1, 2, 3, 4] bcast_S1x1x8x8x1_S4x64x8x8x64_0_1_2_3_4 (broadcastInDim S1x1x8x8x1 ![2, 3, 4] bcast_S8x8x1_S1x1x8x8x1_2_3_4 (shapeCast S8x8x1 (V0 (Proc.devRef .tc main_v54_5)) shapeCasts_S64_S8x8x1))) (res_main_while0b_v80 V0) : (Proc.devRef .tc main_while0b_v134 : DevRef τ sig).ty.Contents (Elt F)) = Cert.ReferenceIdeal.Step.b90 j s := by
  unfold Cert.ReferenceIdeal.Step.b90
  rw [← al_89 h, ← al_18 h]
  try rfl
set_option maxRecDepth 8192 in
theorem al_91 (h : Holds V0 s j) : (addf (addf (transpose S4x64x8x8x64 [0, 4, 1, 2, 3] (Host.dotGeneral dot_S4x64x8x8x64_S4x8x8x64x64_S4x8x8x64x64_1_4_4_3_023_012 none (res_main_while0b_v92 V0) (mulf (broadcastInDim S4x8x8x64x64 ![0, 1, 2, 3, 4] bcast_S4x8x1x64x64_S4x8x8x64x64_0_1_2_3_4 (broadcastInDim S4x8x1x64x64 ![0, 1, 3, 4] bcast_S4x8x64x64_S4x8x1x64x64_0_1_3_4 (Host.dotGeneral dot_S4x64x8x128_S4x64x8x128_S4x8x64x64_3_3_1_1_02_02 none (res_main_while0b_v78 V0) (res_main_while0b_v79 V0)))) (select (broadcastInDim S4x8x8x64x64 ![3, 4] bcast_S64x64_S4x8x8x64x64_3_4 (res_main_while0b_v89 V0)) (Host.exp (select (broadcastInDim S4x8x8x64x64 ![3, 4] bcast_S64x64_S4x8x8x64x64_3_4 (res_main_while0b_v89 V0)) (subf (broadcastInDim S4x8x8x64x64 ![0, 1, 2, 3, 4] bcast_S4x8x8x64x1_S4x8x8x64x64_0_1_2_3_4 (broadcastInDim S4x8x8x64x1 ![0, 1, 2, 3] bcast_S4x8x8x64_S4x8x8x64x1_0_1_2_3 (res_main_while0b_v82 V0))) (broadcastInDim S4x8x8x64x64 ![0, 1, 2, 3, 4] bcast_S4x8x8x1x64_S4x8x8x64x64_0_1_2_3_4 (broadcastInDim S4x8x8x1x64 ![0, 1, 2, 4] bcast_S4x8x8x64_S4x8x8x1x64_0_1_2_4 (res_main_while0b_v82 V0)))) (broadcastInDim S4x8x8x64x64 ![] bcast_S_S4x8x8x64x64 (id (constant S_ .f32 0x00000000#32))))) (broadcastInDim S4x8x8x64x64 ![] bcast_S_S4x8x8x64x64 (id (constant S_ .f32 0x00000000#32)))))) transposes_S4x8x8x64x64_S4x64x8x8x64_0_4_1_2_3) (mulf (transpose S4x64x8x8x64 [0, 4, 1, 2, 3] (Host.dotGeneral dot_S4x8x8x64x128_S4x64x8x128_S4x8x8x64x64_4_3_23_1_01_02 none (V0 (Proc.devRef .tc main_v54_7)) (res_main_while0b_v78 V0)) transposes_S4x8x8x64x64_S4x64x8x8x64_0_4_1_2_3) (broadcastInDim S4x64x8x8x64 ![0, 1, 2, 3, 4] bcast_S4x64x8x8x1_S4x64x8x8x64_0_1_2_3_4 (broadcastInDim S4x64x8x8x1 ![0, 1, 2, 3] bcast_S4x64x8x8_S4x64x8x8x1_0_1_2_3 (transpose S4x64x8x8 [0, 3, 1, 2] (Host.exp (res_main_while0b_v82 V0)) transposes_S4x8x8x64_S4x64x8x8_0_3_1_2))))) (mulf (broadcastInDim S4x64x8x8x64 ![0, 1, 2, 3, 4] bcast_S1x1x8x8x1_S4x64x8x8x64_0_1_2_3_4 (broadcastInDim S1x1x8x8x1 ![2, 3, 4] bcast_S8x8x1_S1x1x8x8x1_2_3_4 (shapeCast S8x8x1 (V0 (Proc.devRef .tc main_v54_5)) shapeCasts_S64_S8x8x1))) (res_main_while0b_v80 V0)) : (Proc.devRef .tc main_while0b_v135 : DevRef τ sig).ty.Contents (Elt F)) = Cert.ReferenceIdeal.Step.b91 j s := by
  unfold Cert.ReferenceIdeal.Step.b91
  rw [← al_86 h, ← al_90 h]
  try rfl
set_option maxRecDepth 8192 in
theorem al_92 (h : Holds V0 s j) : (broadcastInDim S1x4x64x8x8x64 ![1, 2, 3, 4, 5] bcast_S4x64x8x8x64_S1x4x64x8x8x64_1_2_3_4_5 (addf (addf (transpose S4x64x8x8x64 [0, 4, 1, 2, 3] (Host.dotGeneral dot_S4x64x8x8x64_S4x8x8x64x64_S4x8x8x64x64_1_4_4_3_023_012 none (res_main_while0b_v92 V0) (mulf (broadcastInDim S4x8x8x64x64 ![0, 1, 2, 3, 4] bcast_S4x8x1x64x64_S4x8x8x64x64_0_1_2_3_4 (broadcastInDim S4x8x1x64x64 ![0, 1, 3, 4] bcast_S4x8x64x64_S4x8x1x64x64_0_1_3_4 (Host.dotGeneral dot_S4x64x8x128_S4x64x8x128_S4x8x64x64_3_3_1_1_02_02 none (res_main_while0b_v78 V0) (res_main_while0b_v79 V0)))) (select (broadcastInDim S4x8x8x64x64 ![3, 4] bcast_S64x64_S4x8x8x64x64_3_4 (res_main_while0b_v89 V0)) (Host.exp (select (broadcastInDim S4x8x8x64x64 ![3, 4] bcast_S64x64_S4x8x8x64x64_3_4 (res_main_while0b_v89 V0)) (subf (broadcastInDim S4x8x8x64x64 ![0, 1, 2, 3, 4] bcast_S4x8x8x64x1_S4x8x8x64x64_0_1_2_3_4 (broadcastInDim S4x8x8x64x1 ![0, 1, 2, 3] bcast_S4x8x8x64_S4x8x8x64x1_0_1_2_3 (res_main_while0b_v82 V0))) (broadcastInDim S4x8x8x64x64 ![0, 1, 2, 3, 4] bcast_S4x8x8x1x64_S4x8x8x64x64_0_1_2_3_4 (broadcastInDim S4x8x8x1x64 ![0, 1, 2, 4] bcast_S4x8x8x64_S4x8x8x1x64_0_1_2_4 (res_main_while0b_v82 V0)))) (broadcastInDim S4x8x8x64x64 ![] bcast_S_S4x8x8x64x64 (id (constant S_ .f32 0x00000000#32))))) (broadcastInDim S4x8x8x64x64 ![] bcast_S_S4x8x8x64x64 (id (constant S_ .f32 0x00000000#32)))))) transposes_S4x8x8x64x64_S4x64x8x8x64_0_4_1_2_3) (mulf (transpose S4x64x8x8x64 [0, 4, 1, 2, 3] (Host.dotGeneral dot_S4x8x8x64x128_S4x64x8x128_S4x8x8x64x64_4_3_23_1_01_02 none (V0 (Proc.devRef .tc main_v54_7)) (res_main_while0b_v78 V0)) transposes_S4x8x8x64x64_S4x64x8x8x64_0_4_1_2_3) (broadcastInDim S4x64x8x8x64 ![0, 1, 2, 3, 4] bcast_S4x64x8x8x1_S4x64x8x8x64_0_1_2_3_4 (broadcastInDim S4x64x8x8x1 ![0, 1, 2, 3] bcast_S4x64x8x8_S4x64x8x8x1_0_1_2_3 (transpose S4x64x8x8 [0, 3, 1, 2] (Host.exp (res_main_while0b_v82 V0)) transposes_S4x8x8x64_S4x64x8x8_0_3_1_2))))) (mulf (broadcastInDim S4x64x8x8x64 ![0, 1, 2, 3, 4] bcast_S1x1x8x8x1_S4x64x8x8x64_0_1_2_3_4 (broadcastInDim S1x1x8x8x1 ![2, 3, 4] bcast_S8x8x1_S1x1x8x8x1_2_3_4 (shapeCast S8x8x1 (V0 (Proc.devRef .tc main_v54_5)) shapeCasts_S64_S8x8x1))) (res_main_while0b_v80 V0))) : (Proc.devRef .tc main_while0b_call9_v0 : DevRef τ sig).ty.Contents (Elt F)) = Cert.ReferenceIdeal.Step.b92 j s := by
  unfold Cert.ReferenceIdeal.Step.b92
  rw [← al_91 h]
  try rfl
set_option maxRecDepth 8192 in
theorem al_93 (h : Holds V0 s j) : (constantI S_ 32 0#32 : (Proc.devRef .tc main_while0b_call9_c : DevRef τ sig).ty.Contents (Elt F)) = Cert.ReferenceIdeal.Step.b93 j s := by
  unfold Cert.ReferenceIdeal.Step.b93
  rfl
set_option maxRecDepth 8192 in
theorem al_94 (h : Holds V0 s j) : (constantI S_ 32 0#32 : (Proc.devRef .tc main_while0b_call9_c_0 : DevRef τ sig).ty.Contents (Elt F)) = Cert.ReferenceIdeal.Step.b94 j s := by
  unfold Cert.ReferenceIdeal.Step.b94
  rfl
set_option maxRecDepth 8192 in
theorem al_95 (h : Holds V0 s j) : (constantI S_ 32 0#32 : (Proc.devRef .tc main_while0b_call9_c_1 : DevRef τ sig).ty.Contents (Elt F)) = Cert.ReferenceIdeal.Step.b95 j s := by
  unfold Cert.ReferenceIdeal.Step.b95
  rfl
set_option maxRecDepth 8192 in
theorem al_96 (h : Holds V0 s j) : (constantI S_ 32 0#32 : (Proc.devRef .tc main_while0b_call9_c_2 : DevRef τ sig).ty.Contents (Elt F)) = Cert.ReferenceIdeal.Step.b96 j s := by
  unfold Cert.ReferenceIdeal.Step.b96
  rfl
set_option maxRecDepth 8192 in
theorem al_97 (h : Holds V0 s j) : (constantI S_ 32 0#32 : (Proc.devRef .tc main_while0b_call9_c_3 : DevRef τ sig).ty.Contents (Elt F)) = Cert.ReferenceIdeal.Step.b97 j s := by
  unfold Cert.ReferenceIdeal.Step.b97
  rfl
set_option maxRecDepth 8192 in
theorem al_98 (h : Holds V0 s j) : (Host.dynamicUpdateSlice (V0 (Proc.devRef .tc main_v54_8)) (broadcastInDim S1x4x64x8x8x64 ![1, 2, 3, 4, 5] bcast_S4x64x8x8x64_S1x4x64x8x8x64_1_2_3_4_5 (addf (addf (transpose S4x64x8x8x64 [0, 4, 1, 2, 3] (Host.dotGeneral dot_S4x64x8x8x64_S4x8x8x64x64_S4x8x8x64x64_1_4_4_3_023_012 none (res_main_while0b_v92 V0) (mulf (broadcastInDim S4x8x8x64x64 ![0, 1, 2, 3, 4] bcast_S4x8x1x64x64_S4x8x8x64x64_0_1_2_3_4 (broadcastInDim S4x8x1x64x64 ![0, 1, 3, 4] bcast_S4x8x64x64_S4x8x1x64x64_0_1_3_4 (Host.dotGeneral dot_S4x64x8x128_S4x64x8x128_S4x8x64x64_3_3_1_1_02_02 none (res_main_while0b_v78 V0) (res_main_while0b_v79 V0)))) (select (broadcastInDim S4x8x8x64x64 ![3, 4] bcast_S64x64_S4x8x8x64x64_3_4 (res_main_while0b_v89 V0)) (Host.exp (select (broadcastInDim S4x8x8x64x64 ![3, 4] bcast_S64x64_S4x8x8x64x64_3_4 (res_main_while0b_v89 V0)) (subf (broadcastInDim S4x8x8x64x64 ![0, 1, 2, 3, 4] bcast_S4x8x8x64x1_S4x8x8x64x64_0_1_2_3_4 (broadcastInDim S4x8x8x64x1 ![0, 1, 2, 3] bcast_S4x8x8x64_S4x8x8x64x1_0_1_2_3 (res_main_while0b_v82 V0))) (broadcastInDim S4x8x8x64x64 ![0, 1, 2, 3, 4] bcast_S4x8x8x1x64_S4x8x8x64x64_0_1_2_3_4 (broadcastInDim S4x8x8x1x64 ![0, 1, 2, 4] bcast_S4x8x8x64_S4x8x8x1x64_0_1_2_4 (res_main_while0b_v82 V0)))) (broadcastInDim S4x8x8x64x64 ![] bcast_S_S4x8x8x64x64 (id (constant S_ .f32 0x00000000#32))))) (broadcastInDim S4x8x8x64x64 ![] bcast_S_S4x8x8x64x64 (id (constant S_ .f32 0x00000000#32)))))) transposes_S4x8x8x64x64_S4x64x8x8x64_0_4_1_2_3) (mulf (transpose S4x64x8x8x64 [0, 4, 1, 2, 3] (Host.dotGeneral dot_S4x8x8x64x128_S4x64x8x128_S4x8x8x64x64_4_3_23_1_01_02 none (V0 (Proc.devRef .tc main_v54_7)) (res_main_while0b_v78 V0)) transposes_S4x8x8x64x64_S4x64x8x8x64_0_4_1_2_3) (broadcastInDim S4x64x8x8x64 ![0, 1, 2, 3, 4] bcast_S4x64x8x8x1_S4x64x8x8x64_0_1_2_3_4 (broadcastInDim S4x64x8x8x1 ![0, 1, 2, 3] bcast_S4x64x8x8_S4x64x8x8x1_0_1_2_3 (transpose S4x64x8x8 [0, 3, 1, 2] (Host.exp (res_main_while0b_v82 V0)) transposes_S4x8x8x64_S4x64x8x8_0_3_1_2))))) (mulf (broadcastInDim S4x64x8x8x64 ![0, 1, 2, 3, 4] bcast_S1x1x8x8x1_S4x64x8x8x64_0_1_2_3_4 (broadcastInDim S1x1x8x8x1 ![2, 3, 4] bcast_S8x8x1_S1x1x8x8x1_2_3_4 (shapeCast S8x8x1 (V0 (Proc.devRef .tc main_v54_5)) shapeCasts_S64_S8x8x1))) (res_main_while0b_v80 V0)))) (fun k => (((![V0 (Proc.devRef .tc main_v54_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S64x4x64x8x8x64_S1x4x64x8x8x64 : (Proc.devRef .tc main_while0b_v136 : DevRef τ sig).ty.Contents (Elt F)) = Cert.ReferenceIdeal.Step.b98 j s := by
  unfold Cert.ReferenceIdeal.Step.b98
  rw [← al_92 h, ← al_93 h, ← al_94 h, ← al_95 h, ← al_96 h, ← al_97 h, h.f_8, h.n_6]
  try rfl

/-! One trip's step of the carried values is `step`, field by field; a counter steps to the next number. -/

theorem step_7 (h : Holds V0 s j) : step_main_v54_7 V0 = (step j s).main_v54_7 := by
  unfold step_main_v54_7 Cert.ReferenceIdeal.Step.step
  show id (addf (mulf (V0 (Proc.devRef .tc main_v54_7)) (broadcastInDim S4x8x8x64x128 ![0, 1, 2, 3, 4] bcast_S4x8x8x1x1_S4x8x8x64x128_0_1_2_3_4 (broadcastInDim S4x8x8x1x1 ![0, 1, 2] bcast_S4x8x8_S4x8x8x1x1_0_1_2 (Host.exp (shapeCast S4x8x8 (extractStridedSlice S4x8x8x1 ![0, 0, 0, 63] (res_main_while0b_v82 V0) slices_S4x8x8x64_S4x8x8x1_0_0_0_63) shapeCasts_S4x8x8x1_S4x8x8))))) (Host.dotGeneral dot_S4x64x8x8x64_S4x64x8x128_S4x8x8x64x128_1_1_34_3_02_02 none (mulf (res_main_while0b_v92 V0) (broadcastInDim S4x64x8x8x64 ![0, 1, 2, 3, 4] bcast_S4x64x8x8x1_S4x64x8x8x64_0_1_2_3_4 (broadcastInDim S4x64x8x8x1 ![0, 1, 2, 3] bcast_S4x64x8x8_S4x64x8x8x1_0_1_2_3 (transpose S4x64x8x8 [0, 3, 1, 2] (Host.exp (subf (broadcastInDim S4x8x8x64 ![0, 1, 2, 3] bcast_S4x8x8x1_S4x8x8x64_0_1_2_3 (extractStridedSlice S4x8x8x1 ![0, 0, 0, 63] (res_main_while0b_v82 V0) slices_S4x8x8x64_S4x8x8x1_0_0_0_63)) (res_main_while0b_v82 V0))) transposes_S4x8x8x64_S4x64x8x8_0_3_1_2)))) (res_main_while0b_v79 V0))) = _
  rw [al_85 h]
  try rfl
theorem step_8 (h : Holds V0 s j) : step_main_v54_8 V0 = (step j s).main_v54_8 := by
  unfold step_main_v54_8 Cert.ReferenceIdeal.Step.step
  exact al_98 h
theorem step_6 (h : Holds V0 s j) : step_main_v54_6 V0 = constantI S_ 32 (BitVec.ofNat 32 (j + 1)) := by
  unfold step_main_v54_6
  rw [h.n_6]
  funext i
  show BitVec.ofNat 32 j + 1#32 = BitVec.ofNat 32 (j + 1)
  simp only [BitVec.ofNat_add]

set_option maxRecDepth 8192 in
theorem out_main_v77_holds (h : Holds V0 s j) {x_main_arg0 : (⟨S16384x26624, .f32⟩ : BufTy).Contents (Elt F)} (h_main_arg0 : V0 (Proc.devRef .tc main_arg0) = x_main_arg0) {x_main_arg6 : (⟨S4096, .f32⟩ : BufTy).Contents (Elt F)} (h_main_arg6 : V0 (Proc.devRef .tc main_arg6) = x_main_arg6) : out_main_v77 V0 = Cert.ReferenceIdeal.Step.R_main_v77 s x_main_arg0 x_main_arg6 := by
  unfold out_main_v77 Cert.ReferenceIdeal.Step.R_main_v77
  rw [h.f_8, h_main_arg0, h_main_arg6]
  try rfl

/-- One trip keeps the valuation holding: `step` of the state, the same set-up values, the next number. -/
theorem holds_step (h : Holds V0 s j) : Holds (STEP V0) (step j s) (j + 1) where
  f_7 := (STEP_main_v54_7 V0).trans (step_7 h)
  f_8 := (STEP_main_v54_8 V0).trans (step_8 h)
  n_6 := (STEP_main_v54_6 V0).trans (step_6 h)
  f_0 := (STEP_main_v54_0 V0).trans h.f_0
  f_1 := (STEP_main_v54_1 V0).trans h.f_1
  f_2 := (STEP_main_v54_2 V0).trans h.f_2
  f_3 := (STEP_main_v54_3 V0).trans h.f_3
  f_4 := (STEP_main_v54_4 V0).trans h.f_4
  f_5 := (STEP_main_v54_5 V0).trans h.f_5

/-- The state the first trip starts from, of the memory the run starts from. -/
abbrev initState (m : (ℓ : Loc nD τ sig) → Buf (Elt F) ℓ) (c : Dev nD) : State F :=
  init (m ((c.tc : Thread nD τ).loc main_arg5)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v77) = Cert.ReferenceIdeal.Step.R_main_v77 (it c 64) (m ((c.tc : Thread nD τ).loc main_arg0)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 64
    ⟨(h c).1.trans (out_main_v77_holds hk (iter_main_arg0 m c 64) (iter_main_arg6 m c 64)), (h c).2.1, (h c).2.2.1, (h c).2.2.2.1, (h c).2.2.2.2.1, (h c).2.2.2.2.2.1, (h c).2.2.2.2.2.2.1, (h c).2.2.2.2.2.2.2⟩) (Value.run m ρ)

end Cert.ReferenceIdeal.Trip

end
-- ==== Proof.RefLoop.lean ====
/- The reference's result as the mixer of `Spec`: the state and the rows of every chunk by induction over the trips. -/
module

public import proofs.«01_k».proof.Proof.RefVal
public import proofs.«01_k».proof.Proof.RefInit
public import proofs.«01_k».proof.Proof.RefSteps

@[expose] public section

set_option maxRecDepth 16384

noncomputable section

namespace Cert.ReferenceIdeal.Val

open Idealize.ShloMosaic
open Cert.ReferenceIdeal Cert.ReferenceIdeal.Gen Cert.ReferenceIdeal.Step Cert.Ssd

variable (a0 : FVec Ideal S16384x26624 .f32) (a1 a2 : FVec Ideal S16384x128 .f32) (a3 : FVec Ideal S4x6144 .f32) (a4 : FVec Ideal S6144 .f32)
  (a5 : FVec Ideal S64 .f32)

/-- What holds before trip `k`. -/
structure Inv (k : ℕ) (s : State Ideal) : Prop where
  c : s.main_v54_0 = A_main_v48 (F := Ideal) a0 a1 a2 a3 a4
  b : s.main_v54_1 = A_main_v49 (F := Ideal) a0 a1 a2 a3 a4
  x : s.main_v54_2 = A_main_v50 (F := Ideal) a0 a1 a2 a3 a4
  dt : s.main_v54_3 = A_main_v51 (F := Ideal) a0 a1 a2 a3 a4
  ac : s.main_v54_4 = A_main_v52 (F := Ideal) a0 a1 a2 a3 a4
  d : s.main_v54_5 = a5
  state : ∀ (b : Fin 4) (g h : Fin 8) (p : Fin 64) (n : Fin 128),
    s.main_v54_7 (ix5 b g h p n) = st (at2 a0) (at2 a1) (at2 a2) (at2 a3) (at1 a4) b.val g.val k n.val (h.val * 64 + p.val)
  rows : ∀ (j : Fin 64), j.val < k → ∀ (b : Fin 4) (l : Fin 64) (g h : Fin 8) (p : Fin 64),
    s.main_v54_8 (ix6 j b l g h p)
      = yv (at2 a0) (at2 a1) (at2 a2) (at2 a3) (at1 a4) (at1 a5) b.val g.val j.val l.val (h.val * 64 + p.val)

theorem inv_zero : Inv a0 a1 a2 a3 a4 a5 0 (init (F := Ideal) a5 a0 a1 a2 a3 a4) where
  c := rfl
  b := rfl
  x := rfl
  dt := rfl
  ac := rfl
  d := rfl
  state b g h p n := by
    show K_main_v47 (F := Ideal) (ix5 b g h p n) = (0 : EReal)
    pointwise [K_main_v47, K_main_cst_0]
  rows j hj := absurd hj (Nat.not_lt_zero _)

theorem hd_at (p : ℕ → ℕ → EReal) (b g t : ℕ) (h : Fin 8) (q : Fin 64) : hd b g p t (h.val * 64 + q.val) = p (b * 4096 + t) (g * 8 + h.val) := by
  unfold hd
  congr 2; omega

theorem inv_succ (j : Fin 64) (s : State Ideal) (hs : Inv a0 a1 a2 a3 a4 a5 j.val s) :
    Inv a0 a1 a2 a3 a4 a5 (j.val + 1) (step j.val s) where
  c := hs.c
  b := hs.b
  x := hs.x
  dt := hs.dt
  ac := hs.ac
  d := hs.d
  state b g h p n := by
    rw [step_main_v54_7, b85_at, hs.state, hs.ac, hs.x, hs.dt, hs.b]
    simp only [v52_at, v50_at, v51_at, v49_at]
    show _ = st _ _ _ _ _ _ _ (j.val + 1) _ _
    simp only [st, hd_at]
    congr 1
    exact Finset.sum_congr rfl fun t _ => mul_comm _ _
  rows k hk b l g h p := by
    rw [step_main_v54_8, b98_at]
    by_cases e : k = j
    · subst e
      rw [if_pos rfl, b91_at s k b l g h p ⟨g.val * 8 + h.val, by omega⟩ rfl, b62_at, b77_at, hs.c, hs.ac, hs.x, hs.dt, hs.b, hs.d]
      simp only [hs.state, v52_at, v50_at, v51_at, v49_at, v48_at]
      unfold yv dec
      simp only [hd_at]
      congr 1
      · congr 1
        · exact Finset.sum_congr rfl fun t _ => mul_comm _ _
        · congr 1
          exact Finset.sum_congr rfl fun t _ => mul_comm _ _
      · congr 1
        exact at1_of a5 _ _ (by show g.val * 8 + h.val = _; omega)
    · rw [if_neg e]
      exact hs.rows k (by have : k.val ≠ j.val := fun hh => e (Fin.ext hh); omega) b l g h p

/-- The states of the loop from the initial one. -/
def it (s : State Ideal) : ℕ → State Ideal
  | 0 => s
  | n + 1 => step n (it s n)

theorem inv_it : ∀ k, k ≤ 64 → Inv a0 a1 a2 a3 a4 a5 k (it (init (F := Ideal) a5 a0 a1 a2 a3 a4) k)
  | 0, _ => inv_zero a0 a1 a2 a3 a4 a5
  | k + 1, hk => inv_succ a0 a1 a2 a3 a4 a5 ⟨k, by omega⟩ _ (inv_it k (by omega))

/-- The result's rows. -/
theorem R_at (s : State Ideal) (hs : Inv a0 a1 a2 a3 a4 a5 64 s) (a6 : FVec Ideal S4096 .f32)
    (b : Fin 4) (k l : Fin 64) (g : Fin 8) (c : Fin 512) (r : Fin 16384) (q : Fin 4096)
    (hr : r.val = b.val * 4096 + (64 * k.val + l.val)) (hq : q.val = g.val * 512 + c.val) :
    R_main_v77 (F := Ideal) s a0 a6 (ix2 r q)
      = outv (at2 a0) (at2 a1) (at2 a2) (at2 a3) (at1 a4) (at1 a5) (at1 a6) b.val g.val k.val l.val c.val := by
  obtain ⟨rv, hrv⟩ := r
  obtain ⟨qv, hqv⟩ := q
  dsimp only at hr hq
  subst hr hq
  pointwise [R_main_v77]
  have ey : ∀ x : Fin 512, s.main_v54_8 (ix6 k b l g ⟨(g.val * 512 + x.val) / 64 % 8, by omega⟩ ⟨(g.val * 512 + x.val) % 64, by omega⟩)
      = yv (at2 a0) (at2 a1) (at2 a2) (at2 a3) (at1 a4) (at1 a5) b.val g.val k.val l.val x.val := fun x => by
    rw [hs.rows k k.isLt]
    congr 1
    show (g.val * 512 + x.val) / 64 % 8 * 64 + (g.val * 512 + x.val) % 64 = x.val
    omega
  have ez : ∀ x : Fin 512, a0 (ix2 ⟨b.val * 4096 + (b.val * 4096 + (64 * k.val + l.val)) % 4096, by omega⟩ ⟨g.val * 512 + x.val, by omega⟩)
      = at2 a0 (b.val * 4096 + (64 * k.val + l.val)) (g.val * 512 + x.val) := fun x =>
    at2_of a0 _ _ _ (by show b.val * 4096 + (b.val * 4096 + (64 * k.val + l.val)) % 4096 = _; omega) rfl
  have ew : a6 (ix1 ⟨g.val * 512 + c.val, hqv⟩) = at1 a6 (g.val * 512 + c.val) := at1_of a6 _ _ rfl
  simp only [ey, ez, ew]
  rfl

/-- The reference's result as an array. -/
theorem R_eq (a6 : FVec Ideal S4096 .f32) : R_main_v77 (F := Ideal) (it (init (F := Ideal) a5 a0 a1 a2 a3 a4) 64) a0 a6
    = fun y : S16384x4096.Idx => outv (at2 a0) (at2 a1) (at2 a2) (at2 a3) (at1 a4) (at1 a5) (at1 a6) ((y 0).val / 4096) ((y 1).val / 512) ((y 0).val % 4096 / 64) ((y 0).val % 64) ((y 1).val % 512) := by
  funext y
  have h0 : (y 0).val < 16384 := (y 0).isLt
  have h1 : (y 1).val < 4096 := (y 1).isLt
  refine (congrArg _ (eq_ix2 y)).trans ?_
  exact R_at a0 a1 a2 a3 a4 a5 _ (inv_it a0 a1 a2 a3 a4 a5 64 le_rfl) a6 ⟨(y 0).val / 4096, by omega⟩ ⟨(y 0).val % 4096 / 64, by omega⟩ ⟨(y 0).val % 64, by omega⟩
    ⟨(y 1).val / 512, by omega⟩ ⟨(y 1).val % 512, by omega⟩ (y 0) (y 1) (by dsimp only; omega) (by dsimp only; omega)

end Cert.ReferenceIdeal.Val

end
-- ==== Proof.PreVal.lean ====
/- What the mixer's precondition says of the arguments. -/
module

public import proofs.«01_k».proof.Pre_finite_decaying
public import proofs.«01_k».proof.Proof.Gen.Pre_finite_decaying
public import proofs.«01_k».proof.Proof.Point
public import Idealize.ShloMosaic.Lib.ReduceAll

@[expose] public section

set_option maxRecDepth 16384

noncomputable section

namespace Cert.Pre_finite_decaying.Val

open Idealize.ShloMosaic Cert.Pre_finite_decaying Cert.Ssd Cert.KernelIdeal.Val

/-- A value whose magnitude is below infinity is a real number. -/
theorem fin_of_lt (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- What the comparison "at most" says. -/
theorem le_of_cmp (x y : EReal) (h : Ideal.cmp .ole x y = 1#1) : x ≤ y := by
  by_contra hn
  simp [Ideal.cmp, hn] at h

/-- Outside an array `at2` is zero, a real number. -/
theorem fin_at2 {m n : ℕ} (A : (⟨2, ![m, n]⟩ : Shape).Idx → EReal) (r c : ℕ) (h : ∀ (hr : r < m) (hc : c < n), Fin' (A (ix2 ⟨r, hr⟩ ⟨c, hc⟩))) : Fin' (at2 A r c) := by
  unfold at2
  split
  · exact h _ _
  · exact Fin'.zero

theorem fin_at1 {m : ℕ} (A : (⟨1, ![m]⟩ : Shape).Idx → EReal) (r : ℕ) (h : ∀ (hr : r < m), Fin' (A (ix1 ⟨r, hr⟩))) : Fin' (at1 A r) := by
  unfold at1
  split
  · exact h _
  · exact Fin'.zero

/-- Numbers that never rise from one row to the next don't rise from a row to a later one. -/
theorem le_of_steps (f : ℕ → EReal) (N : ℕ) (h : ∀ s, s + 1 < N → f (s + 1) ≤ f s) (s : ℕ) : ∀ d, s + d < N → f (s + d) ≤ f s
  | 0, _ => le_rfl
  | d + 1, hd => (h (s + d) (by omega)).trans (le_of_steps f N h s d (by omega))

/-- Row `l + d` of chunk `i`, for `d` at most one. -/
theorem row1_at [Facts] (a : FVec Ideal S16384x128 .f32) (i : Fin 256) (l : Fin 63) (h : Fin 64) :
    extractStridedSlice S256x63x64 ![0, 1, 0] (shapeCast S256x64x64 (extractStridedSlice S16384x64 ![0, 0] a Facts.slices_S16384x128_S16384x64_0_0) Facts.shapeCasts_S16384x64_S256x64x64)
        Facts.slices_S256x64x64_S256x63x64_0_1_0 (ix3 i l h)
      = at2 a (i.val * 64 + (l.val + 1)) h.val := by
  pointwise []
  refine at2_of _ _ _ _ ?_ ?_
  · show i.val * 64 + _ = _
    first | rfl | omega
  · rfl
theorem row0_at [Facts] (a : FVec Ideal S16384x128 .f32) (i : Fin 256) (l : Fin 63) (h : Fin 64) :
    extractStridedSlice S256x63x64 ![0, 0, 0] (shapeCast S256x64x64 (extractStridedSlice S16384x64 ![0, 0] a Facts.slices_S16384x128_S16384x64_0_0) Facts.shapeCasts_S16384x64_S256x64x64)
        Facts.slices_S256x64x64_S256x63x64_0_0_0 (ix3 i l h)
      = at2 a (i.val * 64 + l.val) h.val := by
  pointwise []
  exact at2_of _ _ _ _ rfl rfl

/-- The first columns of an array. -/
theorem left0_at [Facts] (a : FVec Ideal S16384x26624 .f32) (r : Fin 16384) (c : Fin 10240) :
    extractStridedSlice S16384x10240 ![0, 0] a Facts.slices_S16384x26624_S16384x10240_0_0 (ix2 r c) = a (ix2 r ⟨c.val, by omega⟩) := by
  pointwise []
theorem left_at [Facts] (a : FVec Ideal S16384x128 .f32) (r : Fin 16384) (c : Fin 64) :
    extractStridedSlice S16384x64 ![0, 0] a Facts.slices_S16384x128_S16384x64_0_0 (ix2 r c) = a (ix2 r ⟨c.val, by omega⟩) := by
  pointwise []

/-- The precondition: what the mixer reads is real, and the decays' logarithms don't rise within a chunk. -/
theorem good [Facts] (a0 : FVec Ideal S16384x26624 .f32) (a1 a2 : FVec Ideal S16384x128 .f32) (a3 : FVec Ideal S4x6144 .f32) (a4 : FVec Ideal S6144 .f32)
    (a5 : FVec Ideal S64 .f32) (a6 : FVec Ideal S4096 .f32) (e : fn (F := Ideal) a0 a1 a2 a3 a4 a5 a6 = fun _ => 1#1) :
    Good (at2 a0) (at2 a1) (at2 a2) (at2 a3) (at1 a4) := by
  have e0 := congrFun e (fun k => k.elim0)
  unfold fn fn_part1 at e0
  obtain ⟨e1, hd⟩ := IntOp.andi_eq_one.1 e0
  obtain ⟨e2, hb⟩ := IntOp.andi_eq_one.1 e1
  obtain ⟨e3, hw⟩ := IntOp.andi_eq_one.1 e2
  obtain ⟨e4, h2⟩ := IntOp.andi_eq_one.1 e3
  obtain ⟨h0, h1⟩ := IntOp.andi_eq_one.1 e4
  constructor
  · refine fun r c hc => fin_at2 _ _ _ fun hr _ => ?_
    have := fin_of_lt _ (Host.reduce_andi_all _ _ _ _ _ h0 (ix2 ⟨r, hr⟩ ⟨c, hc⟩))
    exact (left0_at a0 ⟨r, hr⟩ ⟨c, hc⟩) ▸ this
  · refine fun r c hc => fin_at2 _ _ _ fun hr _ => ?_
    have := fin_of_lt _ (Host.reduce_andi_all _ _ _ _ _ h1 (ix2 ⟨r, hr⟩ ⟨c, hc⟩))
    exact (left_at a1 ⟨r, hr⟩ ⟨c, hc⟩) ▸ this
  · refine fun r c hc => fin_at2 _ _ _ fun hr _ => ?_
    have := fin_of_lt _ (Host.reduce_andi_all _ _ _ _ _ h2 (ix2 ⟨r, hr⟩ ⟨c, hc⟩))
    exact (left_at a2 ⟨r, hr⟩ ⟨c, hc⟩) ▸ this
  · exact fun r c => fin_at2 _ _ _ fun hr hc => fin_of_lt _ (Host.reduce_andi_all _ _ _ _ _ hw (ix2 ⟨r, hr⟩ ⟨c, hc⟩))
  · exact fun c => fin_at1 _ _ fun hc => fin_of_lt _ (Host.reduce_andi_all _ _ _ _ _ hb (ix1 ⟨c, hc⟩))
  · intro b k s l h hb' hk hh hsl hl
    have key : ∀ s, s + 1 < 64 → at2 a2 (b * 4096 + (64 * k + (s + 1))) h ≤ at2 a2 (b * 4096 + (64 * k + s)) h := fun s hs => by
      have hle := le_of_cmp _ _ (Host.reduce_andi_all _ _ _ _ _ hd (ix3 ⟨b * 64 + k, by omega⟩ ⟨s, by omega⟩ ⟨h, hh⟩))
      have r1 := row1_at a2 ⟨b * 64 + k, by omega⟩ ⟨s, by omega⟩ ⟨h, hh⟩
      have r0 := row0_at a2 ⟨b * 64 + k, by omega⟩ ⟨s, by omega⟩ ⟨h, hh⟩
      rw [show b * 4096 + (64 * k + (s + 1)) = (b * 64 + k) * 64 + (s + 1) by omega, show b * 4096 + (64 * k + s) = (b * 64 + k) * 64 + s by omega]
      exact (r1.symm.trans_le hle).trans_eq r0
    obtain ⟨d, rfl⟩ := Nat.exists_eq_add_of_le hsl
    exact le_of_steps (fun s => at2 a2 (b * 4096 + (64 * k + s)) h) 64 key s d hl

end Cert.Pre_finite_decaying.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Reference6Ideal
public import proofs.«01_k».proof.Proof.Gen.Reference6Ideal.Run
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_finite_decaying
public import Idealize.ShloMosaic.Adequacy
public import Idealize.ShloMosaic.Init
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import Idealize.ShloMosaic.Lib.Quiescent
public import proofs.«01_k».proof.Proof.MergeVal
public import proofs.«01_k».proof.Proof.GateUpVal
public import proofs.«01_k».proof.Proof.InProjVal
public import proofs.«01_k».proof.Proof.DownVal
public import proofs.«01_k».proof.Proof.MixoutVal
public import proofs.«01_k».proof.Proof.AdalnVal
public import proofs.«01_k».proof.Proof.NormModVal
public import proofs.«01_k».proof.Proof.SmallVal
public import proofs.«01_k».proof.Proof.SsdVal
public import proofs.«01_k».proof.Proof.RefLoop
public import proofs.«01_k».proof.Proof.PreVal

@[expose] public section
set_option maxRecDepth 16384
noncomputable section

namespace Cert.Proof

open Idealize.ShloMosaic Idealize.SL.Sem

/-! ## The references end with every counter at zero: their signatures declare no semaphore -/

theorem quiescent : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

theorem quiescent2 : Cert.quiescent_Reference2Ideal (hReference2Ideal := Cert.Reference2Ideal.Gen.facts) := fun m g _ =>
  (θ_run _ _ _).mono (fun r h => ⟨fun c => (h c).2, sem_eq_zero_of_no_sems rfl r.2⟩) (Cert.Reference2Ideal.Value.run m g)

theorem quiescent3 : Cert.quiescent_Reference3Ideal (hReference3Ideal := Cert.Reference3Ideal.Gen.facts) := fun m g _ =>
  (θ_run _ _ _).mono (fun r h => ⟨fun c => (h c).2, sem_eq_zero_of_no_sems rfl r.2⟩) (Cert.Reference3Ideal.Value.run m g)

theorem quiescent4 : Cert.quiescent_Reference4Ideal (hReference4Ideal := Cert.Reference4Ideal.Gen.facts) := fun m g _ =>
  (θ_run _ _ _).mono (fun r h => ⟨fun c => (h c).2, sem_eq_zero_of_no_sems rfl r.2⟩) (Cert.Reference4Ideal.Value.run m g)

theorem quiescent5 : Cert.quiescent_Reference5Ideal (hReference5Ideal := Cert.Reference5Ideal.Gen.facts) := fun m g _ =>
  (θ_run _ _ _).mono (fun r h => ⟨fun c => (h c).2, sem_eq_zero_of_no_sems rfl r.2⟩) (Cert.Reference5Ideal.Value.run m g)

theorem quiescent6 : Cert.quiescent_Reference6Ideal (hReference6Ideal := Cert.Reference6Ideal.Gen.facts) := fun m g _ =>
  (θ_run _ _ _).mono (fun r h => ⟨fun c => (h c).2.2, sem_eq_zero_of_no_sems rfl r.2⟩) (Cert.Reference6Ideal.Value.run m g)

theorem quiescent7 : Cert.quiescent_Reference7Ideal (hReference7Ideal := Cert.Reference7Ideal.Gen.facts) := fun m g _ =>
  (θ_run _ _ _).mono (fun r h => ⟨fun c => (h c).2, sem_eq_zero_of_no_sems rfl r.2⟩) (Cert.Reference7Ideal.Value.run m g)

theorem quiescent8 : Cert.quiescent_Reference8Ideal (hReference8Ideal := Cert.Reference8Ideal.Gen.facts) := fun m g _ =>
  (θ_run _ _ _).mono (fun r h => ⟨fun c => (h c).2, sem_eq_zero_of_no_sems rfl r.2⟩) (Cert.Reference8Ideal.Value.run m g)

theorem quiescent9 : Cert.quiescent_Reference9Ideal (hReference9Ideal := Cert.Reference9Ideal.Gen.facts) := fun m g _ =>
  (θ_run _ _ _).mono (fun r h => ⟨fun c => (h c).2, sem_eq_zero_of_no_sems rfl r.2⟩) (Cert.Reference9Ideal.Value.run m g)

/-! ## Kernel and reference compute the same function -/

theorem merge : Cert.algebraic_Kernel2Ideal_Reference2Ideal (hKernel2Ideal := Cert.Kernel2Ideal.Gen.facts) (hReference2Ideal := Cert.Reference2Ideal.Gen.facts) := by
  intro m g m' g' _ hm
  refine ⟨fun c => Cert.Reference2Ideal.Val.REF (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), ?_, ?_⟩
  · exact (θ_run _ _ _).mono (fun r h => fun c => ⟨(h c).1.trans (Cert.Kernel2Ideal.Val.final m c), (h c).2⟩) (Cert.Kernel2Ideal.Value.run_blocks m g)
  · refine (θ_run _ _ _).mono (fun r h c => ⟨(h c).1.trans ?_, (h c).2⟩) (Cert.Reference2Ideal.Value.run m' g')
    · obtain ⟨h0, h1, h2, h3, h4⟩ := hm c
      rw [h0, h1, h2, h3, h4]; rfl

theorem gateUp : Cert.algebraic_Kernel3Ideal_Reference3Ideal (hKernel3Ideal := Cert.Kernel3Ideal.Gen.facts) (hReference3Ideal := Cert.Reference3Ideal.Gen.facts) := by
  intro m g m' g' _ hm
  refine ⟨fun c => Cert.Reference3Ideal.Val.REF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact (θ_run _ _ _).mono (fun r h => fun c => h c) (Cert.Kernel3Ideal.Val.run m g)
  · refine (θ_run _ _ _).mono (fun r h c => ⟨(h c).1.trans ?_, (h c).2⟩) (Cert.Reference3Ideal.Value.run m' g')
    · obtain ⟨h0, h1⟩ := hm c
      rw [h0, h1]; rfl

theorem inProj : Cert.algebraic_Kernel4Ideal_Reference4Ideal (hKernel4Ideal := Cert.Kernel4Ideal.Gen.facts) (hReference4Ideal := Cert.Reference4Ideal.Gen.facts) := by
  intro m g m' g' _ hm
  refine ⟨fun c => Cert.Reference4Ideal.Val.REF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run _ _ _).mono (fun r h => fun c => h c) (Cert.Kernel4Ideal.Val.run m g)
  · refine (θ_run _ _ _).mono (fun r h c => ⟨(h c).1.trans ?_, (h c).2⟩) (Cert.Reference4Ideal.Value.run m' g')
    · obtain ⟨h0, h1⟩ := hm c
      rw [h0, h1]; rfl

theorem down : Cert.algebraic_Kernel5Ideal_Reference5Ideal (hKernel5Ideal := Cert.Kernel5Ideal.Gen.facts) (hReference5Ideal := Cert.Reference5Ideal.Gen.facts) := by
  intro m g m' g' _ hm
  refine ⟨fun c => Cert.Reference5Ideal.Val.REF (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), ?_, ?_⟩
  · exact (θ_run _ _ _).mono (fun r h => fun c => ⟨(h c).1.trans (Cert.Kernel5Ideal.Val.final m c), (h c).2⟩) (Cert.Kernel5Ideal.Value.run_blocks m g)
  · refine (θ_run _ _ _).mono (fun r h c => ⟨(h c).1.trans ?_, (h c).2⟩) (Cert.Reference5Ideal.Value.run m' g')
    · obtain ⟨h0, h1, h2, h3, h4⟩ := hm c
      rw [h0, h1, h2, h3, h4]; rfl

theorem mixout : Cert.algebraic_Kernel6Ideal_Reference6Ideal (hKernel6Ideal := Cert.Kernel6Ideal.Gen.facts) (hReference6Ideal := Cert.Reference6Ideal.Gen.facts) := by
  intro m g m' g' _ hm
  refine ⟨fun c => Cert.Reference6Ideal.Val.RES (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)), fun c => Cert.Reference6Ideal.Val.REF (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)), ?_, ?_⟩
  · exact (θ_run _ _ _).mono (fun r h => fun c => ⟨(h c).1.trans (Cert.Kernel6Ideal.Val.final_res m c), (h c).2.1.trans (Cert.Kernel6Ideal.Val.final m c), (h c).2.2⟩) (Cert.Kernel6Ideal.Value.run_blocks m g)
  · refine (θ_run _ _ _).mono (fun r h c => ⟨(h c).1.trans ?_, (h c).2.1.trans ?_, (h c).2.2⟩) (Cert.Reference6Ideal.Value.run m' g')
    · obtain ⟨h0, h1, h2, h3, _⟩ := hm c
      rw [h0, h1, h2, h3]; rfl
    · obtain ⟨h0, h1, h2, h3, h4⟩ := hm c
      rw [h0, h1, h2, h3, h4]; rfl

theorem adaln : Cert.algebraic_Kernel7Ideal_Reference7Ideal (hKernel7Ideal := Cert.Kernel7Ideal.Gen.facts) (hReference7Ideal := Cert.Reference7Ideal.Gen.facts) := by
  intro m g m' g' _ hm
  refine ⟨fun c => Cert.Reference7Ideal.Val.REF (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), ?_, ?_⟩
  · exact (θ_run _ _ _).mono (fun r h => fun c => ⟨(h c).1.trans (Cert.Kernel7Ideal.Val.final m c), (h c).2⟩) (Cert.Kernel7Ideal.Value.run_blocks m g)
  · refine (θ_run _ _ _).mono (fun r h c => ⟨(h c).1.trans ?_, (h c).2⟩) (Cert.Reference7Ideal.Value.run m' g')
    · obtain ⟨h0, h1, h2⟩ := hm c
      rw [h0, h1, h2]; rfl

theorem normMod : Cert.algebraic_Kernel8Ideal_Reference8Ideal (hKernel8Ideal := Cert.Kernel8Ideal.Gen.facts) (hReference8Ideal := Cert.Reference8Ideal.Gen.facts) := by
  intro m g m' g' _ hm
  refine ⟨fun c => Cert.Reference8Ideal.Val.REF (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)), ?_, ?_⟩
  · exact (θ_run _ _ _).mono (fun r h => fun c => ⟨(h c).1.trans (Cert.Kernel8Ideal.Val.final m c), (h c).2⟩) (Cert.Kernel8Ideal.Value.run_blocks m g)
  · refine (θ_run _ _ _).mono (fun r h c => ⟨(h c).1.trans ?_, (h c).2⟩) (Cert.Reference8Ideal.Value.run m' g')
    · obtain ⟨h0, h1, h2⟩ := hm c
      rw [h0, h1, h2]; rfl

theorem small : Cert.algebraic_Kernel9Ideal_Reference9Ideal (hKernel9Ideal := Cert.Kernel9Ideal.Gen.facts) (hReference9Ideal := Cert.Reference9Ideal.Gen.facts) := by
  intro m g m' g' _ hm
  refine ⟨fun c => Cert.Reference9Ideal.Val.REF (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · exact (θ_run _ _ _).mono (fun r h => fun c => ⟨(h c).1.trans (Cert.Kernel9Ideal.Val.final m c), (h c).2⟩) (Cert.Kernel9Ideal.Value.run_blocks m g)
  · refine (θ_run _ _ _).mono (fun r h c => ⟨(h c).1.trans ?_, (h c).2⟩) (Cert.Reference9Ideal.Value.run m' g')
    · obtain ⟨h0, h1⟩ := hm c
      rw [h0, h1]; rfl

theorem ssd : Cert.algebraic_KernelIdeal_ReferenceIdeal_pre_finite_decaying (hKernelIdeal := Cert.KernelIdeal.Gen.facts) (hReferenceIdeal := Cert.ReferenceIdeal.Gen.facts)
    (hPre_finite_decaying := Cert.Pre_finite_decaying.Gen.facts) := by
  intro m g m' g' pre hm
  have G : ∀ c : Dev Cert.KernelIdeal.nD, Cert.KernelIdeal.Val.GoodAt m c := fun c => Cert.Pre_finite_decaying.Val.good _ _ _ _ _ _ _ (pre c)
  refine ⟨fun c => Cert.KernelIdeal.Val.OUT m c, ?_, ?_⟩
  · exact Cert.KernelIdeal.Val.run m G g
  · refine (θ_run _ _ _).mono (fun r h c => ⟨(h c).1.trans ?_, (h c).2⟩)
      (Cert.ReferenceIdeal.Trip.run_iter m' g' (fun c => Cert.ReferenceIdeal.Val.it (Cert.ReferenceIdeal.Trip.initState m' c)) (fun _ => rfl) (fun _ _ => rfl))
    obtain ⟨h0, h1, h2, h3, h4, h5, h6⟩ := hm c
    refine (Cert.ReferenceIdeal.Val.R_eq _ _ _ _ _ _ _).trans ?_
    rw [h0, h1, h2, h3, h4, h5, h6]
    rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite_decaying.Gen.facts,
    fun m g _ => Cert.Kernel.Gen.frame m g,
    fun m g _ => Cert.KernelIdeal.Gen.frame m g,
    fun m g _ => Cert.KernelIdeal.Gen.frame m g,
    quiescent,
    fun m g _ => quiescent m g trivial,
    fun m g _ => Cert.Kernel2.Gen.frame m g,
    fun m g _ => Cert.Kernel2Ideal.Gen.frame m g,
    quiescent2,
    fun m g _ => Cert.Kernel3.Gen.frame m g,
    fun m g _ => Cert.Kernel3Ideal.Gen.frame m g,
    quiescent3,
    fun m g _ => Cert.Kernel4.Gen.frame m g,
    fun m g _ => Cert.Kernel4Ideal.Gen.frame m g,
    quiescent4,
    fun m g _ => Cert.Kernel5.Gen.frame m g,
    fun m g _ => Cert.Kernel5Ideal.Gen.frame m g,
    quiescent5,
    fun m g _ => Cert.Kernel6.Gen.frame m g,
    fun m g _ => Cert.Kernel6Ideal.Gen.frame m g,
    quiescent6,
    fun m g _ => Cert.Kernel7.Gen.frame m g,
    fun m g _ => Cert.Kernel7Ideal.Gen.frame m g,
    quiescent7,
    fun m g _ => Cert.Kernel8.Gen.frame m g,
    fun m g _ => Cert.Kernel8Ideal.Gen.frame m g,
    quiescent8,
    fun m g _ => Cert.Kernel9.Gen.frame m g,
    fun m g _ => Cert.Kernel9Ideal.Gen.frame m g,
    quiescent9,
    trivial, ssd, trivial, merge, trivial, gateUp, trivial, inProj, trivial, down, trivial, mixout, trivial, adaln, trivial, normMod, trivial, small⟩

end Cert.Proof

end
